-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def preserves_Ffn_FfnIdeal : Prop :=
  IdealRules.named_const.Statement Cert.FfnIdeal.κ "gelu_a_cube" .f32 0xBDD2D3E8#32 ((((-2) * ((Real.log 2)⁻¹ * (6693141 / 8388608))) * (12003091 / 268435456) : ℝ) : EReal)
  ∧ IdealRules.named_const.Statement Cert.FfnIdeal.κ "gelu_a" .f32 0xC0135761#32 (((-2) * ((Real.log 2)⁻¹ * (6693141 / 8388608)) : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v74) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Attn_AttnIdeal : Prop :=
  True

def algebraic_AttnIdeal_AttnReferenceIdeal_pre_finite [hAttnIdeal : Cert.AttnIdeal.Facts] [hAttnReferenceIdeal : Cert.AttnReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v31) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_3) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v18) = v0 c
          ∧ r.2.mem ((c.tc : Thread Cert.InProjReferenceIdeal.nD Cert.InProjReferenceIdeal.τ).loc Cert.InProjReferenceIdeal.main_v20) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v17) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def Claim : Prop :=
  ∃ (hFfn : Cert.Ffn.Facts) (hFfnIdeal : Cert.FfnIdeal.Facts) (hFfnReferenceIdeal : Cert.FfnReferenceIdeal.Facts) (hAttn : Cert.Attn.Facts) (hAttnIdeal : Cert.AttnIdeal.Facts) (hAttnReferenceIdeal : Cert.AttnReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hPre_finite : Cert.Pre_finite.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ preserves_Ffn_FfnIdeal
    ∧ algebraic_FfnIdeal_FfnReferenceIdeal (hFfnIdeal := hFfnIdeal) (hFfnReferenceIdeal := hFfnReferenceIdeal)
    ∧ preserves_Attn_AttnIdeal
    ∧ algebraic_AttnIdeal_AttnReferenceIdeal_pre_finite (hAttnIdeal := hAttnIdeal) (hAttnReferenceIdeal := hAttnReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
-- ==== Pre_finite.lean ====
abbrev S16384x1536 : Shape := ⟨2, ![16384, 1536]⟩
abbrev S16384x768 : Shape := ⟨2, ![16384, 768]⟩
abbrev S_ : Shape := ⟨0, ![]⟩

class Facts : Prop where
  bcast_S_S16384x1536 : S_.BroadcastsInDim S16384x1536 (![] : Fin 0 → Fin S16384x1536.rank)

variable [Facts]

def fn {F : FTy → Type} [FloatOps F] (main_arg0 : FVec F S16384x1536 .bf16) (main_arg1 : FVec F S16384x1536 .bf16) (main_arg2 : FVec F S16384x768 .bf16) : IVec S16384x1536 1 :=
  let main_v0 : FVec F S16384x1536 .bf16 := Host.absf main_arg0
  let main_cst : FVec F S_ .bf16 := constant S_ .bf16 0x7F80#16
  let main_v1 : FVec F S16384x1536 .bf16 := broadcastInDim S16384x1536 ![] bcast_S_S16384x1536 main_cst
  let main_v2 : IVec S16384x1536 1 := cmpf .olt main_v0 main_v1
  let main_v3 : FVec F S16384x1536 .bf16 := Host.absf main_arg1
  let main_cst_0 : FVec F S_ .bf16 := constant S_ .bf16 0x7F80#16
  let main_v4 : FVec F S16384x1536 .bf16 := broadcastInDim S16384x1536 ![] bcast_S_S16384x1536 main_cst_0
  let main_v5 : IVec S16384x1536 1 := cmpf .olt main_v3 main_v4
  let main_v6 : IVec S16384x1536 1 := andi main_v2 main_v5
  main_v6
-- ==== Ffn.lean ====
abbrev S4x4096x1024 : Shape := ⟨3, ![4, 4096, 1024]⟩
abbrev S1x1024 : Shape := ⟨2, ![1, 1024]⟩
abbrev S1x1024x8192 : Shape := ⟨3, ![1, 1024, 8192]⟩
abbrev S1x3x1x8192 : Shape := ⟨4, ![1, 3, 1, 8192]⟩
abbrev S1x8192 : Shape := ⟨2, ![1, 8192]⟩
abbrev S1x4096x1024 : Shape := ⟨3, ![1, 4096, 1024]⟩
abbrev S16384x1024 : Shape := ⟨2, ![16384, 1024]⟩
abbrev S1024 : Shape := ⟨1, ![1024]⟩
abbrev S1024x8192 : Shape := ⟨2, ![1024, 8192]⟩
abbrev S3x1x8192 : Shape := ⟨3, ![3, 1, 8192]⟩
abbrev S3x8192 : Shape := ⟨2, ![3, 8192]⟩
abbrev S8192 : Shape := ⟨1, ![8192]⟩
abbrev S4096x1024 : Shape := ⟨2, ![4096, 1024]⟩
abbrev S512x1024 : Shape := ⟨2, ![512, 1024]⟩
abbrev S1x2x8x4096 : Shape := ⟨4, ![1, 2, 8, 4096]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S1x1x8x4096 : Shape := ⟨4, ![1, 1, 8, 4096]⟩
abbrev S8x4096 : Shape := ⟨2, ![8, 4096]⟩
abbrev S16x4096 : Shape := ⟨2, ![16, 4096]⟩
abbrev S1x4096 : Shape := ⟨2, ![1, 4096]⟩
abbrev S504x4096 : Shape := ⟨2, ![504, 4096]⟩

abbrev nBuf : Space → Nat
  | .hbm => 21
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024, .f32⟩
  | .hbm, ⟨3, _⟩ => ⟨S1x1024x8192, .f32⟩
  | .hbm, ⟨4, _⟩ => ⟨S1x3x1x8192, .f32⟩
  | .hbm, ⟨5, _⟩ => ⟨S1x8192, .f32⟩
  | .hbm, ⟨6, _⟩ => ⟨S1x4096x1024, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x8192, .f32⟩
  | .hbm, ⟨11, _⟩ => ⟨S1024x8192, .bf16⟩
  | .hbm, ⟨12, _⟩ => ⟨S3x1x8192, .f32⟩
  | .hbm, ⟨13, _⟩ => ⟨S3x8192, .f32⟩
  | .hbm, ⟨14, _⟩ => ⟨S8192, .f32⟩
  | .hbm, ⟨15, _⟩ => ⟨S1x8192, .f32⟩
  | .hbm, ⟨16, _⟩ => ⟨S4096x1024, .f32⟩
  | .hbm, ⟨17, _⟩ => ⟨S4096x1024, .bf16⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S3x8192, .f32⟩
  | .local _ .vmem, ⟨5, _⟩ => ⟨S1x8192, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x2x8x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnIdeal.lean ====
variable {F : FTy → Type} [FloatOps F] [Named F]
def κ : String → Option EReal := fun
  | "gelu_a" => some (((-2) * ((Real.log 2)⁻¹ * (6693141 / 8388608)) : ℝ) : EReal)
  | "gelu_a_cube" => some ((((-2) * ((Real.log 2)⁻¹ * (6693141 / 8388608))) * (12003091 / 268435456) : ℝ) : EReal)
  | _ => none
-- ==== FfnReferenceIdeal.lean ====
abbrev S4x4096x1024 : Shape := ⟨3, ![4, 4096, 1024]⟩
abbrev S1x1024 : Shape := ⟨2, ![1, 1024]⟩
abbrev S1x1024x8192 : Shape := ⟨3, ![1, 1024, 8192]⟩
abbrev S1x3x1x8192 : Shape := ⟨4, ![1, 3, 1, 8192]⟩
abbrev S1x8192 : Shape := ⟨2, ![1, 8192]⟩
abbrev S1x4096x1024 : Shape := ⟨3, ![1, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x8192 : Shape := ⟨2, ![1024, 8192]⟩
abbrev S4x4096x8192 : Shape := ⟨3, ![4, 4096, 8192]⟩
abbrev S4x4098x8192 : Shape := ⟨3, ![4, 4098, 8192]⟩
abbrev S8192 : Shape := ⟨1, ![8192]⟩
abbrev S1x1x1x8192 : Shape := ⟨4, ![1, 1, 1, 8192]⟩
abbrev S1x1x8192 : Shape := ⟨3, ![1, 1, 8192]⟩
abbrev S4x4096x4096 : Shape := ⟨3, ![4, 4096, 4096]⟩
abbrev S4096x1024 : Shape := ⟨2, ![4096, 1024]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024, .f32⟩
  | .hbm, ⟨3, _⟩ => ⟨S1x1024x8192, .f32⟩
  | .hbm, ⟨4, _⟩ => ⟨S1x3x1x8192, .f32⟩
  | .hbm, ⟨5, _⟩ => ⟨S1x8192, .f32⟩
  | .hbm, ⟨6, _⟩ => ⟨S1x4096x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1024x8192, .f32⟩
  | .hbm, ⟨25, _⟩ => ⟨S4x4096x8192, .f32⟩
  | .hbm, ⟨26, _⟩ => ⟨S_, .i32⟩
  | .hbm, ⟨27, _⟩ => ⟨S_, .f32⟩
  | .hbm, ⟨28, _⟩ => ⟨S4x4098x8192, .f32⟩
  | .hbm, ⟨29, _⟩ => ⟨S8192, .f32⟩
  | .hbm, ⟨30, _⟩ => ⟨S4x4096x8192, .f32⟩
  | .hbm, ⟨31, _⟩ => ⟨S1x1x1x8192, .f32⟩
  | .hbm, ⟨32, _⟩ => ⟨S8192, .f32⟩
  | .hbm, ⟨33, _⟩ => ⟨S1x1x8192, .f32⟩
  | .hbm, ⟨34, _⟩ => ⟨S4x4096x8192, .f32⟩
  | .hbm, ⟨35, _⟩ => ⟨S4x4096x8192, .f32⟩
  | .hbm, ⟨36, _⟩ => ⟨S1x1x8192, .f32⟩
  | .hbm, ⟨37, _⟩ => ⟨S4x4096x8192, .f32⟩
  | .hbm, ⟨38, _⟩ => ⟨S4x4096x8192, .f32⟩
  | .hbm, ⟨39, _⟩ => ⟨S4x4096x8192, .f32⟩
  | .hbm, ⟨40, _⟩ => ⟨S1x1x1x8192, .f32⟩
  | .hbm, ⟨41, _⟩ => ⟨S8192, .f32⟩
  | .hbm, ⟨42, _⟩ => ⟨S1x1x8192, .f32⟩
  | .hbm, ⟨43, _⟩ => ⟨S4x4096x8192, .f32⟩
  | .hbm, ⟨44, _⟩ => ⟨S4x4096x8192, .f32⟩
  | .hbm, ⟨45, _⟩ => ⟨S4x4096x8192, .f32⟩
  | .hbm, ⟨46, _⟩ => ⟨S4x4096x8192, .f32⟩
  | .hbm, ⟨47, _⟩ => ⟨S1x1x1x8192, .f32⟩
  | .hbm, ⟨48, _⟩ => ⟨S8192, .f32⟩
  | .hbm, ⟨49, _⟩ => ⟨S1x1x8192, .f32⟩
  | .hbm, ⟨50, _⟩ => ⟨S4x4096x8192, .f32⟩
  | .hbm, ⟨51, _⟩ => ⟨S4x4096x8192, .f32⟩
  | .hbm, ⟨52, _⟩ => ⟨S4x4096x8192, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096x4096, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S4096x1024, .f32⟩
  | .hbm, ⟨74, _⟩ => ⟨S4x4096x1024, .f32⟩
  | .hbm, ⟨75, _⟩ => ⟨S1024, .f32⟩
  | .hbm, ⟨76, _⟩ => ⟨S4x4096x1024, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Attn.lean ====
abbrev S16384x1536 : Shape := ⟨2, ![16384, 1536]⟩
abbrev S16384x768 : Shape := ⟨2, ![16384, 768]⟩
abbrev S2048x256 : Shape := ⟨2, ![2048, 256]⟩
abbrev S4096x256 : Shape := ⟨2, ![4096, 256]⟩
abbrev S4096x128 : Shape := ⟨2, ![4096, 128]⟩
abbrev S2048x128 : Shape := ⟨2, ![2048, 128]⟩
abbrev S4x2x512x128 : Shape := ⟨4, ![4, 2, 512, 128]⟩
abbrev S4x512x256 : Shape := ⟨3, ![4, 512, 256]⟩
abbrev S4x3x2x512x512 : Shape := ⟨5, ![4, 3, 2, 512, 512]⟩
abbrev S512x256 : Shape := ⟨2, ![512, 256]⟩
abbrev S512x128 : Shape := ⟨2, ![512, 128]⟩
abbrev S256x128 : Shape := ⟨2, ![256, 128]⟩
abbrev S256x256 : Shape := ⟨2, ![256, 256]⟩
abbrev S1x3x2x512x512 : Shape := ⟨5, ![1, 3, 2, 512, 512]⟩
abbrev S3x2x512x512 : Shape := ⟨4, ![3, 2, 512, 512]⟩
abbrev S1x1x256x256 : Shape := ⟨4, ![1, 1, 256, 256]⟩
abbrev S256x512 : Shape := ⟨2, ![256, 512]⟩
abbrev S1x1x256x512 : Shape := ⟨4, ![1, 1, 256, 512]⟩
abbrev S128x128 : Shape := ⟨2, ![128, 128]⟩
abbrev S1x1x512x512 : Shape := ⟨4, ![1, 1, 512, 512]⟩
abbrev S512x512 : Shape := ⟨2, ![512, 512]⟩
abbrev S384x128 : Shape := ⟨2, ![384, 128]⟩
abbrev S512 : Shape := ⟨1, ![512]⟩
abbrev S512x1 : Shape := ⟨2, ![512, 1]⟩
abbrev S1x2x512x128 : Shape := ⟨4, ![1, 2, 512, 128]⟩
abbrev S2x512x128 : Shape := ⟨3, ![2, 512, 128]⟩
abbrev S1x512x128 : Shape := ⟨3, ![1, 512, 128]⟩
abbrev S1x512x256 : Shape := ⟨3, ![1, 512, 256]⟩

abbrev nBuf : Space → Nat
  | .hbm => 4
  | .vmem => 15
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x768, .bf16⟩
  | .hbm, ⟨3, _⟩ => ⟨S16384x768, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S4096x256, .bf16⟩
  | .local _ .vmem, ⟨5, _⟩ => ⟨S4096x256, .bf16⟩
  | .local _ .vmem, ⟨6, _⟩ => ⟨S4096x128, .bf16⟩
  | .local _ .vmem, ⟨7, _⟩ => ⟨S4096x128, .bf16⟩
  | .local _ .vmem, ⟨8, _⟩ => ⟨S2048x128, .bf16⟩
  | .local _ .vmem, ⟨9, _⟩ => ⟨S2048x128, .bf16⟩
  | .local _ .vmem, ⟨10, _⟩ => ⟨S4x2x512x128, .f32⟩
  | .local _ .vmem, ⟨11, _⟩ => ⟨S4x512x256, .f32⟩
  | .local _ .vmem, ⟨12, _⟩ => ⟨S4096x256, .bf16⟩
  | .local _ .vmem, ⟨13, _⟩ => ⟨S4096x256, .bf16⟩
  | .local _ .vmem, ⟨14, _⟩ => ⟨S4x3x2x512x512, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 6, 2], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_0 : BitVec 32 := 0#32
  let v8 : BitVec 1 := Scalar.cmpi .ne v7 c0_i32_0
  v8

def k0_cond2 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_1 : BitVec 32 := 0#32
  let v11 : BitVec 1 := Scalar.cmpi .ne v10 c0_i32_1
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.addi arg2 c1_i32
  let c1_i32_0 : BitVec 32 := 1#32
  let v2 : BitVec 32 := Scalar.minsi v1 c1_i32_0
  let v3 : BitVec 32 := Scalar.addi v0 v2
  let c0_i32 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnReferenceIdeal.lean ====
abbrev S16384x1536 : Shape := ⟨2, ![16384, 1536]⟩
abbrev S16384x768 : Shape := ⟨2, ![16384, 768]⟩
abbrev S4x4096x12x128 : Shape := ⟨4, ![4, 4096, 12, 128]⟩
abbrev S4x4096x12x64 : Shape := ⟨4, ![4, 4096, 12, 64]⟩
abbrev S4x12x4096x4096 : Shape := ⟨4, ![4, 12, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x12x4096 : Shape := ⟨3, ![4, 12, 4096]⟩
abbrev S4x12x4096x1 : Shape := ⟨4, ![4, 12, 4096, 1]⟩
abbrev S4x12x64x4096 : Shape := ⟨4, ![4, 12, 64, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x768, .bf16⟩
  | .hbm, ⟨3, _⟩ => ⟨S4x4096x12x128, .bf16⟩
  | .hbm, ⟨4, _⟩ => ⟨S4x4096x12x128, .bf16⟩
  | .hbm, ⟨5, _⟩ => ⟨S4x4096x12x64, .bf16⟩
  | .hbm, ⟨6, _⟩ => ⟨S4x12x4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x12x4096x4096, .f32⟩
  | .hbm, ⟨11, _⟩ => ⟨S4x12x4096x4096, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x12x4096x4096, .i1⟩
  | .hbm, ⟨22, _⟩ => ⟨S4x12x4096x4096, .f32⟩
  | .hbm, ⟨23, _⟩ => ⟨S4x12x4096x4096, .f32⟩
  | .hbm, ⟨24, _⟩ => ⟨S_, .f32⟩
  | .hbm, ⟨25, _⟩ => ⟨S4x12x4096, .f32⟩
  | .hbm, ⟨26, _⟩ => ⟨S_, .f32⟩
  | .hbm, ⟨27, _⟩ => ⟨S4x12x4096, .f32⟩
  | .hbm, ⟨28, _⟩ => ⟨S4x12x4096, .f32⟩
  | .hbm, ⟨29, _⟩ => ⟨S4x12x4096x1, .f32⟩
  | .hbm, ⟨30, _⟩ => ⟨S4x12x4096x4096, .f32⟩
  | .hbm, ⟨31, _⟩ => ⟨S4x12x4096x4096, .f32⟩
  | .hbm, ⟨32, _⟩ => ⟨S4x12x4096x4096, .f32⟩
  | .hbm, ⟨33, _⟩ => ⟨S_, .f32⟩
  | .hbm, ⟨34, _⟩ => ⟨S4x12x4096, .f32⟩
  | .hbm, ⟨35, _⟩ => ⟨S4x12x4096x1, .f32⟩
  | .hbm, ⟨36, _⟩ => ⟨S4x12x4096x4096, .f32⟩
  | .hbm, ⟨37, _⟩ => ⟨S4x12x4096x4096, .f32⟩
  | .hbm, ⟨38, _⟩ => ⟨S4x12x4096x4096, .bf16⟩
  | .hbm, ⟨39, _⟩ => ⟨S4x12x64x4096, .f32⟩
  | .hbm, ⟨40, _⟩ => ⟨S4x4096x12x64, .f32⟩
  | .hbm, ⟨41, _⟩ => ⟨S16384x768, .f32⟩
  | .hbm, ⟨42, _⟩ => ⟨S16384x768, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== InProj.lean ====
abbrev S4x4096x1024 : Shape := ⟨3, ![4, 4096, 1024]⟩
abbrev S1x1024 : Shape := ⟨2, ![1, 1024]⟩
abbrev S1x1024x2572 : Shape := ⟨3, ![1, 1024, 2572]⟩
abbrev S1x12 : Shape := ⟨2, ![1, 12]⟩
abbrev S384x256 : Shape := ⟨2, ![384, 256]⟩
abbrev S8x256 : Shape := ⟨2, ![8, 256]⟩
abbrev S12 : Shape := ⟨1, ![12]⟩
abbrev S_ : Shape := ⟨0, ![]⟩
abbrev S128 : Shape := ⟨1, ![128]⟩
abbrev S1x128 : Shape := ⟨2, ![1, 128]⟩
abbrev S16384x1024 : Shape := ⟨2, ![16384, 1024]⟩
abbrev S1024 : Shape := ⟨1, ![1024]⟩
abbrev S1x2572x1024 : Shape := ⟨3, ![1, 2572, 1024]⟩
abbrev S16384x256 : Shape := ⟨2, ![16384, 256]⟩
abbrev S16384x1536 : Shape := ⟨2, ![16384, 1536]⟩
abbrev S16384x768 : Shape := ⟨2, ![16384, 768]⟩
abbrev S1024x1024 : Shape := ⟨2, ![1024, 1024]⟩
abbrev S1024x256 : Shape := ⟨2, ![1024, 256]⟩
abbrev S1024x1536 : Shape := ⟨2, ![1024, 1536]⟩
abbrev S1024x768 : Shape := ⟨2, ![1024, 768]⟩
abbrev S1024x2560 : Shape := ⟨2, ![1024, 2560]⟩
abbrev S128x1024 : Shape := ⟨2, ![128, 1024]⟩
abbrev S1x256x1024 : Shape := ⟨3, ![1, 256, 1024]⟩
abbrev S256x1024 : Shape := ⟨2, ![256, 1024]⟩
abbrev S1x12x1024 : Shape := ⟨3, ![1, 12, 1024]⟩
abbrev S12x1024 : Shape := ⟨2, ![12, 1024]⟩
abbrev S1024x1 : Shape := ⟨2, ![1024, 1]⟩
abbrev S1024x128 : Shape := ⟨2, ![1024, 128]⟩
abbrev S1024x384 : Shape := ⟨2, ![1024, 384]⟩
abbrev S1x256 : Shape := ⟨2, ![1, 256]⟩

abbrev nBuf : Space → Nat
  | .hbm => 19
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2572, .f32⟩
  | .hbm, ⟨3, _⟩ => ⟨S1x12, .f32⟩
  | .hbm, ⟨4, _⟩ => ⟨S384x256, .bf16⟩
  | .hbm, ⟨5, _⟩ => ⟨S8x256, .f32⟩
  | .hbm, ⟨6, _⟩ => ⟨S12, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S1x2572x1024, .f32⟩
  | .hbm, ⟨15, _⟩ => ⟨S16384x256, .f32⟩
  | .hbm, ⟨16, _⟩ => ⟨S16384x1536, .bf16⟩
  | .hbm, ⟨17, _⟩ => ⟨S16384x1536, .bf16⟩
  | .hbm, ⟨18, _⟩ => ⟨S16384x768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x2572x1024, .f32⟩
  | .local _ .vmem, ⟨4, _⟩ => ⟨S1x128, .f32⟩
  | .local _ .vmem, ⟨5, _⟩ => ⟨S384x256, .bf16⟩
  | .local _ .vmem, ⟨6, _⟩ => ⟨S8x256, .f32⟩
  | .local _ .vmem, ⟨7, _⟩ => ⟨S1024x256, .f32⟩
  | .local _ .vmem, ⟨8, _⟩ => ⟨S1024x256, .f32⟩
  | .local _ .vmem, ⟨9, _⟩ => ⟨S1024x1536, .bf16⟩
  | .local _ .vmem, ⟨10, _⟩ => ⟨S1024x1536, .bf16⟩
  | .local _ .vmem, ⟨11, _⟩ => ⟨S1024x1536, .bf16⟩
  | .local _ .vmem, ⟨12, _⟩ => ⟨S1024x1536, .bf16⟩
  | .local _ .vmem, ⟨13, _⟩ => ⟨S1024x768, .bf16⟩
  | .local _ .vmem, ⟨14, _⟩ => ⟨S1024x768, .bf16⟩
  | .local _ .vmem, ⟨15, _⟩ => ⟨S1x128, .f32⟩
  | .local _ .vmem, ⟨16, _⟩ => ⟨S1024x2560, .bf16⟩
  | .local _ .vmem, ⟨17, _⟩ => ⟨S128x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2572x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjReferenceIdeal.lean ====
abbrev S4x4096x1024 : Shape := ⟨3, ![4, 4096, 1024]⟩
abbrev S1x1024 : Shape := ⟨2, ![1, 1024]⟩
abbrev S1x1024x2572 : Shape := ⟨3, ![1, 1024, 2572]⟩
abbrev S1x12 : Shape := ⟨2, ![1, 12]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2572 : Shape := ⟨2, ![1024, 2572]⟩
abbrev S4x4096x2572 : Shape := ⟨3, ![4, 4096, 2572]⟩
abbrev S4x4096x256 : Shape := ⟨3, ![4, 4096, 256]⟩
abbrev S4x4096x768 : Shape := ⟨3, ![4, 4096, 768]⟩
abbrev S16384x256 : Shape := ⟨2, ![16384, 256]⟩
abbrev S16384x768 : Shape := ⟨2, ![16384, 768]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2572, .f32⟩
  | .hbm, ⟨3, _⟩ => ⟨S1x12, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x2572, .f32⟩
  | .hbm, ⟨22, _⟩ => ⟨S4x4096x2572, .f32⟩
  | .hbm, ⟨23, _⟩ => ⟨S4x4096x256, .f32⟩
  | .hbm, ⟨24, _⟩ => ⟨S4x4096x768, .f32⟩
  | .hbm, ⟨25, _⟩ => ⟨S16384x256, .f32⟩
  | .hbm, ⟨26, _⟩ => ⟨S16384x768, .f32⟩
  | .hbm, ⟨27, _⟩ => ⟨S16384x768, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MemKv.lean ====
abbrev S4x256x1024 : Shape := ⟨3, ![4, 256, 1024]⟩
abbrev S1x1024 : Shape := ⟨2, ![1, 1024]⟩
abbrev S1x1024x2048 : Shape := ⟨3, ![1, 1024, 2048]⟩
abbrev S1024x1024 : Shape := ⟨2, ![1024, 1024]⟩
abbrev S1024 : Shape := ⟨1, ![1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x2048, .f32⟩
  | .local _ .vmem, ⟨4, _⟩ => ⟨S256x2048, .bf16⟩
  | .local _ .vmem, ⟨5, _⟩ => ⟨S256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvReferenceIdeal.lean ====
abbrev S4x256x1024 : Shape := ⟨3, ![4, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩
abbrev S4x256x2048 : Shape := ⟨3, ![4, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x2048, .f32⟩
  | .hbm, ⟨21, _⟩ => ⟨S4x256x2048, .f32⟩
  | .hbm, ⟨22, _⟩ => ⟨S1024x2048, .f32⟩
  | .hbm, ⟨23, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Walk.lean ====
/- A program that only loads from some buffers and stores to some of them: what it
   leaves behind. A body whose steps all go through memrefs of a known set of buffers
   runs to its end, whatever it computes, and changes no buffer outside those it
   stores to. -/
module

public import Idealize.ShloMosaic.Lib.Pipeline.FrameBody
public import Idealize.ShloMosaic.Lib.Tactic

@[expose] public section

noncomputable section

namespace Cert.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

section Pred
variable {p : Proc τ} {α β : Type}

/-- Every step of the program is a load from a buffer of `R` or a store to one of `W`. -/
def Walks (R W : Ref sig p.kind → Prop) : Prog (TpuEff nD τ sig Val Λ p) α → Prop
  | .ret _ => True
  | .op (.load m r h) k => R m.view.ref ∧ ∀ x, Walks R W (k x)
  | .op (.store m r w M h hm) k => W m.view.ref ∧ ∀ x, Walks R W (k x)
  | _ => False

variable {R W : Ref sig p.kind → Prop}

theorem walks_pure (a : α) : Walks R W (pure a : Prog (TpuEff nD τ sig Val Λ p) α) := trivial

theorem walks_load {cs : CoreSpace} {s : Shape} {e : EltTy} {m : Memref sig p.kind cs s e} {r : LoadRect s} {h : m.view.LoadsAt r}
    {k : (r.shape.Idx → Val e) → Prog (TpuEff nD τ sig Val Λ p) α} (hm : R m.view.ref) (hk : ∀ x, Walks R W (k x)) :
    Walks R W (Prog.lift (.load m r h) >>= k) := ⟨hm, hk⟩

theorem walks_store {cs : CoreSpace} {s : Shape} {e : EltTy} {m : Memref sig p.kind cs s e} {r : Rect s} {w : r.shape.Idx → Val e}
    {M : Finset r.shape.Idx} {h : (m.access r).Stores M} {hM : M = Finset.univ ∨ ∀ a, r.stride a = 1}
    {k : PUnit → Prog (TpuEff nD τ sig Val Λ p) α} (hm : W m.view.ref) (hk : ∀ x, Walks R W (k x)) :
    Walks R W (Prog.lift (.store m r w M h hM) >>= k) := ⟨hm, hk⟩

theorem walks_bind {q : Prog (TpuEff nD τ sig Val Λ p) β} {k : β → Prog (TpuEff nD τ sig Val Λ p) α}
    (hq : Walks R W q) (hk : ∀ x, Walks R W (k x)) : Walks R W (q >>= k) := by
  induction q with
  | ret a => exact hk a
  | op e c ih =>
    cases e <;> first | exact hq.elim | exact ⟨hq.1, fun x => ih x (hq.2 x)⟩

theorem walks_dite {P : Prop} [Decidable P] {a : P → Prog (TpuEff nD τ sig Val Λ p) α} {b : ¬ P → Prog (TpuEff nD τ sig Val Λ p) α}
    (ha : ∀ h, Walks R W (a h)) (hb : ∀ h, Walks R W (b h)) : Walks R W (dite P a b) := by
  by_cases h : P
  · rw [dif_pos h]; exact ha h
  · rw [dif_neg h]; exact hb h

end Pred

section Sound
variable {Ix : Type} [DecidableEq Ix] {Name : Type} [DecidableEq Name] {U : Type} [URA U] {Lvl : Type} [Preorder Lvl]
  {defs : Defs nD τ sig Val Λ} (𝒱 : Variants) (c : Thread nD τ) (bd : Option 𝒱.V) {Γ : PendingWaitsCtx sig Ix} (E : Set Name)
  {α : Type}
local notation "𝕄" => MT nD τ sig Ix Val Name U Lvl

variable {sp : Space} {s : Shape} {e : EltTy}

/-- The buffer `b`, whole, at some contents of which `P` holds. -/
def cell (b : Ref sig c.2.kind) (P : Buf Val (c.loc b) → Prop) : sProp 𝕄 :=
  iprop(∃ f : Buf Val (c.loc b), ⌜P f⌝ ∗ (c.loc b ↦[Finset.univ]{fullShare} f))

theorem load_step {cs : CoreSpace} {m : Memref sig c.2.kind cs s e} {r : LoadRect s} {h : m.view.LoadsAt r}
    {k : (r.shape.Idx → Val e) → Prog (TpuEff nD τ sig Val Λ c.2) α} {b : Ref sig c.2.kind} (hb : b = m.view.ref)
    (P : Buf Val (c.loc b) → Prop) (H : sProp 𝕄) (Q : α → sProp 𝕄)
    (hk : ∀ x, iprop(cell c b P ∗ H) ⊢ wp frame (wpE' defs 𝒱 c bd Γ) E (k x) Q) :
    iprop(cell c b P ∗ H) ⊢ wp frame (wpE' defs 𝒱 c bd Γ) E (.op (.load m r h) k) Q := by
  subst hb
  unfold cell at hk ⊢
  iintro ⟨⟨%f, %hP, Hb⟩, H⟩
  have step := wp_load 𝒱 c bd E (m := m) (r := r) (hl := h) (k := k) (S := Finset.univ) (q := fullShare) (f := f) (defs := defs) (Γ := Γ) (Q := Q) (Finset.subset_univ _)
  iapply step $$ Hb
  iintro Hb
  iapply (hk (m.view.readAt Val r f))
  isplitl [Hb]
  · iexists f
    isplitr
    · ipureintro; exact hP
    iexact Hb
  iexact H

theorem store_step {cs : CoreSpace} {m : Memref sig c.2.kind cs s e} {r : Rect s} {w : r.shape.Idx → Val e}
    {M : Finset r.shape.Idx} {h : (m.access r).Stores M} {hM : M = Finset.univ ∨ ∀ a, r.stride a = 1}
    {k : PUnit → Prog (TpuEff nD τ sig Val Λ c.2) α} {b : Ref sig c.2.kind} (hb : b = m.view.ref)
    (P : Buf Val (c.loc b) → Prop) (hP : ∀ f, P f) (H : sProp 𝕄) (Q : α → sProp 𝕄)
    (hk : ∀ x, iprop(cell c b P ∗ H) ⊢ wp frame (wpE' defs 𝒱 c bd Γ) E (k x) Q) :
    iprop(cell c b P ∗ H) ⊢ wp frame (wpE' defs 𝒱 c bd Γ) E (.op (.store m r w M h hM) k) Q := by
  subst hb
  unfold cell at hk ⊢
  iintro ⟨⟨%f, %hPf, Hb⟩, H⟩
  have step := wp_store 𝒱 c bd E (m := m) (r := r) (w := w) (Mk := M) (hx := h) (hm := hM) (k := k) (S := (Finset.univ : Finset (Idx ((m.access r).loc c)))) (f := f) (defs := defs) (Γ := Γ) (Q := Q) (Finset.subset_univ ((m.access r).setOn M))
  iapply step $$ Hb
  iintro Hb
  iapply (hk ⟨⟩)
  isplitl [Hb]
  · iexists ((m.access r).write Val f w M)
    isplitr
    · ipureintro; exact hP _
    iexact Hb
  iexact H

variable {I : Type} [Fintype I] [DecidableEq I]

theorem split_univ (j : I) (Φ : I → sProp 𝕄) :
    bigSep Finset.univ Φ = iprop(Φ j ∗ bigSep (Finset.univ.erase j) Φ) := bigSep_univ_split j

/-- A walk over buffers held at contents of which `P` holds, `P` nothing on those it stores to, ends holding them so. -/
theorem wp_walk (refs : I → Ref sig c.2.kind) (P : (j : I) → Buf Val (c.loc (refs j)) → Prop) (W : I → Prop)
    (hW : ∀ j, W j → ∀ f, P j f) (p : Prog (TpuEff nD τ sig Val Λ c.2) α)
    (hp : Walks (fun b => ∃ j, refs j = b) (fun b => ∃ j, W j ∧ refs j = b) p) :
    (bigSep Finset.univ fun j => cell (Ix := Ix) (Name := Name) (U := U) (Lvl := Lvl) c (refs j) (P j))
      ⊢ wp frame (wpE' defs 𝒱 c bd Γ) E p
          (fun _ => bigSep Finset.univ fun j => cell (Ix := Ix) (Name := Name) (U := U) (Lvl := Lvl) c (refs j) (P j)) := by
  induction p with
  | ret a => rw [wp_ret]; exact fupd_intro
  | op e k ih =>
    cases e <;> try exact hp.elim
    case load cs s e m r h =>
      obtain ⟨⟨j, hj⟩, hk⟩ := hp
      rw [split_univ j]
      refine load_step 𝒱 c bd E hj _ _ _ fun x => ?_
      rw [← split_univ j (fun j => cell c (refs j) (P j))]
      exact ih x (hk x)
    case store cs s e m r w M h hM =>
      obtain ⟨⟨j, hj, hjb⟩, hk⟩ := hp
      rw [split_univ j]
      refine store_step 𝒱 c bd E hjb _ (hW j hj) _ _ fun x => ?_
      rw [← split_univ j (fun j => cell c (refs j) (P j))]
      exact ih x (hk x)

end Sound

end Cert.Walk

end
-- ==== Proof.AttnIdealWalk.lean ====
/- The attention's kernel body as a walk: every step of it loads from one of its ten
   buffers or stores to the output's staging buffer or a scratch buffer. One lemma for
   each part the body is printed in. -/
module

public import proofs.«01_k».proof.Proof.Gen.AttnIdeal.Frame
public import proofs.«01_k».proof.Proof.Walk

@[expose] public section

set_option maxRecDepth 16384

noncomputable section

namespace Cert.AttnIdeal.Run

open Idealize.ShloMosaic Idealize.ShloMosaic.TcCoe Idealize.ShloMosaic.Tactic
open Idealize.SL Idealize.SL.Sem
open Cert.Walk

variable {F : FTy → Type} [FloatOps F]

/-- The ten buffers may be loaded from, the last six stored to. -/
structure Ok (R W : Ref sig (Proc.tc : Proc τ).kind → Prop) (arg3 : Memref sig .tc .vmem S2048x256 .bf16) (arg4 : Memref sig .tc .vmem S2048x256 .bf16)
    (arg5 : Memref sig .tc .vmem S4096x256 .bf16) (arg6 : Memref sig .tc .vmem S4096x128 .bf16) (arg7 : Memref sig .tc .vmem S2048x128 .bf16)
    (arg8 : Memref sig .tc .vmem S4x2x512x128 .f32) (arg9 : Memref sig .tc .vmem S4x512x256 .f32) (arg10 : Memref sig .tc .vmem S4096x256 .bf16)
    (arg11 : Memref sig .tc .vmem S4096x256 .bf16) (arg12 : Memref sig .tc .vmem S4x3x2x512x512 .f32) : Prop where
  l3 : R arg3.view.ref
  l4 : R arg4.view.ref
  l5 : R arg5.view.ref
  l6 : R arg6.view.ref
  l7 : R arg7.view.ref
  l8 : R arg8.view.ref
  l9 : R arg9.view.ref
  l10 : R arg10.view.ref
  l11 : R arg11.view.ref
  l12 : R arg12.view.ref
  s7 : W arg7.view.ref
  s8 : W arg8.view.ref
  s9 : W arg9.view.ref
  s10 : W arg10.view.ref
  s11 : W arg11.view.ref
  s12 : W arg12.view.ref

variable {R W : Ref sig (Proc.tc : Proc τ).kind → Prop} {i : grid0.Coords} {arg3 : Memref sig .tc .vmem S2048x256 .bf16} {harg3 : arg3.IsWhole} {arg4 : Memref sig .tc .vmem S2048x256 .bf16} {harg4 : arg4.IsWhole}
  {arg5 : Memref sig .tc .vmem S4096x256 .bf16} {harg5 : arg5.IsWhole} {arg6 : Memref sig .tc .vmem S4096x128 .bf16} {harg6 : arg6.IsWhole} {arg7 : Memref sig .tc .vmem S2048x128 .bf16} {harg7 : arg7.IsWhole}
  {arg8 : Memref sig .tc .vmem S4x2x512x128 .f32} {harg8 : arg8.IsWhole} {arg9 : Memref sig .tc .vmem S4x512x256 .f32} {harg9 : arg9.IsWhole} {arg10 : Memref sig .tc .vmem S4096x256 .bf16} {harg10 : arg10.IsWhole}
  {arg11 : Memref sig .tc .vmem S4096x256 .bf16} {harg11 : arg11.IsWhole} {arg12 : Memref sig .tc .vmem S4x3x2x512x512 .f32} {harg12 : arg12.IsWhole}

theorem w1 (h : Ok R W arg3 arg4 arg5 arg6 arg7 arg8 arg9 arg10 arg11 arg12) : Walks R W (k0_part1 (F := F) i arg3 harg3 arg4 harg4 arg5 harg5 arg6 harg6 arg7 harg7 arg8 harg8 arg9 harg9 arg10 harg10 arg11 harg11 arg12 harg12) := by
  unfold k0_part1
  refine walks_load h.l6 fun _ => ?_
  refine walks_load h.l10 fun _ => ?_
  refine walks_store h.s10 fun _ => ?_
  refine walks_load h.l10 fun _ => ?_
  refine walks_store h.s10 fun _ => ?_
  refine walks_load h.l11 fun _ => ?_
  refine walks_store h.s11 fun _ => ?_
  refine walks_load h.l11 fun _ => ?_
  exact walks_pure _

theorem w2 (h : Ok R W arg3 arg4 arg5 arg6 arg7 arg8 arg9 arg10 arg11 arg12) : ∀ v48, Walks R W (k0_part2 (F := F) i arg3 harg3 arg4 harg4 arg5 harg5 arg6 harg6 arg7 harg7 arg8 harg8 arg9 harg9 arg10 harg10 arg11 harg11 arg12 harg12 v48) := by
  intro v48
  unfold k0_part2
  refine walks_store h.s11 fun _ => ?_
  refine walks_load h.l3 fun _ => ?_
  refine walks_load h.l5 fun _ => ?_
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  exact walks_pure _

theorem w3 (h : Ok R W arg3 arg4 arg5 arg6 arg7 arg8 arg9 arg10 arg11 arg12) : ∀ v68 v69 v72, Walks R W (k0_part3 (F := F) i arg3 harg3 arg4 harg4 arg5 harg5 arg6 harg6 arg7 harg7 arg8 harg8 arg9 harg9 arg10 harg10 arg11 harg11 arg12 harg12 v68 v69 v72) := by
  intro v68 v69 v72
  unfold k0_part3
  refine walks_load h.l12 fun _ => ?_
  refine walks_store h.s12 fun _ => ?_
  refine walks_load h.l12 fun _ => ?_
  refine walks_store h.s12 fun _ => ?_
  refine walks_load h.l12 fun _ => ?_
  exact walks_pure _

theorem w4 (h : Ok R W arg3 arg4 arg5 arg6 arg7 arg8 arg9 arg10 arg11 arg12) : ∀ v87 v94, Walks R W (k0_part4 (F := F) i arg3 harg3 arg4 harg4 arg5 harg5 arg6 harg6 arg7 harg7 arg8 harg8 arg9 harg9 arg10 harg10 arg11 harg11 arg12 harg12 v87 v94) := by
  intro v87 v94
  unfold k0_part4
  refine walks_load h.l12 fun _ => ?_
  refine walks_load h.l12 fun _ => ?_
  refine walks_load h.l12 fun _ => ?_
  exact walks_pure _

theorem w5 (h : Ok R W arg3 arg4 arg5 arg6 arg7 arg8 arg9 arg10 arg11 arg12) : ∀ v87 v100 v114 v115, Walks R W (k0_part5 (F := F) i arg3 harg3 arg4 harg4 arg5 harg5 arg6 harg6 arg7 harg7 arg8 harg8 arg9 harg9 arg10 harg10 arg11 harg11 arg12 harg12 v87 v100 v114 v115) := by
  intro v87 v100 v114 v115
  unfold k0_part5
  refine walks_load h.l12 fun _ => ?_
  refine walks_load h.l12 fun _ => ?_
  refine walks_load h.l12 fun _ => ?_
  exact walks_pure _

theorem w6 (h : Ok R W arg3 arg4 arg5 arg6 arg7 arg8 arg9 arg10 arg11 arg12) : ∀ v87 v114 v128 v137 v144 v146, Walks R W (k0_part6 (F := F) i arg3 harg3 arg4 harg4 arg5 harg5 arg6 harg6 arg7 harg7 arg8 harg8 arg9 harg9 arg10 harg10 arg11 harg11 arg12 harg12 v87 v114 v128 v137 v144 v146) := by
  intro v87 v114 v128 v137 v144 v146
  unfold k0_part6
  refine walks_load h.l8 fun _ => ?_
  refine walks_store h.s8 fun _ => ?_
  refine walks_load h.l12 fun _ => ?_
  exact walks_pure _

theorem w7 (h : Ok R W arg3 arg4 arg5 arg6 arg7 arg8 arg9 arg10 arg11 arg12) : ∀ v87 v178, Walks R W (k0_part7 (F := F) i arg3 harg3 arg4 harg4 arg5 harg5 arg6 harg6 arg7 harg7 arg8 harg8 arg9 harg9 arg10 harg10 arg11 harg11 arg12 harg12 v87 v178) := by
  intro v87 v178
  unfold k0_part7
  refine walks_load h.l12 fun _ => ?_
  refine walks_load h.l12 fun _ => ?_
  refine walks_load h.l12 fun _ => ?_
  exact walks_pure _

theorem w8 (h : Ok R W arg3 arg4 arg5 arg6 arg7 arg8 arg9 arg10 arg11 arg12) : ∀ v87 v184 v198 v199, Walks R W (k0_part8 (F := F) i arg3 harg3 arg4 harg4 arg5 harg5 arg6 harg6 arg7 harg7 arg8 harg8 arg9 harg9 arg10 harg10 arg11 harg11 arg12 harg12 v87 v184 v198 v199) := by
  intro v87 v184 v198 v199
  unfold k0_part8
  refine walks_load h.l12 fun _ => ?_
  refine walks_load h.l12 fun _ => ?_
  refine walks_load h.l12 fun _ => ?_
  exact walks_pure _

theorem w9 (h : Ok R W arg3 arg4 arg5 arg6 arg7 arg8 arg9 arg10 arg11 arg12) : ∀ v166 v198 v212 v221 v228 v230, Walks R W (k0_part9 (F := F) i arg3 harg3 arg4 harg4 arg5 harg5 arg6 harg6 arg7 harg7 arg8 harg8 arg9 harg9 arg10 harg10 arg11 harg11 arg12 harg12 v166 v198 v212 v221 v228 v230) := by
  intro v166 v198 v212 v221 v228 v230
  unfold k0_part9
  refine walks_load h.l8 fun _ => ?_
  refine walks_store h.s8 fun _ => ?_
  refine walks_load h.l10 fun _ => ?_
  refine walks_load h.l11 fun _ => ?_
  refine walks_load h.l9 fun _ => ?_
  refine walks_store h.s9 fun _ => ?_
  exact walks_pure _

theorem w10 (h : Ok R W arg3 arg4 arg5 arg6 arg7 arg8 arg9 arg10 arg11 arg12) : ∀ v166 v250, Walks R W (k0_part10 (F := F) i arg3 harg3 arg4 harg4 arg5 harg5 arg6 harg6 arg7 harg7 arg8 harg8 arg9 harg9 arg10 harg10 arg11 harg11 arg12 harg12 v166 v250) := by
  intro v166 v250
  unfold k0_part10
  refine walks_load h.l10 fun _ => ?_
  refine walks_load h.l11 fun _ => ?_
  refine walks_load h.l9 fun _ => ?_
  refine walks_store h.s9 fun _ => ?_
  refine walks_load h.l9 fun _ => ?_
  refine walks_load h.l7 fun _ => ?_
  refine walks_store h.s7 fun _ => ?_
  refine walks_load h.l3 fun _ => ?_
  refine walks_load h.l5 fun _ => ?_
  exact walks_pure _

theorem w11 (h : Ok R W arg3 arg4 arg5 arg6 arg7 arg8 arg9 arg10 arg11 arg12) : ∀ v297 v298 v301, Walks R W (k0_part11 (F := F) i arg3 harg3 arg4 harg4 arg5 harg5 arg6 harg6 arg7 harg7 arg8 harg8 arg9 harg9 arg10 harg10 arg11 harg11 arg12 harg12 v297 v298 v301) := by
  intro v297 v298 v301
  unfold k0_part11
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  refine walks_load h.l12 fun _ => ?_
  exact walks_pure _

theorem w12 (h : Ok R W arg3 arg4 arg5 arg6 arg7 arg8 arg9 arg10 arg11 arg12) : ∀ v315 v316 v324, Walks R W (k0_part12 (F := F) i arg3 harg3 arg4 harg4 arg5 harg5 arg6 harg6 arg7 harg7 arg8 harg8 arg9 harg9 arg10 harg10 arg11 harg11 arg12 harg12 v315 v316 v324) := by
  intro v315 v316 v324
  unfold k0_part12
  refine walks_store h.s12 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w13 (h : Ok R W arg3 arg4 arg5 arg6 arg7 arg8 arg9 arg10 arg11 arg12) : ∀ v344, Walks R W (k0_part13 (F := F) i arg3 harg3 arg4 harg4 arg5 harg5 arg6 harg6 arg7 harg7 arg8 harg8 arg9 harg9 arg10 harg10 arg11 harg11 arg12 harg12 v344) := by
  intro v344
  unfold k0_part13
  refine walks_load h.l12 fun _ => ?_
  refine walks_store h.s12 fun _ => ?_
  refine walks_load h.l12 fun _ => ?_
  refine walks_load h.l12 fun _ => ?_
  exact walks_pure _

theorem w14 (h : Ok R W arg3 arg4 arg5 arg6 arg7 arg8 arg9 arg10 arg11 arg12) : ∀ v352 v366, Walks R W (k0_part14 (F := F) i arg3 harg3 arg4 harg4 arg5 harg5 arg6 harg6 arg7 harg7 arg8 harg8 arg9 harg9 arg10 harg10 arg11 harg11 arg12 harg12 v352 v366) := by
  intro v352 v366
  unfold k0_part14
  refine walks_load h.l12 fun _ => ?_
  refine walks_load h.l12 fun _ => ?_
  refine walks_load h.l12 fun _ => ?_
  exact walks_pure _

theorem w15 (h : Ok R W arg3 arg4 arg5 arg6 arg7 arg8 arg9 arg10 arg11 arg12) : ∀ v352 v365 v379 v380 v387, Walks R W (k0_part15 (F := F) i arg3 harg3 arg4 harg4 arg5 harg5 arg6 harg6 arg7 harg7 arg8 harg8 arg9 harg9 arg10 harg10 arg11 harg11 arg12 harg12 v352 v365 v379 v380 v387) := by
  intro v352 v365 v379 v380 v387
  unfold k0_part15
  refine walks_load h.l12 fun _ => ?_
  refine walks_load h.l12 fun _ => ?_
  exact walks_pure _

theorem w16 (h : Ok R W arg3 arg4 arg5 arg6 arg7 arg8 arg9 arg10 arg11 arg12) : ∀ v352 v409 v430, Walks R W (k0_part16 (F := F) i arg3 harg3 arg4 harg4 arg5 harg5 arg6 harg6 arg7 harg7 arg8 harg8 arg9 harg9 arg10 harg10 arg11 harg11 arg12 harg12 v352 v409 v430) := by
  intro v352 v409 v430
  unfold k0_part16
  refine walks_load h.l8 fun _ => ?_
  refine walks_store h.s8 fun _ => ?_
  refine walks_load h.l12 fun _ => ?_
  refine walks_load h.l12 fun _ => ?_
  exact walks_pure _

theorem w17 (h : Ok R W arg3 arg4 arg5 arg6 arg7 arg8 arg9 arg10 arg11 arg12) : ∀ v352 v450, Walks R W (k0_part17 (F := F) i arg3 harg3 arg4 harg4 arg5 harg5 arg6 harg6 arg7 harg7 arg8 harg8 arg9 harg9 arg10 harg10 arg11 harg11 arg12 harg12 v352 v450) := by
  intro v352 v450
  unfold k0_part17
  refine walks_load h.l12 fun _ => ?_
  refine walks_load h.l12 fun _ => ?_
  refine walks_load h.l12 fun _ => ?_
  exact walks_pure _

theorem w18 (h : Ok R W arg3 arg4 arg5 arg6 arg7 arg8 arg9 arg10 arg11 arg12) : ∀ v352 v449 v463 v464 v471, Walks R W (k0_part18 (F := F) i arg3 harg3 arg4 harg4 arg5 harg5 arg6 harg6 arg7 harg7 arg8 harg8 arg9 harg9 arg10 harg10 arg11 harg11 arg12 harg12 v352 v449 v463 v464 v471) := by
  intro v352 v449 v463 v464 v471
  unfold k0_part18
  refine walks_load h.l12 fun _ => ?_
  refine walks_load h.l12 fun _ => ?_
  exact walks_pure _

theorem w19 (h : Ok R W arg3 arg4 arg5 arg6 arg7 arg8 arg9 arg10 arg11 arg12) : ∀ v431 v493 v514, Walks R W (k0_part19 (F := F) i arg3 harg3 arg4 harg4 arg5 harg5 arg6 harg6 arg7 harg7 arg8 harg8 arg9 harg9 arg10 harg10 arg11 harg11 arg12 harg12 v431 v493 v514) := by
  intro v431 v493 v514
  unfold k0_part19
  refine walks_load h.l8 fun _ => ?_
  refine walks_store h.s8 fun _ => ?_
  refine walks_load h.l10 fun _ => ?_
  refine walks_load h.l11 fun _ => ?_
  refine walks_load h.l9 fun _ => ?_
  refine walks_store h.s9 fun _ => ?_
  refine walks_load h.l10 fun _ => ?_
  refine walks_load h.l11 fun _ => ?_
  refine walks_load h.l9 fun _ => ?_
  exact walks_pure _

theorem w20 (h : Ok R W arg3 arg4 arg5 arg6 arg7 arg8 arg9 arg10 arg11 arg12) : ∀ v539, Walks R W (k0_part20 (F := F) i arg3 harg3 arg4 harg4 arg5 harg5 arg6 harg6 arg7 harg7 arg8 harg8 arg9 harg9 arg10 harg10 arg11 harg11 arg12 harg12 v539) := by
  intro v539
  unfold k0_part20
  refine walks_store h.s9 fun _ => ?_
  refine walks_load h.l12 fun _ => ?_
  refine walks_load h.l8 fun _ => ?_
  refine walks_load h.l8 fun _ => ?_
  refine walks_store h.s8 fun _ => ?_
  exact walks_pure _

theorem w21 (h : Ok R W arg3 arg4 arg5 arg6 arg7 arg8 arg9 arg10 arg11 arg12) : ∀ v558, Walks R W (k0_part21 (F := F) i arg3 harg3 arg4 harg4 arg5 harg5 arg6 harg6 arg7 harg7 arg8 harg8 arg9 harg9 arg10 harg10 arg11 harg11 arg12 harg12 v558) := by
  intro v558
  unfold k0_part21
  refine walks_load h.l12 fun _ => ?_
  refine walks_load h.l8 fun _ => ?_
  refine walks_load h.l8 fun _ => ?_
  refine walks_store h.s8 fun _ => ?_
  exact walks_pure _

theorem w22 (h : Ok R W arg3 arg4 arg5 arg6 arg7 arg8 arg9 arg10 arg11 arg12) : ∀ v5 v572 v605 v611 v612, Walks R W (k0_part22 (F := F) i arg3 harg3 arg4 harg4 arg5 harg5 arg6 harg6 arg7 harg7 arg8 harg8 arg9 harg9 arg10 harg10 arg11 harg11 arg12 harg12 v5 v572 v605 v611 v612) := by
  intro v5 v572 v605 v611 v612
  unfold k0_part22
  refine walks_load h.l9 fun _ => ?_
  refine walks_load h.l10 fun _ => ?_
  refine walks_load h.l11 fun _ => ?_
  refine walks_load h.l9 fun _ => ?_
  refine walks_store h.s9 fun _ => ?_
  refine walks_load h.l9 fun _ => ?_
  refine walks_load h.l7 fun _ => ?_
  refine walks_store h.s7 fun _ => ?_
  refine walks_load h.l3 fun _ => ?_
  refine walks_load h.l5 fun _ => ?_
  exact walks_pure _

theorem w23 (h : Ok R W arg3 arg4 arg5 arg6 arg7 arg8 arg9 arg10 arg11 arg12) : ∀ v643 v644 v645 v646, Walks R W (k0_part23 (F := F) i arg3 harg3 arg4 harg4 arg5 harg5 arg6 harg6 arg7 harg7 arg8 harg8 arg9 harg9 arg10 harg10 arg11 harg11 arg12 harg12 v643 v644 v645 v646) := by
  intro v643 v644 v645 v646
  unfold k0_part23
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  refine walks_load h.l12 fun _ => ?_
  exact walks_pure _

theorem w24 (h : Ok R W arg3 arg4 arg5 arg6 arg7 arg8 arg9 arg10 arg11 arg12) : ∀ v661 v662 v665 v668, Walks R W (k0_part24 (F := F) i arg3 harg3 arg4 harg4 arg5 harg5 arg6 harg6 arg7 harg7 arg8 harg8 arg9 harg9 arg10 harg10 arg11 harg11 arg12 harg12 v661 v662 v665 v668) := by
  intro v661 v662 v665 v668
  unfold k0_part24
  refine walks_store h.s12 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w25 (h : Ok R W arg3 arg4 arg5 arg6 arg7 arg8 arg9 arg10 arg11 arg12) : ∀ v690, Walks R W (k0_part25 (F := F) i arg3 harg3 arg4 harg4 arg5 harg5 arg6 harg6 arg7 harg7 arg8 harg8 arg9 harg9 arg10 harg10 arg11 harg11 arg12 harg12 v690) := by
  intro v690
  unfold k0_part25
  refine walks_load h.l12 fun _ => ?_
  refine walks_store h.s12 fun _ => ?_
  refine walks_load h.l12 fun _ => ?_
  refine walks_load h.l12 fun _ => ?_
  exact walks_pure _

theorem w26 (h : Ok R W arg3 arg4 arg5 arg6 arg7 arg8 arg9 arg10 arg11 arg12) : ∀ v698 v712, Walks R W (k0_part26 (F := F) i arg3 harg3 arg4 harg4 arg5 harg5 arg6 harg6 arg7 harg7 arg8 harg8 arg9 harg9 arg10 harg10 arg11 harg11 arg12 harg12 v698 v712) := by
  intro v698 v712
  unfold k0_part26
  refine walks_load h.l12 fun _ => ?_
  refine walks_load h.l12 fun _ => ?_
  refine walks_load h.l12 fun _ => ?_
  exact walks_pure _

theorem w27 (h : Ok R W arg3 arg4 arg5 arg6 arg7 arg8 arg9 arg10 arg11 arg12) : ∀ v698 v711 v725 v726 v733, Walks R W (k0_part27 (F := F) i arg3 harg3 arg4 harg4 arg5 harg5 arg6 harg6 arg7 harg7 arg8 harg8 arg9 harg9 arg10 harg10 arg11 harg11 arg12 harg12 v698 v711 v725 v726 v733) := by
  intro v698 v711 v725 v726 v733
  unfold k0_part27
  refine walks_load h.l12 fun _ => ?_
  refine walks_load h.l12 fun _ => ?_
  exact walks_pure _

theorem w28 (h : Ok R W arg3 arg4 arg5 arg6 arg7 arg8 arg9 arg10 arg11 arg12) : ∀ v698 v755 v757 v763 v769 v770 v774, Walks R W (k0_part28 (F := F) i arg3 harg3 arg4 harg4 arg5 harg5 arg6 harg6 arg7 harg7 arg8 harg8 arg9 harg9 arg10 harg10 arg11 harg11 arg12 harg12 v698 v755 v757 v763 v769 v770 v774) := by
  intro v698 v755 v757 v763 v769 v770 v774
  unfold k0_part28
  refine walks_load h.l8 fun _ => ?_
  refine walks_store h.s8 fun _ => ?_
  refine walks_load h.l12 fun _ => ?_
  refine walks_load h.l12 fun _ => ?_
  exact walks_pure _

theorem w29 (h : Ok R W arg3 arg4 arg5 arg6 arg7 arg8 arg9 arg10 arg11 arg12) : ∀ v698 v796, Walks R W (k0_part29 (F := F) i arg3 harg3 arg4 harg4 arg5 harg5 arg6 harg6 arg7 harg7 arg8 harg8 arg9 harg9 arg10 harg10 arg11 harg11 arg12 harg12 v698 v796) := by
  intro v698 v796
  unfold k0_part29
  refine walks_load h.l12 fun _ => ?_
  refine walks_load h.l12 fun _ => ?_
  refine walks_load h.l12 fun _ => ?_
  exact walks_pure _

theorem w30 (h : Ok R W arg3 arg4 arg5 arg6 arg7 arg8 arg9 arg10 arg11 arg12) : ∀ v698 v795 v809 v810 v817, Walks R W (k0_part30 (F := F) i arg3 harg3 arg4 harg4 arg5 harg5 arg6 harg6 arg7 harg7 arg8 harg8 arg9 harg9 arg10 harg10 arg11 harg11 arg12 harg12 v698 v795 v809 v810 v817) := by
  intro v698 v795 v809 v810 v817
  unfold k0_part30
  refine walks_load h.l12 fun _ => ?_
  refine walks_load h.l12 fun _ => ?_
  exact walks_pure _

theorem w31 (h : Ok R W arg3 arg4 arg5 arg6 arg7 arg8 arg9 arg10 arg11 arg12) : ∀ v777 v839 v841 v847 v853 v854 v858, Walks R W (k0_part31 (F := F) i arg3 harg3 arg4 harg4 arg5 harg5 arg6 harg6 arg7 harg7 arg8 harg8 arg9 harg9 arg10 harg10 arg11 harg11 arg12 harg12 v777 v839 v841 v847 v853 v854 v858) := by
  intro v777 v839 v841 v847 v853 v854 v858
  unfold k0_part31
  refine walks_load h.l8 fun _ => ?_
  refine walks_store h.s8 fun _ => ?_
  refine walks_load h.l10 fun _ => ?_
  refine walks_load h.l11 fun _ => ?_
  refine walks_load h.l9 fun _ => ?_
  refine walks_store h.s9 fun _ => ?_
  refine walks_load h.l10 fun _ => ?_
  refine walks_load h.l11 fun _ => ?_
  exact walks_pure _

theorem w32 (h : Ok R W arg3 arg4 arg5 arg6 arg7 arg8 arg9 arg10 arg11 arg12) : ∀ v885, Walks R W (k0_part32 (F := F) i arg3 harg3 arg4 harg4 arg5 harg5 arg6 harg6 arg7 harg7 arg8 harg8 arg9 harg9 arg10 harg10 arg11 harg11 arg12 harg12 v885) := by
  intro v885
  unfold k0_part32
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w33 (h : Ok R W arg3 arg4 arg5 arg6 arg7 arg8 arg9 arg10 arg11 arg12) : Walks R W (k0_part33 (F := F) i arg3 harg3 arg4 harg4 arg5 harg5 arg6 harg6 arg7 harg7 arg8 harg8 arg9 harg9 arg10 harg10 arg11 harg11 arg12 harg12) := by
  unfold k0_part33
  refine walks_load h.l12 fun _ => ?_
  refine walks_load h.l8 fun _ => ?_
  refine walks_load h.l8 fun _ => ?_
  refine walks_store h.s8 fun _ => ?_
  exact walks_pure _

theorem w34 (h : Ok R W arg3 arg4 arg5 arg6 arg7 arg8 arg9 arg10 arg11 arg12) : ∀ v5 v922, Walks R W (k0_part34 (F := F) i arg3 harg3 arg4 harg4 arg5 harg5 arg6 harg6 arg7 harg7 arg8 harg8 arg9 harg9 arg10 harg10 arg11 harg11 arg12 harg12 v5 v922) := by
  intro v5 v922
  unfold k0_part34
  refine walks_load h.l12 fun _ => ?_
  refine walks_load h.l8 fun _ => ?_
  refine walks_load h.l8 fun _ => ?_
  refine walks_store h.s8 fun _ => ?_
  refine walks_load h.l9 fun _ => ?_
  exact walks_pure _

theorem w35 (h : Ok R W arg3 arg4 arg5 arg6 arg7 arg8 arg9 arg10 arg11 arg12) : ∀ v936 v969 v977 v979, Walks R W (k0_part35 (F := F) i arg3 harg3 arg4 harg4 arg5 harg5 arg6 harg6 arg7 harg7 arg8 harg8 arg9 harg9 arg10 harg10 arg11 harg11 arg12 harg12 v936 v969 v977 v979) := by
  intro v936 v969 v977 v979
  unfold k0_part35
  refine walks_load h.l10 fun _ => ?_
  refine walks_load h.l11 fun _ => ?_
  refine walks_load h.l9 fun _ => ?_
  refine walks_store h.s9 fun _ => ?_
  refine walks_load h.l12 fun _ => ?_
  refine walks_load h.l8 fun _ => ?_
  exact walks_pure _

theorem w36 (h : Ok R W arg3 arg4 arg5 arg6 arg7 arg8 arg9 arg10 arg11 arg12) : ∀ v993 v1001 v1006 v1009 v1012, Walks R W (k0_part36 (F := F) i arg3 harg3 arg4 harg4 arg5 harg5 arg6 harg6 arg7 harg7 arg8 harg8 arg9 harg9 arg10 harg10 arg11 harg11 arg12 harg12 v993 v1001 v1006 v1009 v1012) := by
  intro v993 v1001 v1006 v1009 v1012
  unfold k0_part36
  refine walks_load h.l8 fun _ => ?_
  refine walks_store h.s8 fun _ => ?_
  refine walks_load h.l12 fun _ => ?_
  refine walks_load h.l8 fun _ => ?_
  exact walks_pure _

theorem w37 (h : Ok R W arg3 arg4 arg5 arg6 arg7 arg8 arg9 arg10 arg11 arg12) : ∀ v5 v1003 v1017 v1034 v1036 v1039 v1042 v1045 v1047, Walks R W (k0_part37 (F := F) i arg3 harg3 arg4 harg4 arg5 harg5 arg6 harg6 arg7 harg7 arg8 harg8 arg9 harg9 arg10 harg10 arg11 harg11 arg12 harg12 v5 v1003 v1017 v1034 v1036 v1039 v1042 v1045 v1047) := by
  intro v5 v1003 v1017 v1034 v1036 v1039 v1042 v1045 v1047
  unfold k0_part37
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l9 fun _ => ?_
  exact walks_pure _

theorem w38 (h : Ok R W arg3 arg4 arg5 arg6 arg7 arg8 arg9 arg10 arg11 arg12) : ∀ v1075 v1078 v1080 v1082, Walks R W (k0_part38 (F := F) i arg3 harg3 arg4 harg4 arg5 harg5 arg6 harg6 arg7 harg7 arg8 harg8 arg9 harg9 arg10 harg10 arg11 harg11 arg12 harg12 v1075 v1078 v1080 v1082) := by
  intro v1075 v1078 v1080 v1082
  unfold k0_part38
  refine walks_load h.l7 fun _ => ?_
  refine walks_store h.s7 fun _ => ?_
  refine walks_load h.l3 fun _ => ?_
  refine walks_load h.l5 fun _ => ?_
  refine walks_load h.l12 fun _ => ?_
  refine walks_store h.s12 fun _ => ?_
  refine walks_load h.l12 fun _ => ?_
  refine walks_store h.s12 fun _ => ?_
  refine walks_load h.l3 fun _ => ?_
  exact walks_pure _

theorem w39 (h : Ok R W arg3 arg4 arg5 arg6 arg7 arg8 arg9 arg10 arg11 arg12) : ∀ v1106, Walks R W (k0_part39 (F := F) i arg3 harg3 arg4 harg4 arg5 harg5 arg6 harg6 arg7 harg7 arg8 harg8 arg9 harg9 arg10 harg10 arg11 harg11 arg12 harg12 v1106) := by
  intro v1106
  unfold k0_part39
  refine walks_load h.l5 fun _ => ?_
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  exact walks_pure _

theorem w40 (h : Ok R W arg3 arg4 arg5 arg6 arg7 arg8 arg9 arg10 arg11 arg12) : ∀ v1126, Walks R W (k0_part40 (F := F) i arg3 harg3 arg4 harg4 arg5 harg5 arg6 harg6 arg7 harg7 arg8 harg8 arg9 harg9 arg10 harg10 arg11 harg11 arg12 harg12 v1126) := by
  intro v1126
  unfold k0_part40
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  exact walks_pure _

theorem w41 (h : Ok R W arg3 arg4 arg5 arg6 arg7 arg8 arg9 arg10 arg11 arg12) : ∀ v1143 v1150, Walks R W (k0_part41 (F := F) i arg3 harg3 arg4 harg4 arg5 harg5 arg6 harg6 arg7 harg7 arg8 harg8 arg9 harg9 arg10 harg10 arg11 harg11 arg12 harg12 v1143 v1150) := by
  intro v1143 v1150
  unfold k0_part41
  refine walks_load h.l12 fun _ => ?_
  refine walks_load h.l12 fun _ => ?_
  refine walks_load h.l12 fun _ => ?_
  exact walks_pure _

theorem w42 (h : Ok R W arg3 arg4 arg5 arg6 arg7 arg8 arg9 arg10 arg11 arg12) : ∀ v1143 v1156 v1170 v1171, Walks R W (k0_part42 (F := F) i arg3 harg3 arg4 harg4 arg5 harg5 arg6 harg6 arg7 harg7 arg8 harg8 arg9 harg9 arg10 harg10 arg11 harg11 arg12 harg12 v1143 v1156 v1170 v1171) := by
  intro v1143 v1156 v1170 v1171
  unfold k0_part42
  refine walks_load h.l12 fun _ => ?_
  refine walks_load h.l12 fun _ => ?_
  refine walks_load h.l12 fun _ => ?_
  exact walks_pure _

theorem w43 (h : Ok R W arg3 arg4 arg5 arg6 arg7 arg8 arg9 arg10 arg11 arg12) : ∀ v1143 v1170 v1184 v1193 v1200 v1202 v1203, Walks R W (k0_part43 (F := F) i arg3 harg3 arg4 harg4 arg5 harg5 arg6 harg6 arg7 harg7 arg8 harg8 arg9 harg9 arg10 harg10 arg11 harg11 arg12 harg12 v1143 v1170 v1184 v1193 v1200 v1202 v1203) := by
  intro v1143 v1170 v1184 v1193 v1200 v1202 v1203
  unfold k0_part43
  refine walks_load h.l8 fun _ => ?_
  refine walks_store h.s8 fun _ => ?_
  refine walks_load h.l12 fun _ => ?_
  exact walks_pure _

theorem w44 (h : Ok R W arg3 arg4 arg5 arg6 arg7 arg8 arg9 arg10 arg11 arg12) : ∀ v1143 v1234, Walks R W (k0_part44 (F := F) i arg3 harg3 arg4 harg4 arg5 harg5 arg6 harg6 arg7 harg7 arg8 harg8 arg9 harg9 arg10 harg10 arg11 harg11 arg12 harg12 v1143 v1234) := by
  intro v1143 v1234
  unfold k0_part44
  refine walks_load h.l12 fun _ => ?_
  refine walks_load h.l12 fun _ => ?_
  refine walks_load h.l12 fun _ => ?_
  exact walks_pure _

theorem w45 (h : Ok R W arg3 arg4 arg5 arg6 arg7 arg8 arg9 arg10 arg11 arg12) : ∀ v1143 v1240 v1254 v1255, Walks R W (k0_part45 (F := F) i arg3 harg3 arg4 harg4 arg5 harg5 arg6 harg6 arg7 harg7 arg8 harg8 arg9 harg9 arg10 harg10 arg11 harg11 arg12 harg12 v1143 v1240 v1254 v1255) := by
  intro v1143 v1240 v1254 v1255
  unfold k0_part45
  refine walks_load h.l12 fun _ => ?_
  refine walks_load h.l12 fun _ => ?_
  refine walks_load h.l12 fun _ => ?_
  exact walks_pure _

theorem w46 (h : Ok R W arg3 arg4 arg5 arg6 arg7 arg8 arg9 arg10 arg11 arg12) : ∀ v1222 v1254 v1268 v1277 v1284 v1286 v1287, Walks R W (k0_part46 (F := F) i arg3 harg3 arg4 harg4 arg5 harg5 arg6 harg6 arg7 harg7 arg8 harg8 arg9 harg9 arg10 harg10 arg11 harg11 arg12 harg12 v1222 v1254 v1268 v1277 v1284 v1286 v1287) := by
  intro v1222 v1254 v1268 v1277 v1284 v1286 v1287
  unfold k0_part46
  refine walks_load h.l8 fun _ => ?_
  refine walks_store h.s8 fun _ => ?_
  refine walks_load h.l10 fun _ => ?_
  refine walks_load h.l11 fun _ => ?_
  refine walks_load h.l9 fun _ => ?_
  refine walks_store h.s9 fun _ => ?_
  exact walks_pure _

theorem w47 (h : Ok R W arg3 arg4 arg5 arg6 arg7 arg8 arg9 arg10 arg11 arg12) : ∀ v1324 v1325, Walks R W (k0_part47 (F := F) i arg3 harg3 arg4 harg4 arg5 harg5 arg6 harg6 arg7 harg7 arg8 harg8 arg9 harg9 arg10 harg10 arg11 harg11 arg12 harg12 v1324 v1325) := by
  intro v1324 v1325
  unfold k0_part47
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w48 (h : Ok R W arg3 arg4 arg5 arg6 arg7 arg8 arg9 arg10 arg11 arg12) : ∀ v1348, Walks R W (k0_part48 (F := F) i arg3 harg3 arg4 harg4 arg5 harg5 arg6 harg6 arg7 harg7 arg8 harg8 arg9 harg9 arg10 harg10 arg11 harg11 arg12 harg12 v1348) := by
  intro v1348
  unfold k0_part48
  refine walks_load h.l12 fun _ => ?_
  refine walks_store h.s12 fun _ => ?_
  refine walks_load h.l12 fun _ => ?_
  refine walks_load h.l8 fun _ => ?_
  exact walks_pure _

theorem w49 (h : Ok R W arg3 arg4 arg5 arg6 arg7 arg8 arg9 arg10 arg11 arg12) : ∀ v1365, Walks R W (k0_part49 (F := F) i arg3 harg3 arg4 harg4 arg5 harg5 arg6 harg6 arg7 harg7 arg8 harg8 arg9 harg9 arg10 harg10 arg11 harg11 arg12 harg12 v1365) := by
  intro v1365
  unfold k0_part49
  refine walks_load h.l8 fun _ => ?_
  refine walks_store h.s8 fun _ => ?_
  refine walks_load h.l12 fun _ => ?_
  refine walks_load h.l8 fun _ => ?_
  exact walks_pure _

theorem w50 (h : Ok R W arg3 arg4 arg5 arg6 arg7 arg8 arg9 arg10 arg11 arg12) : ∀ v5 v1367 v1381 v1398 v1400 v1414, Walks R W (k0_part50 (F := F) i arg3 harg3 arg4 harg4 arg5 harg5 arg6 harg6 arg7 harg7 arg8 harg8 arg9 harg9 arg10 harg10 arg11 harg11 arg12 harg12 v5 v1367 v1381 v1398 v1400 v1414) := by
  intro v5 v1367 v1381 v1398 v1400 v1414
  unfold k0_part50
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w51 (h : Ok R W arg3 arg4 arg5 arg6 arg7 arg8 arg9 arg10 arg11 arg12) : ∀ v1438, Walks R W (k0_part51 (F := F) i arg3 harg3 arg4 harg4 arg5 harg5 arg6 harg6 arg7 harg7 arg8 harg8 arg9 harg9 arg10 harg10 arg11 harg11 arg12 harg12 v1438) := by
  intro v1438
  unfold k0_part51
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w52 (h : Ok R W arg3 arg4 arg5 arg6 arg7 arg8 arg9 arg10 arg11 arg12) : ∀ v1456 v1464 v1465, Walks R W (k0_part52 (F := F) i arg3 harg3 arg4 harg4 arg5 harg5 arg6 harg6 arg7 harg7 arg8 harg8 arg9 harg9 arg10 harg10 arg11 harg11 arg12 harg12 v1456 v1464 v1465) := by
  intro v1456 v1464 v1465
  unfold k0_part52
  refine walks_load h.l8 fun _ => ?_
  refine walks_store h.s8 fun _ => ?_
  refine walks_load h.l12 fun _ => ?_
  refine walks_load h.l8 fun _ => ?_
  exact walks_pure _

theorem w53 (h : Ok R W arg3 arg4 arg5 arg6 arg7 arg8 arg9 arg10 arg11 arg12) : ∀ v5 v1466 v1480 v1489 v1497 v1499 v1500, Walks R W (k0_part53 (F := F) i arg3 harg3 arg4 harg4 arg5 harg5 arg6 harg6 arg7 harg7 arg8 harg8 arg9 harg9 arg10 harg10 arg11 harg11 arg12 harg12 v5 v1466 v1480 v1489 v1497 v1499 v1500) := by
  intro v5 v1466 v1480 v1489 v1497 v1499 v1500
  unfold k0_part53
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l4 fun _ => ?_
  exact walks_pure _

theorem w54 (h : Ok R W arg3 arg4 arg5 arg6 arg7 arg8 arg9 arg10 arg11 arg12) : ∀ v1535, Walks R W (k0_part54 (F := F) i arg3 harg3 arg4 harg4 arg5 harg5 arg6 harg6 arg7 harg7 arg8 harg8 arg9 harg9 arg10 harg10 arg11 harg11 arg12 harg12 v1535) := by
  intro v1535
  unfold k0_part54
  refine walks_load h.l5 fun _ => ?_
  refine walks_load h.l12 fun _ => ?_
  refine walks_store h.s12 fun _ => ?_
  refine walks_load h.l12 fun _ => ?_
  refine walks_store h.s12 fun _ => ?_
  refine walks_load h.l4 fun _ => ?_
  refine walks_load h.l5 fun _ => ?_
  exact walks_pure _

theorem w55 (h : Ok R W arg3 arg4 arg5 arg6 arg7 arg8 arg9 arg10 arg11 arg12) : ∀ v1553 v1554 v1557, Walks R W (k0_part55 (F := F) i arg3 harg3 arg4 harg4 arg5 harg5 arg6 harg6 arg7 harg7 arg8 harg8 arg9 harg9 arg10 harg10 arg11 harg11 arg12 harg12 v1553 v1554 v1557) := by
  intro v1553 v1554 v1557
  unfold k0_part55
  refine walks_load h.l12 fun _ => ?_
  refine walks_store h.s12 fun _ => ?_
  refine walks_load h.l12 fun _ => ?_
  refine walks_store h.s12 fun _ => ?_
  refine walks_load h.l12 fun _ => ?_
  refine walks_load h.l8 fun _ => ?_
  exact walks_pure _

theorem w56 (h : Ok R W arg3 arg4 arg5 arg6 arg7 arg8 arg9 arg10 arg11 arg12) : ∀ v1573 v1581 v1586, Walks R W (k0_part56 (F := F) i arg3 harg3 arg4 harg4 arg5 harg5 arg6 harg6 arg7 harg7 arg8 harg8 arg9 harg9 arg10 harg10 arg11 harg11 arg12 harg12 v1573 v1581 v1586) := by
  intro v1573 v1581 v1586
  unfold k0_part56
  refine walks_load h.l8 fun _ => ?_
  refine walks_store h.s8 fun _ => ?_
  refine walks_load h.l12 fun _ => ?_
  refine walks_load h.l8 fun _ => ?_
  exact walks_pure _

theorem w57 (h : Ok R W arg3 arg4 arg5 arg6 arg7 arg8 arg9 arg10 arg11 arg12) : ∀ v5 v1583 v1597 v1606 v1614 v1616 v1619 v1621, Walks R W (k0_part57 (F := F) i arg3 harg3 arg4 harg4 arg5 harg5 arg6 harg6 arg7 harg7 arg8 harg8 arg9 harg9 arg10 harg10 arg11 harg11 arg12 harg12 v5 v1583 v1597 v1606 v1614 v1616 v1619 v1621) := by
  intro v5 v1583 v1597 v1606 v1614 v1616 v1619 v1621
  unfold k0_part57
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l9 fun _ => ?_
  exact walks_pure _

theorem w58 (h : Ok R W arg3 arg4 arg5 arg6 arg7 arg8 arg9 arg10 arg11 arg12) : ∀ v5, Walks R W (k0_part58 (F := F) i arg3 harg3 arg4 harg4 arg5 harg5 arg6 harg6 arg7 harg7 arg8 harg8 arg9 harg9 arg10 harg10 arg11 harg11 arg12 harg12 v5) := by
  intro v5
  unfold k0_part58
  refine walks_bind (w1 h) fun _ => ?_
  refine walks_bind (w2 h _) ?_; rintro ⟨_, _, _⟩
  refine walks_bind (w3 h _ _ _) ?_; rintro ⟨_, _⟩
  refine walks_bind (w4 h _ _) ?_; rintro ⟨_, _, _⟩
  refine walks_bind (w5 h _ _ _ _) ?_; rintro ⟨_, _, _, _⟩
  refine walks_bind (w6 h _ _ _ _ _ _) ?_; rintro ⟨_, _⟩
  refine walks_bind (w7 h _ _) ?_; rintro ⟨_, _, _⟩
  refine walks_bind (w8 h _ _ _ _) ?_; rintro ⟨_, _, _, _⟩
  refine walks_bind (w9 h _ _ _ _ _ _) fun _ => ?_
  refine walks_bind (w10 h _ _) ?_; rintro ⟨_, _, _⟩
  refine walks_bind (w11 h _ _ _) ?_; rintro ⟨_, _, _⟩
  refine walks_bind (w12 h _ _ _) fun _ => ?_
  refine walks_bind (w13 h _) ?_; rintro ⟨_, _, _⟩
  refine walks_bind (w14 h _ _) ?_; rintro ⟨_, _, _⟩
  refine walks_bind (w15 h _ _ _ _ _) ?_; rintro ⟨_, _⟩
  refine walks_bind (w16 h _ _ _) ?_; rintro ⟨_, _, _⟩
  refine walks_bind (w17 h _ _) ?_; rintro ⟨_, _, _⟩
  refine walks_bind (w18 h _ _ _ _ _) ?_; rintro ⟨_, _⟩
  refine walks_bind (w19 h _ _ _) fun _ => ?_
  refine walks_bind (w20 h _) ?_; rintro ⟨_, _⟩
  refine walks_bind (w21 h _) ?_; rintro ⟨_, _, _⟩
  refine walks_bind (w22 h _ _ _ _ _) ?_; rintro ⟨_, _, _, _⟩
  refine walks_bind (w23 h _ _ _ _) ?_; rintro ⟨_, _, _, _⟩
  refine walks_bind (w24 h _ _ _ _) fun _ => ?_
  refine walks_bind (w25 h _) ?_; rintro ⟨_, _, _⟩
  refine walks_bind (w26 h _ _) ?_; rintro ⟨_, _, _⟩
  refine walks_bind (w27 h _ _ _ _ _) ?_; rintro ⟨_, _, _, _, _, _⟩
  refine walks_bind (w28 h _ _ _ _ _ _ _) ?_; rintro ⟨_, _, _⟩
  refine walks_bind (w29 h _ _) ?_; rintro ⟨_, _, _⟩
  refine walks_bind (w30 h _ _ _ _ _) ?_; rintro ⟨_, _, _, _, _, _⟩
  refine walks_bind (w31 h _ _ _ _ _ _ _) fun _ => ?_
  refine walks_bind (w32 h _) fun _ => ?_
  refine walks_bind (w33 h) ?_; rintro ⟨_, _⟩
  refine walks_bind (w34 h _ _) ?_; rintro ⟨_, _, _⟩
  refine walks_bind (w35 h _ _ _ _) ?_; rintro ⟨_, _, _, _, _, _⟩
  refine walks_bind (w36 h _ _ _ _ _) ?_; rintro ⟨_, _, _, _, _, _, _⟩
  refine walks_bind (w37 h _ _ _ _ _ _ _ _ _) ?_; rintro ⟨_, _, _, _⟩
  refine walks_bind (w38 h _ _ _ _) fun _ => ?_
  refine walks_bind (w39 h _) fun _ => ?_
  refine walks_bind (w40 h _) ?_; rintro ⟨_, _⟩
  refine walks_bind (w41 h _ _) ?_; rintro ⟨_, _, _⟩
  refine walks_bind (w42 h _ _ _ _) ?_; rintro ⟨_, _, _, _, _⟩
  refine walks_bind (w43 h _ _ _ _ _ _ _) ?_; rintro ⟨_, _⟩
  refine walks_bind (w44 h _ _) ?_; rintro ⟨_, _, _⟩
  refine walks_bind (w45 h _ _ _ _) ?_; rintro ⟨_, _, _, _, _⟩
  refine walks_bind (w46 h _ _ _ _ _ _ _) ?_; rintro ⟨_, _⟩
  refine walks_bind (w47 h _ _) fun _ => ?_
  refine walks_bind (w48 h _) ?_; rintro ⟨_, _, _⟩
  refine walks_bind (w49 h _) ?_; rintro ⟨_, _, _⟩
  refine walks_bind (w50 h _ _ _ _ _ _) fun _ => ?_
  refine walks_bind (w51 h _) ?_; rintro ⟨_, _, _⟩
  refine walks_bind (w52 h _ _ _) ?_; rintro ⟨_, _, _, _, _, _⟩
  refine walks_bind (w53 h _ _ _ _ _ _ _) fun _ => ?_
  refine walks_bind (w54 h _) ?_; rintro ⟨_, _, _⟩
  refine walks_bind (w55 h _ _ _) ?_; rintro ⟨_, _, _, _⟩
  refine walks_bind (w56 h _ _ _) ?_; rintro ⟨_, _, _, _, _, _⟩
  refine walks_bind (w57 h _ _ _ _ _ _ _ _) ?_; rintro ⟨_, _, _⟩
  exact walks_pure _

theorem w59 (h : Ok R W arg3 arg4 arg5 arg6 arg7 arg8 arg9 arg10 arg11 arg12) : Walks R W (k0_part59 (F := F) i arg3 harg3 arg4 harg4 arg5 harg5 arg6 harg6 arg7 harg7 arg8 harg8 arg9 harg9 arg10 harg10 arg11 harg11 arg12 harg12) := by
  unfold k0_part59
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w60 (h : Ok R W arg3 arg4 arg5 arg6 arg7 arg8 arg9 arg10 arg11 arg12) : ∀ v32, Walks R W (k0_part60 (F := F) i arg3 harg3 arg4 harg4 arg5 harg5 arg6 harg6 arg7 harg7 arg8 harg8 arg9 harg9 arg10 harg10 arg11 harg11 arg12 harg12 v32) := by
  intro v32
  unfold k0_part60
  refine walks_load h.l12 fun _ => ?_
  refine walks_load h.l12 fun _ => ?_
  refine walks_load h.l12 fun _ => ?_
  exact walks_pure _

theorem w61 (h : Ok R W arg3 arg4 arg5 arg6 arg7 arg8 arg9 arg10 arg11 arg12) : ∀ v32 v46 v53, Walks R W (k0_part61 (F := F) i arg3 harg3 arg4 harg4 arg5 harg5 arg6 harg6 arg7 harg7 arg8 harg8 arg9 harg9 arg10 harg10 arg11 harg11 arg12 harg12 v32 v46 v53) := by
  intro v32 v46 v53
  unfold k0_part61
  refine walks_load h.l12 fun _ => ?_
  refine walks_load h.l12 fun _ => ?_
  refine walks_load h.l12 fun _ => ?_
  exact walks_pure _

theorem w62 (h : Ok R W arg3 arg4 arg5 arg6 arg7 arg8 arg9 arg10 arg11 arg12) : ∀ v32 v45 v59 v73 v74, Walks R W (k0_part62 (F := F) i arg3 harg3 arg4 harg4 arg5 harg5 arg6 harg6 arg7 harg7 arg8 harg8 arg9 harg9 arg10 harg10 arg11 harg11 arg12 harg12 v32 v45 v59 v73 v74) := by
  intro v32 v45 v59 v73 v74
  unfold k0_part62
  refine walks_load h.l12 fun _ => ?_
  refine walks_load h.l8 fun _ => ?_
  refine walks_store h.s8 fun _ => ?_
  exact walks_pure _

theorem w63 (h : Ok R W arg3 arg4 arg5 arg6 arg7 arg8 arg9 arg10 arg11 arg12) : ∀ v32, Walks R W (k0_part63 (F := F) i arg3 harg3 arg4 harg4 arg5 harg5 arg6 harg6 arg7 harg7 arg8 harg8 arg9 harg9 arg10 harg10 arg11 harg11 arg12 harg12 v32) := by
  intro v32
  unfold k0_part63
  refine walks_load h.l12 fun _ => ?_
  refine walks_load h.l12 fun _ => ?_
  refine walks_load h.l12 fun _ => ?_
  exact walks_pure _

theorem w64 (h : Ok R W arg3 arg4 arg5 arg6 arg7 arg8 arg9 arg10 arg11 arg12) : ∀ v32 v130 v137, Walks R W (k0_part64 (F := F) i arg3 harg3 arg4 harg4 arg5 harg5 arg6 harg6 arg7 harg7 arg8 harg8 arg9 harg9 arg10 harg10 arg11 harg11 arg12 harg12 v32 v130 v137) := by
  intro v32 v130 v137
  unfold k0_part64
  refine walks_load h.l12 fun _ => ?_
  refine walks_load h.l12 fun _ => ?_
  refine walks_load h.l12 fun _ => ?_
  exact walks_pure _

theorem w65 (h : Ok R W arg3 arg4 arg5 arg6 arg7 arg8 arg9 arg10 arg11 arg12) : ∀ v32 v111 v129 v143 v157 v158, Walks R W (k0_part65 (F := F) i arg3 harg3 arg4 harg4 arg5 harg5 arg6 harg6 arg7 harg7 arg8 harg8 arg9 harg9 arg10 harg10 arg11 harg11 arg12 harg12 v32 v111 v129 v143 v157 v158) := by
  intro v32 v111 v129 v143 v157 v158
  unfold k0_part65
  refine walks_load h.l12 fun _ => ?_
  refine walks_load h.l8 fun _ => ?_
  refine walks_store h.s8 fun _ => ?_
  refine walks_load h.l10 fun _ => ?_
  exact walks_pure _

theorem w66 (h : Ok R W arg3 arg4 arg5 arg6 arg7 arg8 arg9 arg10 arg11 arg12) : ∀ v111 v195 v201 v202 v203, Walks R W (k0_part66 (F := F) i arg3 harg3 arg4 harg4 arg5 harg5 arg6 harg6 arg7 harg7 arg8 harg8 arg9 harg9 arg10 harg10 arg11 harg11 arg12 harg12 v111 v195 v201 v202 v203) := by
  intro v111 v195 v201 v202 v203
  unfold k0_part66
  refine walks_load h.l11 fun _ => ?_
  refine walks_load h.l9 fun _ => ?_
  refine walks_store h.s9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w67 (h : Ok R W arg3 arg4 arg5 arg6 arg7 arg8 arg9 arg10 arg11 arg12) : ∀ v228, Walks R W (k0_part67 (F := F) i arg3 harg3 arg4 harg4 arg5 harg5 arg6 harg6 arg7 harg7 arg8 harg8 arg9 harg9 arg10 harg10 arg11 harg11 arg12 harg12 v228) := by
  intro v228
  unfold k0_part67
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w68 (h : Ok R W arg3 arg4 arg5 arg6 arg7 arg8 arg9 arg10 arg11 arg12) : ∀ v246 v250, Walks R W (k0_part68 (F := F) i arg3 harg3 arg4 harg4 arg5 harg5 arg6 harg6 arg7 harg7 arg8 harg8 arg9 harg9 arg10 harg10 arg11 harg11 arg12 harg12 v246 v250) := by
  intro v246 v250
  unfold k0_part68
  refine walks_load h.l8 fun _ => ?_
  refine walks_store h.s8 fun _ => ?_
  refine walks_load h.l12 fun _ => ?_
  refine walks_load h.l8 fun _ => ?_
  exact walks_pure _

theorem w69 (h : Ok R W arg3 arg4 arg5 arg6 arg7 arg8 arg9 arg10 arg11 arg12) : ∀ v5 v256 v270 v279 v283 v285, Walks R W (k0_part69 (F := F) i arg3 harg3 arg4 harg4 arg5 harg5 arg6 harg6 arg7 harg7 arg8 harg8 arg9 harg9 arg10 harg10 arg11 harg11 arg12 harg12 v5 v256 v270 v279 v283 v285) := by
  intro v5 v256 v270 v279 v283 v285
  unfold k0_part69
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  exact walks_pure _

theorem w70 (h : Ok R W arg3 arg4 arg5 arg6 arg7 arg8 arg9 arg10 arg11 arg12) : Walks R W (k0_part70 (F := F) i arg3 harg3 arg4 harg4 arg5 harg5 arg6 harg6 arg7 harg7 arg8 harg8 arg9 harg9 arg10 harg10 arg11 harg11 arg12 harg12) := by
  unfold k0_part70
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w71 (h : Ok R W arg3 arg4 arg5 arg6 arg7 arg8 arg9 arg10 arg11 arg12) : Walks R W (k0_part71 (F := F) i arg3 harg3 arg4 harg4 arg5 harg5 arg6 harg6 arg7 harg7 arg8 harg8 arg9 harg9 arg10 harg10 arg11 harg11 arg12 harg12) := by
  unfold k0_part71
  refine walks_load h.l12 fun _ => ?_
  refine walks_load h.l8 fun _ => ?_
  refine walks_load h.l8 fun _ => ?_
  refine walks_store h.s8 fun _ => ?_
  exact walks_pure _

theorem w72 (h : Ok R W arg3 arg4 arg5 arg6 arg7 arg8 arg9 arg10 arg11 arg12) : ∀ v5 v355, Walks R W (k0_part72 (F := F) i arg3 harg3 arg4 harg4 arg5 harg5 arg6 harg6 arg7 harg7 arg8 harg8 arg9 harg9 arg10 harg10 arg11 harg11 arg12 harg12 v5 v355) := by
  intro v5 v355
  unfold k0_part72
  refine walks_load h.l12 fun _ => ?_
  refine walks_load h.l8 fun _ => ?_
  refine walks_load h.l8 fun _ => ?_
  refine walks_store h.s8 fun _ => ?_
  refine walks_load h.l9 fun _ => ?_
  refine walks_load h.l10 fun _ => ?_
  exact walks_pure _

theorem w73 (h : Ok R W arg3 arg4 arg5 arg6 arg7 arg8 arg9 arg10 arg11 arg12) : ∀ v369 v402 v413 v414 cst_412, Walks R W (k0_part73 (F := F) i arg3 harg3 arg4 harg4 arg5 harg5 arg6 harg6 arg7 harg7 arg8 harg8 arg9 harg9 arg10 harg10 arg11 harg11 arg12 harg12 v369 v402 v413 v414 cst_412) := by
  intro v369 v402 v413 v414 cst_412
  unfold k0_part73
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w74 (h : Ok R W arg3 arg4 arg5 arg6 arg7 arg8 arg9 arg10 arg11 arg12) : ∀ v435, Walks R W (k0_part74 (F := F) i arg3 harg3 arg4 harg4 arg5 harg5 arg6 harg6 arg7 harg7 arg8 harg8 arg9 harg9 arg10 harg10 arg11 harg11 arg12 harg12 v435) := by
  intro v435
  unfold k0_part74
  refine walks_load h.l12 fun _ => ?_
  refine walks_store h.s12 fun _ => ?_
  refine walks_load h.l12 fun _ => ?_
  refine walks_load h.l8 fun _ => ?_
  exact walks_pure _

theorem w75 (h : Ok R W arg3 arg4 arg5 arg6 arg7 arg8 arg9 arg10 arg11 arg12) : ∀ v452, Walks R W (k0_part75 (F := F) i arg3 harg3 arg4 harg4 arg5 harg5 arg6 harg6 arg7 harg7 arg8 harg8 arg9 harg9 arg10 harg10 arg11 harg11 arg12 harg12 v452) := by
  intro v452
  unfold k0_part75
  refine walks_load h.l8 fun _ => ?_
  refine walks_store h.s8 fun _ => ?_
  refine walks_load h.l12 fun _ => ?_
  refine walks_load h.l8 fun _ => ?_
  refine walks_load h.l8 fun _ => ?_
  exact walks_pure _

theorem w76 (h : Ok R W arg3 arg4 arg5 arg6 arg7 arg8 arg9 arg10 arg11 arg12) : ∀ v5 v454 v468 v485 v487 v501 v504, Walks R W (k0_part76 (F := F) i arg3 harg3 arg4 harg4 arg5 harg5 arg6 harg6 arg7 harg7 arg8 harg8 arg9 harg9 arg10 harg10 arg11 harg11 arg12 harg12 v5 v454 v468 v485 v487 v501 v504) := by
  intro v5 v454 v468 v485 v487 v501 v504
  unfold k0_part76
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l12 fun _ => ?_
  refine walks_load h.l8 fun _ => ?_
  exact walks_pure _

theorem w77 (h : Ok R W arg3 arg4 arg5 arg6 arg7 arg8 arg9 arg10 arg11 arg12) : ∀ v525 v529 v533, Walks R W (k0_part77 (F := F) i arg3 harg3 arg4 harg4 arg5 harg5 arg6 harg6 arg7 harg7 arg8 harg8 arg9 harg9 arg10 harg10 arg11 harg11 arg12 harg12 v525 v529 v533) := by
  intro v525 v529 v533
  unfold k0_part77
  refine walks_load h.l8 fun _ => ?_
  refine walks_store h.s8 fun _ => ?_
  refine walks_load h.l12 fun _ => ?_
  refine walks_load h.l8 fun _ => ?_
  exact walks_pure _

theorem w78 (h : Ok R W arg3 arg4 arg5 arg6 arg7 arg8 arg9 arg10 arg11 arg12) : ∀ v5 v535 v549 v558 v566 v568, Walks R W (k0_part78 (F := F) i arg3 harg3 arg4 harg4 arg5 harg5 arg6 harg6 arg7 harg7 arg8 harg8 arg9 harg9 arg10 harg10 arg11 harg11 arg12 harg12 v5 v535 v549 v558 v566 v568) := by
  intro v5 v535 v549 v558 v566 v568
  unfold k0_part78
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l9 fun _ => ?_
  exact walks_pure _

theorem w79 (h : Ok R W arg3 arg4 arg5 arg6 arg7 arg8 arg9 arg10 arg11 arg12) : ∀ v604, Walks R W (k0_part79 (F := F) i arg3 harg3 arg4 harg4 arg5 harg5 arg6 harg6 arg7 harg7 arg8 harg8 arg9 harg9 arg10 harg10 arg11 harg11 arg12 harg12 v604) := by
  intro v604
  unfold k0_part79
  refine walks_load h.l7 fun _ => ?_
  refine walks_store h.s7 fun _ => ?_
  refine walks_load h.l3 fun _ => ?_
  refine walks_load h.l5 fun _ => ?_
  refine walks_load h.l12 fun _ => ?_
  refine walks_store h.s12 fun _ => ?_
  exact walks_pure _

theorem w80 (h : Ok R W arg3 arg4 arg5 arg6 arg7 arg8 arg9 arg10 arg11 arg12) : ∀ v631, Walks R W (k0_part80 (F := F) i arg3 harg3 arg4 harg4 arg5 harg5 arg6 harg6 arg7 harg7 arg8 harg8 arg9 harg9 arg10 harg10 arg11 harg11 arg12 harg12 v631) := by
  intro v631
  unfold k0_part80
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  exact walks_pure _

theorem w81 (h : Ok R W arg3 arg4 arg5 arg6 arg7 arg8 arg9 arg10 arg11 arg12) : ∀ v656 v657 cst_632, Walks R W (k0_part81 (F := F) i arg3 harg3 arg4 harg4 arg5 harg5 arg6 harg6 arg7 harg7 arg8 harg8 arg9 harg9 arg10 harg10 arg11 harg11 arg12 harg12 v656 v657 cst_632) := by
  intro v656 v657 cst_632
  unfold k0_part81
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w82 (h : Ok R W arg3 arg4 arg5 arg6 arg7 arg8 arg9 arg10 arg11 arg12) : ∀ v675, Walks R W (k0_part82 (F := F) i arg3 harg3 arg4 harg4 arg5 harg5 arg6 harg6 arg7 harg7 arg8 harg8 arg9 harg9 arg10 harg10 arg11 harg11 arg12 harg12 v675) := by
  intro v675
  unfold k0_part82
  refine walks_load h.l12 fun _ => ?_
  refine walks_load h.l12 fun _ => ?_
  refine walks_load h.l12 fun _ => ?_
  refine walks_load h.l12 fun _ => ?_
  exact walks_pure _

theorem w83 (h : Ok R W arg3 arg4 arg5 arg6 arg7 arg8 arg9 arg10 arg11 arg12) : ∀ v675 v688 v702 cst_705, Walks R W (k0_part83 (F := F) i arg3 harg3 arg4 harg4 arg5 harg5 arg6 harg6 arg7 harg7 arg8 harg8 arg9 harg9 arg10 harg10 arg11 harg11 arg12 harg12 v675 v688 v702 cst_705) := by
  intro v675 v688 v702 cst_705
  unfold k0_part83
  refine walks_load h.l12 fun _ => ?_
  refine walks_load h.l12 fun _ => ?_
  refine walks_load h.l12 fun _ => ?_
  exact walks_pure _

theorem w84 (h : Ok R W arg3 arg4 arg5 arg6 arg7 arg8 arg9 arg10 arg11 arg12) : ∀ v688 v702 v716 v725 v726, Walks R W (k0_part84 (F := F) i arg3 harg3 arg4 harg4 arg5 harg5 arg6 harg6 arg7 harg7 arg8 harg8 arg9 harg9 arg10 harg10 arg11 harg11 arg12 harg12 v688 v702 v716 v725 v726) := by
  intro v688 v702 v716 v725 v726
  unfold k0_part84
  refine walks_load h.l8 fun _ => ?_
  refine walks_store h.s8 fun _ => ?_
  exact walks_pure _

theorem w85 (h : Ok R W arg3 arg4 arg5 arg6 arg7 arg8 arg9 arg10 arg11 arg12) : ∀ v675, Walks R W (k0_part85 (F := F) i arg3 harg3 arg4 harg4 arg5 harg5 arg6 harg6 arg7 harg7 arg8 harg8 arg9 harg9 arg10 harg10 arg11 harg11 arg12 harg12 v675) := by
  intro v675
  unfold k0_part85
  refine walks_load h.l12 fun _ => ?_
  refine walks_load h.l12 fun _ => ?_
  refine walks_load h.l12 fun _ => ?_
  refine walks_load h.l12 fun _ => ?_
  exact walks_pure _

theorem w86 (h : Ok R W arg3 arg4 arg5 arg6 arg7 arg8 arg9 arg10 arg11 arg12) : ∀ v675 v772 v786 cst_800, Walks R W (k0_part86 (F := F) i arg3 harg3 arg4 harg4 arg5 harg5 arg6 harg6 arg7 harg7 arg8 harg8 arg9 harg9 arg10 harg10 arg11 harg11 arg12 harg12 v675 v772 v786 cst_800) := by
  intro v675 v772 v786 cst_800
  unfold k0_part86
  refine walks_load h.l12 fun _ => ?_
  refine walks_load h.l12 fun _ => ?_
  refine walks_load h.l12 fun _ => ?_
  exact walks_pure _

theorem w87 (h : Ok R W arg3 arg4 arg5 arg6 arg7 arg8 arg9 arg10 arg11 arg12) : ∀ v754 v772 v786 v800 v809 v810, Walks R W (k0_part87 (F := F) i arg3 harg3 arg4 harg4 arg5 harg5 arg6 harg6 arg7 harg7 arg8 harg8 arg9 harg9 arg10 harg10 arg11 harg11 arg12 harg12 v754 v772 v786 v800 v809 v810) := by
  intro v754 v772 v786 v800 v809 v810
  unfold k0_part87
  refine walks_load h.l8 fun _ => ?_
  refine walks_store h.s8 fun _ => ?_
  refine walks_load h.l10 fun _ => ?_
  refine walks_load h.l11 fun _ => ?_
  exact walks_pure _

theorem w88 (h : Ok R W arg3 arg4 arg5 arg6 arg7 arg8 arg9 arg10 arg11 arg12) : ∀ v754 v838 v850, Walks R W (k0_part88 (F := F) i arg3 harg3 arg4 harg4 arg5 harg5 arg6 harg6 arg7 harg7 arg8 harg8 arg9 harg9 arg10 harg10 arg11 harg11 arg12 harg12 v754 v838 v850) := by
  intro v754 v838 v850
  unfold k0_part88
  refine walks_load h.l9 fun _ => ?_
  refine walks_store h.s9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  exact walks_pure _

theorem w89 (h : Ok R W arg3 arg4 arg5 arg6 arg7 arg8 arg9 arg10 arg11 arg12) : Walks R W (k0_part89 (F := F) i arg3 harg3 arg4 harg4 arg5 harg5 arg6 harg6 arg7 harg7 arg8 harg8 arg9 harg9 arg10 harg10 arg11 harg11 arg12 harg12) := by
  unfold k0_part89
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w90 (h : Ok R W arg3 arg4 arg5 arg6 arg7 arg8 arg9 arg10 arg11 arg12) : ∀ v889 v897 v902 v903, Walks R W (k0_part90 (F := F) i arg3 harg3 arg4 harg4 arg5 harg5 arg6 harg6 arg7 harg7 arg8 harg8 arg9 harg9 arg10 harg10 arg11 harg11 arg12 harg12 v889 v897 v902 v903) := by
  intro v889 v897 v902 v903
  unfold k0_part90
  refine walks_load h.l8 fun _ => ?_
  refine walks_store h.s8 fun _ => ?_
  refine walks_load h.l12 fun _ => ?_
  refine walks_load h.l8 fun _ => ?_
  exact walks_pure _

theorem w91 (h : Ok R W arg3 arg4 arg5 arg6 arg7 arg8 arg9 arg10 arg11 arg12) : ∀ v5 v899 v913 v922 v930 v932 v935 v938, Walks R W (k0_part91 (F := F) i arg3 harg3 arg4 harg4 arg5 harg5 arg6 harg6 arg7 harg7 arg8 harg8 arg9 harg9 arg10 harg10 arg11 harg11 arg12 harg12 v5 v899 v913 v922 v930 v932 v935 v938) := by
  intro v5 v899 v913 v922 v930 v932 v935 v938
  unfold k0_part91
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w92 (h : Ok R W arg3 arg4 arg5 arg6 arg7 arg8 arg9 arg10 arg11 arg12) : ∀ v970, Walks R W (k0_part92 (F := F) i arg3 harg3 arg4 harg4 arg5 harg5 arg6 harg6 arg7 harg7 arg8 harg8 arg9 harg9 arg10 harg10 arg11 harg11 arg12 harg12 v970) := by
  intro v970
  unfold k0_part92
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  exact walks_pure _

theorem w93 (h : Ok R W arg3 arg4 arg5 arg6 arg7 arg8 arg9 arg10 arg11 arg12) : ∀ v988, Walks R W (k0_part93 (F := F) i arg3 harg3 arg4 harg4 arg5 harg5 arg6 harg6 arg7 harg7 arg8 harg8 arg9 harg9 arg10 harg10 arg11 harg11 arg12 harg12 v988) := by
  intro v988
  unfold k0_part93
  refine walks_load h.l8 fun _ => ?_
  refine walks_load h.l8 fun _ => ?_
  refine walks_store h.s8 fun _ => ?_
  refine walks_load h.l12 fun _ => ?_
  exact walks_pure _

theorem w94 (h : Ok R W arg3 arg4 arg5 arg6 arg7 arg8 arg9 arg10 arg11 arg12) : ∀ v5 v998 v1012 v1021, Walks R W (k0_part94 (F := F) i arg3 harg3 arg4 harg4 arg5 harg5 arg6 harg6 arg7 harg7 arg8 harg8 arg9 harg9 arg10 harg10 arg11 harg11 arg12 harg12 v5 v998 v1012 v1021) := by
  intro v5 v998 v1012 v1021
  unfold k0_part94
  refine walks_load h.l8 fun _ => ?_
  refine walks_load h.l8 fun _ => ?_
  refine walks_store h.s8 fun _ => ?_
  refine walks_load h.l9 fun _ => ?_
  refine walks_load h.l10 fun _ => ?_
  refine walks_load h.l11 fun _ => ?_
  exact walks_pure _

theorem w95 (h : Ok R W arg3 arg4 arg5 arg6 arg7 arg8 arg9 arg10 arg11 arg12) : ∀ v1062, Walks R W (k0_part95 (F := F) i arg3 harg3 arg4 harg4 arg5 harg5 arg6 harg6 arg7 harg7 arg8 harg8 arg9 harg9 arg10 harg10 arg11 harg11 arg12 harg12 v1062) := by
  intro v1062
  unfold k0_part95
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w96 (h : Ok R W arg3 arg4 arg5 arg6 arg7 arg8 arg9 arg10 arg11 arg12) : Walks R W (k0_part96 (F := F) i arg3 harg3 arg4 harg4 arg5 harg5 arg6 harg6 arg7 harg7 arg8 harg8 arg9 harg9 arg10 harg10 arg11 harg11 arg12 harg12) := by
  unfold k0_part96
  refine walks_load h.l12 fun _ => ?_
  refine walks_load h.l8 fun _ => ?_
  refine walks_load h.l8 fun _ => ?_
  refine walks_store h.s8 fun _ => ?_
  exact walks_pure _

theorem w97 (h : Ok R W arg3 arg4 arg5 arg6 arg7 arg8 arg9 arg10 arg11 arg12) : ∀ v5 v1097, Walks R W (k0_part97 (F := F) i arg3 harg3 arg4 harg4 arg5 harg5 arg6 harg6 arg7 harg7 arg8 harg8 arg9 harg9 arg10 harg10 arg11 harg11 arg12 harg12 v5 v1097) := by
  intro v5 v1097
  unfold k0_part97
  refine walks_load h.l12 fun _ => ?_
  refine walks_load h.l8 fun _ => ?_
  refine walks_load h.l8 fun _ => ?_
  refine walks_store h.s8 fun _ => ?_
  refine walks_load h.l9 fun _ => ?_
  exact walks_pure _

theorem w98 (h : Ok R W arg3 arg4 arg5 arg6 arg7 arg8 arg9 arg10 arg11 arg12) : ∀ v1111 v1144 v1152 v1153, Walks R W (k0_part98 (F := F) i arg3 harg3 arg4 harg4 arg5 harg5 arg6 harg6 arg7 harg7 arg8 harg8 arg9 harg9 arg10 harg10 arg11 harg11 arg12 harg12 v1111 v1144 v1152 v1153) := by
  intro v1111 v1144 v1152 v1153
  unfold k0_part98
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w99 (h : Ok R W arg3 arg4 arg5 arg6 arg7 arg8 arg9 arg10 arg11 arg12) : ∀ v1177, Walks R W (k0_part99 (F := F) i arg3 harg3 arg4 harg4 arg5 harg5 arg6 harg6 arg7 harg7 arg8 harg8 arg9 harg9 arg10 harg10 arg11 harg11 arg12 harg12 v1177) := by
  intro v1177
  unfold k0_part99
  refine walks_load h.l12 fun _ => ?_
  refine walks_store h.s12 fun _ => ?_
  refine walks_load h.l12 fun _ => ?_
  refine walks_load h.l8 fun _ => ?_
  exact walks_pure _

theorem w100 (h : Ok R W arg3 arg4 arg5 arg6 arg7 arg8 arg9 arg10 arg11 arg12) : ∀ v1194, Walks R W (k0_part100 (F := F) i arg3 harg3 arg4 harg4 arg5 harg5 arg6 harg6 arg7 harg7 arg8 harg8 arg9 harg9 arg10 harg10 arg11 harg11 arg12 harg12 v1194) := by
  intro v1194
  unfold k0_part100
  refine walks_load h.l8 fun _ => ?_
  refine walks_store h.s8 fun _ => ?_
  refine walks_load h.l12 fun _ => ?_
  refine walks_load h.l8 fun _ => ?_
  exact walks_pure _

theorem w101 (h : Ok R W arg3 arg4 arg5 arg6 arg7 arg8 arg9 arg10 arg11 arg12) : ∀ v5 v1196 v1210 v1227 v1229 v1243, Walks R W (k0_part101 (F := F) i arg3 harg3 arg4 harg4 arg5 harg5 arg6 harg6 arg7 harg7 arg8 harg8 arg9 harg9 arg10 harg10 arg11 harg11 arg12 harg12 v5 v1196 v1210 v1227 v1229 v1243) := by
  intro v5 v1196 v1210 v1227 v1229 v1243
  unfold k0_part101
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l12 fun _ => ?_
  refine walks_load h.l8 fun _ => ?_
  exact walks_pure _

theorem w102 (h : Ok R W arg3 arg4 arg5 arg6 arg7 arg8 arg9 arg10 arg11 arg12) : ∀ v1267 v1270, Walks R W (k0_part102 (F := F) i arg3 harg3 arg4 harg4 arg5 harg5 arg6 harg6 arg7 harg7 arg8 harg8 arg9 harg9 arg10 harg10 arg11 harg11 arg12 harg12 v1267 v1270) := by
  intro v1267 v1270
  unfold k0_part102
  refine walks_load h.l8 fun _ => ?_
  refine walks_store h.s8 fun _ => ?_
  refine walks_load h.l12 fun _ => ?_
  refine walks_load h.l8 fun _ => ?_
  exact walks_pure _

theorem w103 (h : Ok R W arg3 arg4 arg5 arg6 arg7 arg8 arg9 arg10 arg11 arg12) : ∀ v5 v1277 v1291 v1300 v1304, Walks R W (k0_part103 (F := F) i arg3 harg3 arg4 harg4 arg5 harg5 arg6 harg6 arg7 harg7 arg8 harg8 arg9 harg9 arg10 harg10 arg11 harg11 arg12 harg12 v5 v1277 v1291 v1300 v1304) := by
  intro v5 v1277 v1291 v1300 v1304
  unfold k0_part103
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  exact walks_pure _

theorem w104 (h : Ok R W arg3 arg4 arg5 arg6 arg7 arg8 arg9 arg10 arg11 arg12) : ∀ v1344, Walks R W (k0_part104 (F := F) i arg3 harg3 arg4 harg4 arg5 harg5 arg6 harg6 arg7 harg7 arg8 harg8 arg9 harg9 arg10 harg10 arg11 harg11 arg12 harg12 v1344) := by
  intro v1344
  unfold k0_part104
  refine walks_store h.s9 fun _ => ?_
  refine walks_load h.l9 fun _ => ?_
  refine walks_load h.l7 fun _ => ?_
  refine walks_store h.s7 fun _ => ?_
  refine walks_load h.l3 fun _ => ?_
  refine walks_load h.l5 fun _ => ?_
  refine walks_load h.l12 fun _ => ?_
  refine walks_store h.s12 fun _ => ?_
  exact walks_pure _

theorem w105 (h : Ok R W arg3 arg4 arg5 arg6 arg7 arg8 arg9 arg10 arg11 arg12) : ∀ v1373, Walks R W (k0_part105 (F := F) i arg3 harg3 arg4 harg4 arg5 harg5 arg6 harg6 arg7 harg7 arg8 harg8 arg9 harg9 arg10 harg10 arg11 harg11 arg12 harg12 v1373) := by
  intro v1373
  unfold k0_part105
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_store h.s12 fun _ => ?_
  exact walks_pure _

theorem w106 (h : Ok R W arg3 arg4 arg5 arg6 arg7 arg8 arg9 arg10 arg11 arg12) : Walks R W (k0_part106 (F := F) i arg3 harg3 arg4 harg4 arg5 harg5 arg6 harg6 arg7 harg7 arg8 harg8 arg9 harg9 arg10 harg10 arg11 harg11 arg12 harg12) := by
  unfold k0_part106
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w107 (h : Ok R W arg3 arg4 arg5 arg6 arg7 arg8 arg9 arg10 arg11 arg12) : ∀ v1417, Walks R W (k0_part107 (F := F) i arg3 harg3 arg4 harg4 arg5 harg5 arg6 harg6 arg7 harg7 arg8 harg8 arg9 harg9 arg10 harg10 arg11 harg11 arg12 harg12 v1417) := by
  intro v1417
  unfold k0_part107
  refine walks_load h.l12 fun _ => ?_
  refine walks_load h.l12 fun _ => ?_
  refine walks_load h.l12 fun _ => ?_
  exact walks_pure _

theorem w108 (h : Ok R W arg3 arg4 arg5 arg6 arg7 arg8 arg9 arg10 arg11 arg12) : ∀ v1417 v1431 v1438, Walks R W (k0_part108 (F := F) i arg3 harg3 arg4 harg4 arg5 harg5 arg6 harg6 arg7 harg7 arg8 harg8 arg9 harg9 arg10 harg10 arg11 harg11 arg12 harg12 v1417 v1431 v1438) := by
  intro v1417 v1431 v1438
  unfold k0_part108
  refine walks_load h.l12 fun _ => ?_
  refine walks_load h.l12 fun _ => ?_
  refine walks_load h.l12 fun _ => ?_
  exact walks_pure _

theorem w109 (h : Ok R W arg3 arg4 arg5 arg6 arg7 arg8 arg9 arg10 arg11 arg12) : ∀ v1417 v1430 v1444 v1458 v1459, Walks R W (k0_part109 (F := F) i arg3 harg3 arg4 harg4 arg5 harg5 arg6 harg6 arg7 harg7 arg8 harg8 arg9 harg9 arg10 harg10 arg11 harg11 arg12 harg12 v1417 v1430 v1444 v1458 v1459) := by
  intro v1417 v1430 v1444 v1458 v1459
  unfold k0_part109
  refine walks_load h.l12 fun _ => ?_
  refine walks_load h.l8 fun _ => ?_
  refine walks_store h.s8 fun _ => ?_
  exact walks_pure _

theorem w110 (h : Ok R W arg3 arg4 arg5 arg6 arg7 arg8 arg9 arg10 arg11 arg12) : ∀ v1417, Walks R W (k0_part110 (F := F) i arg3 harg3 arg4 harg4 arg5 harg5 arg6 harg6 arg7 harg7 arg8 harg8 arg9 harg9 arg10 harg10 arg11 harg11 arg12 harg12 v1417) := by
  intro v1417
  unfold k0_part110
  refine walks_load h.l12 fun _ => ?_
  refine walks_load h.l12 fun _ => ?_
  refine walks_load h.l12 fun _ => ?_
  exact walks_pure _

theorem w111 (h : Ok R W arg3 arg4 arg5 arg6 arg7 arg8 arg9 arg10 arg11 arg12) : ∀ v1417 v1515 v1522, Walks R W (k0_part111 (F := F) i arg3 harg3 arg4 harg4 arg5 harg5 arg6 harg6 arg7 harg7 arg8 harg8 arg9 harg9 arg10 harg10 arg11 harg11 arg12 harg12 v1417 v1515 v1522) := by
  intro v1417 v1515 v1522
  unfold k0_part111
  refine walks_load h.l12 fun _ => ?_
  refine walks_load h.l12 fun _ => ?_
  refine walks_load h.l12 fun _ => ?_
  exact walks_pure _

theorem w112 (h : Ok R W arg3 arg4 arg5 arg6 arg7 arg8 arg9 arg10 arg11 arg12) : ∀ v1417 v1496 v1514 v1528 v1542 v1543, Walks R W (k0_part112 (F := F) i arg3 harg3 arg4 harg4 arg5 harg5 arg6 harg6 arg7 harg7 arg8 harg8 arg9 harg9 arg10 harg10 arg11 harg11 arg12 harg12 v1417 v1496 v1514 v1528 v1542 v1543) := by
  intro v1417 v1496 v1514 v1528 v1542 v1543
  unfold k0_part112
  refine walks_load h.l12 fun _ => ?_
  refine walks_load h.l8 fun _ => ?_
  refine walks_store h.s8 fun _ => ?_
  refine walks_load h.l10 fun _ => ?_
  exact walks_pure _

theorem w113 (h : Ok R W arg3 arg4 arg5 arg6 arg7 arg8 arg9 arg10 arg11 arg12) : ∀ v1496 v1580 v1587 v1589, Walks R W (k0_part113 (F := F) i arg3 harg3 arg4 harg4 arg5 harg5 arg6 harg6 arg7 harg7 arg8 harg8 arg9 harg9 arg10 harg10 arg11 harg11 arg12 harg12 v1496 v1580 v1587 v1589) := by
  intro v1496 v1580 v1587 v1589
  unfold k0_part113
  refine walks_load h.l11 fun _ => ?_
  refine walks_load h.l9 fun _ => ?_
  refine walks_store h.s9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w114 (h : Ok R W arg3 arg4 arg5 arg6 arg7 arg8 arg9 arg10 arg11 arg12) : ∀ v1613, Walks R W (k0_part114 (F := F) i arg3 harg3 arg4 harg4 arg5 harg5 arg6 harg6 arg7 harg7 arg8 harg8 arg9 harg9 arg10 harg10 arg11 harg11 arg12 harg12 v1613) := by
  intro v1613
  unfold k0_part114
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w115 (h : Ok R W arg3 arg4 arg5 arg6 arg7 arg8 arg9 arg10 arg11 arg12) : ∀ v1631 v1635 v1639, Walks R W (k0_part115 (F := F) i arg3 harg3 arg4 harg4 arg5 harg5 arg6 harg6 arg7 harg7 arg8 harg8 arg9 harg9 arg10 harg10 arg11 harg11 arg12 harg12 v1631 v1635 v1639) := by
  intro v1631 v1635 v1639
  unfold k0_part115
  refine walks_load h.l8 fun _ => ?_
  refine walks_store h.s8 fun _ => ?_
  refine walks_load h.l12 fun _ => ?_
  refine walks_load h.l8 fun _ => ?_
  exact walks_pure _

theorem w116 (h : Ok R W arg3 arg4 arg5 arg6 arg7 arg8 arg9 arg10 arg11 arg12) : ∀ v5 v1641 v1655 v1664 v1672 v1674, Walks R W (k0_part116 (F := F) i arg3 harg3 arg4 harg4 arg5 harg5 arg6 harg6 arg7 harg7 arg8 harg8 arg9 harg9 arg10 harg10 arg11 harg11 arg12 harg12 v5 v1641 v1655 v1664 v1672 v1674) := by
  intro v5 v1641 v1655 v1664 v1672 v1674
  unfold k0_part116
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  exact walks_pure _

theorem w117 (h : Ok R W arg3 arg4 arg5 arg6 arg7 arg8 arg9 arg10 arg11 arg12) : Walks R W (k0_part117 (F := F) i arg3 harg3 arg4 harg4 arg5 harg5 arg6 harg6 arg7 harg7 arg8 harg8 arg9 harg9 arg10 harg10 arg11 harg11 arg12 harg12) := by
  unfold k0_part117
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  exact walks_pure _

theorem w118 (h : Ok R W arg3 arg4 arg5 arg6 arg7 arg8 arg9 arg10 arg11 arg12) : ∀ v1730, Walks R W (k0_part118 (F := F) i arg3 harg3 arg4 harg4 arg5 harg5 arg6 harg6 arg7 harg7 arg8 harg8 arg9 harg9 arg10 harg10 arg11 harg11 arg12 harg12 v1730) := by
  intro v1730
  unfold k0_part118
  refine walks_load h.l8 fun _ => ?_
  refine walks_load h.l8 fun _ => ?_
  refine walks_store h.s8 fun _ => ?_
  refine walks_load h.l12 fun _ => ?_
  exact walks_pure _

theorem w119 (h : Ok R W arg3 arg4 arg5 arg6 arg7 arg8 arg9 arg10 arg11 arg12) : ∀ v5 v1740 v1754 v1763, Walks R W (k0_part119 (F := F) i arg3 harg3 arg4 harg4 arg5 harg5 arg6 harg6 arg7 harg7 arg8 harg8 arg9 harg9 arg10 harg10 arg11 harg11 arg12 harg12 v5 v1740 v1754 v1763) := by
  intro v5 v1740 v1754 v1763
  unfold k0_part119
  refine walks_load h.l8 fun _ => ?_
  refine walks_load h.l8 fun _ => ?_
  refine walks_store h.s8 fun _ => ?_
  refine walks_load h.l9 fun _ => ?_
  refine walks_load h.l10 fun _ => ?_
  refine walks_load h.l11 fun _ => ?_
  exact walks_pure _

theorem w120 (h : Ok R W arg3 arg4 arg5 arg6 arg7 arg8 arg9 arg10 arg11 arg12) : ∀ v1787 v1798 v1800 v1801, Walks R W (k0_part120 (F := F) i arg3 harg3 arg4 harg4 arg5 harg5 arg6 harg6 arg7 harg7 arg8 harg8 arg9 harg9 arg10 harg10 arg11 harg11 arg12 harg12 v1787 v1798 v1800 v1801) := by
  intro v1787 v1798 v1800 v1801
  unfold k0_part120
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  exact walks_pure _

theorem w121 (h : Ok R W arg3 arg4 arg5 arg6 arg7 arg8 arg9 arg10 arg11 arg12) : ∀ v1820 v1823, Walks R W (k0_part121 (F := F) i arg3 harg3 arg4 harg4 arg5 harg5 arg6 harg6 arg7 harg7 arg8 harg8 arg9 harg9 arg10 harg10 arg11 harg11 arg12 harg12 v1820 v1823) := by
  intro v1820 v1823
  unfold k0_part121
  refine walks_store h.s12 fun _ => ?_
  refine walks_load h.l12 fun _ => ?_
  refine walks_load h.l8 fun _ => ?_
  refine walks_load h.l8 fun _ => ?_
  exact walks_pure _

theorem w122 (h : Ok R W arg3 arg4 arg5 arg6 arg7 arg8 arg9 arg10 arg11 arg12) : ∀ v1839 v1858, Walks R W (k0_part122 (F := F) i arg3 harg3 arg4 harg4 arg5 harg5 arg6 harg6 arg7 harg7 arg8 harg8 arg9 harg9 arg10 harg10 arg11 harg11 arg12 harg12 v1839 v1858) := by
  intro v1839 v1858
  unfold k0_part122
  refine walks_store h.s8 fun _ => ?_
  refine walks_load h.l12 fun _ => ?_
  refine walks_load h.l8 fun _ => ?_
  refine walks_load h.l8 fun _ => ?_
  refine walks_store h.s8 fun _ => ?_
  exact walks_pure _

theorem w123 (h : Ok R W arg3 arg4 arg5 arg6 arg7 arg8 arg9 arg10 arg11 arg12) : ∀ v5 v1853 v1872 v1886 v1892, Walks R W (k0_part123 (F := F) i arg3 harg3 arg4 harg4 arg5 harg5 arg6 harg6 arg7 harg7 arg8 harg8 arg9 harg9 arg10 harg10 arg11 harg11 arg12 harg12 v5 v1853 v1872 v1886 v1892) := by
  intro v5 v1853 v1872 v1886 v1892
  unfold k0_part123
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  exact walks_pure _

theorem w124 (h : Ok R W arg3 arg4 arg5 arg6 arg7 arg8 arg9 arg10 arg11 arg12) : ∀ v1917, Walks R W (k0_part124 (F := F) i arg3 harg3 arg4 harg4 arg5 harg5 arg6 harg6 arg7 harg7 arg8 harg8 arg9 harg9 arg10 harg10 arg11 harg11 arg12 harg12 v1917) := by
  intro v1917
  unfold k0_part124
  refine walks_load h.l5 fun _ => ?_
  refine walks_load h.l12 fun _ => ?_
  refine walks_store h.s12 fun _ => ?_
  refine walks_load h.l12 fun _ => ?_
  refine walks_load h.l8 fun _ => ?_
  exact walks_pure _

theorem w125 (h : Ok R W arg3 arg4 arg5 arg6 arg7 arg8 arg9 arg10 arg11 arg12) : ∀ v1936 v1941 v1944 v1947 v1948, Walks R W (k0_part125 (F := F) i arg3 harg3 arg4 harg4 arg5 harg5 arg6 harg6 arg7 harg7 arg8 harg8 arg9 harg9 arg10 harg10 arg11 harg11 arg12 harg12 v1936 v1941 v1944 v1947 v1948) := by
  intro v1936 v1941 v1944 v1947 v1948
  unfold k0_part125
  refine walks_load h.l8 fun _ => ?_
  refine walks_store h.s8 fun _ => ?_
  refine walks_load h.l12 fun _ => ?_
  refine walks_load h.l8 fun _ => ?_
  exact walks_pure _

theorem w126 (h : Ok R W arg3 arg4 arg5 arg6 arg7 arg8 arg9 arg10 arg11 arg12) : ∀ v5 v1938 v1952 v1969 v1971 v1974 v1977 v1980 v1983, Walks R W (k0_part126 (F := F) i arg3 harg3 arg4 harg4 arg5 harg5 arg6 harg6 arg7 harg7 arg8 harg8 arg9 harg9 arg10 harg10 arg11 harg11 arg12 harg12 v5 v1938 v1952 v1969 v1971 v1974 v1977 v1980 v1983) := by
  intro v5 v1938 v1952 v1969 v1971 v1974 v1977 v1980 v1983
  unfold k0_part126
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w127 (h : Ok R W arg3 arg4 arg5 arg6 arg7 arg8 arg9 arg10 arg11 arg12) : ∀ v2009, Walks R W (k0_part127 (F := F) i arg3 harg3 arg4 harg4 arg5 harg5 arg6 harg6 arg7 harg7 arg8 harg8 arg9 harg9 arg10 harg10 arg11 harg11 arg12 harg12 v2009) := by
  intro v2009
  unfold k0_part127
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w128 (h : Ok R W arg3 arg4 arg5 arg6 arg7 arg8 arg9 arg10 arg11 arg12) : ∀ v2027 v2031, Walks R W (k0_part128 (F := F) i arg3 harg3 arg4 harg4 arg5 harg5 arg6 harg6 arg7 harg7 arg8 harg8 arg9 harg9 arg10 harg10 arg11 harg11 arg12 harg12 v2027 v2031) := by
  intro v2027 v2031
  unfold k0_part128
  refine walks_load h.l8 fun _ => ?_
  refine walks_store h.s8 fun _ => ?_
  refine walks_load h.l12 fun _ => ?_
  refine walks_load h.l8 fun _ => ?_
  exact walks_pure _

theorem w129 (h : Ok R W arg3 arg4 arg5 arg6 arg7 arg8 arg9 arg10 arg11 arg12) : ∀ v5 v2037 v2051 v2060 v2064 v2066, Walks R W (k0_part129 (F := F) i arg3 harg3 arg4 harg4 arg5 harg5 arg6 harg6 arg7 harg7 arg8 harg8 arg9 harg9 arg10 harg10 arg11 harg11 arg12 harg12 v5 v2037 v2051 v2060 v2064 v2066) := by
  intro v5 v2037 v2051 v2060 v2064 v2066
  unfold k0_part129
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  exact walks_pure _

theorem w130 (h : Ok R W arg3 arg4 arg5 arg6 arg7 arg8 arg9 arg10 arg11 arg12) : Walks R W (k0_part130 (F := F) i arg3 harg3 arg4 harg4 arg5 harg5 arg6 harg6 arg7 harg7 arg8 harg8 arg9 harg9 arg10 harg10 arg11 harg11 arg12 harg12) := by
  unfold k0_part130
  refine walks_load h.l12 fun _ => ?_
  refine walks_load h.l8 fun _ => ?_
  refine walks_load h.l8 fun _ => ?_
  refine walks_store h.s8 fun _ => ?_
  exact walks_pure _

theorem w131 (h : Ok R W arg3 arg4 arg5 arg6 arg7 arg8 arg9 arg10 arg11 arg12) : ∀ v5 v2118, Walks R W (k0_part131 (F := F) i arg3 harg3 arg4 harg4 arg5 harg5 arg6 harg6 arg7 harg7 arg8 harg8 arg9 harg9 arg10 harg10 arg11 harg11 arg12 harg12 v5 v2118) := by
  intro v5 v2118
  unfold k0_part131
  refine walks_load h.l12 fun _ => ?_
  refine walks_load h.l8 fun _ => ?_
  refine walks_load h.l8 fun _ => ?_
  refine walks_store h.s8 fun _ => ?_
  exact walks_pure _

theorem w132 (h : Ok R W arg3 arg4 arg5 arg6 arg7 arg8 arg9 arg10 arg11 arg12) : ∀ v2132 v2165 v2173, Walks R W (k0_part132 (F := F) i arg3 harg3 arg4 harg4 arg5 harg5 arg6 harg6 arg7 harg7 arg8 harg8 arg9 harg9 arg10 harg10 arg11 harg11 arg12 harg12 v2132 v2165 v2173) := by
  intro v2132 v2165 v2173
  unfold k0_part132
  refine walks_load h.l9 fun _ => ?_
  refine walks_load h.l10 fun _ => ?_
  refine walks_load h.l11 fun _ => ?_
  refine walks_load h.l9 fun _ => ?_
  refine walks_store h.s9 fun _ => ?_
  refine walks_load h.l9 fun _ => ?_
  refine walks_load h.l7 fun _ => ?_
  refine walks_store h.s7 fun _ => ?_
  refine walks_load h.l3 fun _ => ?_
  refine walks_load h.l5 fun _ => ?_
  exact walks_pure _

theorem w133 (h : Ok R W arg3 arg4 arg5 arg6 arg7 arg8 arg9 arg10 arg11 arg12) : ∀ v2203 v2204 v2207, Walks R W (k0_part133 (F := F) i arg3 harg3 arg4 harg4 arg5 harg5 arg6 harg6 arg7 harg7 arg8 harg8 arg9 harg9 arg10 harg10 arg11 harg11 arg12 harg12 v2203 v2204 v2207) := by
  intro v2203 v2204 v2207
  unfold k0_part133
  refine walks_load h.l12 fun _ => ?_
  refine walks_store h.s12 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w134 (h : Ok R W arg3 arg4 arg5 arg6 arg7 arg8 arg9 arg10 arg11 arg12) : ∀ v2221 v2222, Walks R W (k0_part134 (F := F) i arg3 harg3 arg4 harg4 arg5 harg5 arg6 harg6 arg7 harg7 arg8 harg8 arg9 harg9 arg10 harg10 arg11 harg11 arg12 harg12 v2221 v2222) := by
  intro v2221 v2222
  unfold k0_part134
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w135 (h : Ok R W arg3 arg4 arg5 arg6 arg7 arg8 arg9 arg10 arg11 arg12) : ∀ v2250, Walks R W (k0_part135 (F := F) i arg3 harg3 arg4 harg4 arg5 harg5 arg6 harg6 arg7 harg7 arg8 harg8 arg9 harg9 arg10 harg10 arg11 harg11 arg12 harg12 v2250) := by
  intro v2250
  unfold k0_part135
  refine walks_load h.l12 fun _ => ?_
  refine walks_store h.s12 fun _ => ?_
  refine walks_load h.l12 fun _ => ?_
  refine walks_load h.l12 fun _ => ?_
  exact walks_pure _

theorem w136 (h : Ok R W arg3 arg4 arg5 arg6 arg7 arg8 arg9 arg10 arg11 arg12) : ∀ v2258 v2272, Walks R W (k0_part136 (F := F) i arg3 harg3 arg4 harg4 arg5 harg5 arg6 harg6 arg7 harg7 arg8 harg8 arg9 harg9 arg10 harg10 arg11 harg11 arg12 harg12 v2258 v2272) := by
  intro v2258 v2272
  unfold k0_part136
  refine walks_load h.l12 fun _ => ?_
  refine walks_load h.l12 fun _ => ?_
  refine walks_load h.l12 fun _ => ?_
  exact walks_pure _

theorem w137 (h : Ok R W arg3 arg4 arg5 arg6 arg7 arg8 arg9 arg10 arg11 arg12) : ∀ v2258 v2271 v2285 v2286 v2293, Walks R W (k0_part137 (F := F) i arg3 harg3 arg4 harg4 arg5 harg5 arg6 harg6 arg7 harg7 arg8 harg8 arg9 harg9 arg10 harg10 arg11 harg11 arg12 harg12 v2258 v2271 v2285 v2286 v2293) := by
  intro v2258 v2271 v2285 v2286 v2293
  unfold k0_part137
  refine walks_load h.l12 fun _ => ?_
  refine walks_load h.l12 fun _ => ?_
  exact walks_pure _

theorem w138 (h : Ok R W arg3 arg4 arg5 arg6 arg7 arg8 arg9 arg10 arg11 arg12) : ∀ v2258 v2315, Walks R W (k0_part138 (F := F) i arg3 harg3 arg4 harg4 arg5 harg5 arg6 harg6 arg7 harg7 arg8 harg8 arg9 harg9 arg10 harg10 arg11 harg11 arg12 harg12 v2258 v2315) := by
  intro v2258 v2315
  unfold k0_part138
  refine walks_load h.l8 fun _ => ?_
  refine walks_store h.s8 fun _ => ?_
  refine walks_load h.l12 fun _ => ?_
  refine walks_load h.l12 fun _ => ?_
  exact walks_pure _

theorem w139 (h : Ok R W arg3 arg4 arg5 arg6 arg7 arg8 arg9 arg10 arg11 arg12) : ∀ v2258 v2356, Walks R W (k0_part139 (F := F) i arg3 harg3 arg4 harg4 arg5 harg5 arg6 harg6 arg7 harg7 arg8 harg8 arg9 harg9 arg10 harg10 arg11 harg11 arg12 harg12 v2258 v2356) := by
  intro v2258 v2356
  unfold k0_part139
  refine walks_load h.l12 fun _ => ?_
  refine walks_load h.l12 fun _ => ?_
  refine walks_load h.l12 fun _ => ?_
  exact walks_pure _

theorem w140 (h : Ok R W arg3 arg4 arg5 arg6 arg7 arg8 arg9 arg10 arg11 arg12) : ∀ v2258 v2355 v2369 v2370 v2377, Walks R W (k0_part140 (F := F) i arg3 harg3 arg4 harg4 arg5 harg5 arg6 harg6 arg7 harg7 arg8 harg8 arg9 harg9 arg10 harg10 arg11 harg11 arg12 harg12 v2258 v2355 v2369 v2370 v2377) := by
  intro v2258 v2355 v2369 v2370 v2377
  unfold k0_part140
  refine walks_load h.l12 fun _ => ?_
  refine walks_load h.l12 fun _ => ?_
  exact walks_pure _

theorem w141 (h : Ok R W arg3 arg4 arg5 arg6 arg7 arg8 arg9 arg10 arg11 arg12) : ∀ v2337 v2399 v2421, Walks R W (k0_part141 (F := F) i arg3 harg3 arg4 harg4 arg5 harg5 arg6 harg6 arg7 harg7 arg8 harg8 arg9 harg9 arg10 harg10 arg11 harg11 arg12 harg12 v2337 v2399 v2421) := by
  intro v2337 v2399 v2421
  unfold k0_part141
  refine walks_load h.l8 fun _ => ?_
  refine walks_store h.s8 fun _ => ?_
  refine walks_load h.l10 fun _ => ?_
  refine walks_load h.l11 fun _ => ?_
  refine walks_load h.l9 fun _ => ?_
  refine walks_store h.s9 fun _ => ?_
  refine walks_load h.l10 fun _ => ?_
  refine walks_load h.l11 fun _ => ?_
  refine walks_load h.l9 fun _ => ?_
  exact walks_pure _

theorem w142 (h : Ok R W arg3 arg4 arg5 arg6 arg7 arg8 arg9 arg10 arg11 arg12) : ∀ v2450, Walks R W (k0_part142 (F := F) i arg3 harg3 arg4 harg4 arg5 harg5 arg6 harg6 arg7 harg7 arg8 harg8 arg9 harg9 arg10 harg10 arg11 harg11 arg12 harg12 v2450) := by
  intro v2450
  unfold k0_part142
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w143 (h : Ok R W arg3 arg4 arg5 arg6 arg7 arg8 arg9 arg10 arg11 arg12) : Walks R W (k0_part143 (F := F) i arg3 harg3 arg4 harg4 arg5 harg5 arg6 harg6 arg7 harg7 arg8 harg8 arg9 harg9 arg10 harg10 arg11 harg11 arg12 harg12) := by
  unfold k0_part143
  refine walks_load h.l12 fun _ => ?_
  refine walks_load h.l8 fun _ => ?_
  refine walks_load h.l8 fun _ => ?_
  refine walks_store h.s8 fun _ => ?_
  exact walks_pure _

theorem w144 (h : Ok R W arg3 arg4 arg5 arg6 arg7 arg8 arg9 arg10 arg11 arg12) : ∀ v5 v2482, Walks R W (k0_part144 (F := F) i arg3 harg3 arg4 harg4 arg5 harg5 arg6 harg6 arg7 harg7 arg8 harg8 arg9 harg9 arg10 harg10 arg11 harg11 arg12 harg12 v5 v2482) := by
  intro v5 v2482
  unfold k0_part144
  refine walks_load h.l12 fun _ => ?_
  refine walks_load h.l8 fun _ => ?_
  refine walks_load h.l8 fun _ => ?_
  refine walks_store h.s8 fun _ => ?_
  refine walks_load h.l9 fun _ => ?_
  exact walks_pure _

theorem w145 (h : Ok R W arg3 arg4 arg5 arg6 arg7 arg8 arg9 arg10 arg11 arg12) : ∀ v2496 v2529 v2540, Walks R W (k0_part145 (F := F) i arg3 harg3 arg4 harg4 arg5 harg5 arg6 harg6 arg7 harg7 arg8 harg8 arg9 harg9 arg10 harg10 arg11 harg11 arg12 harg12 v2496 v2529 v2540) := by
  intro v2496 v2529 v2540
  unfold k0_part145
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w146 (h : Ok R W arg3 arg4 arg5 arg6 arg7 arg8 arg9 arg10 arg11 arg12) : ∀ v2562, Walks R W (k0_part146 (F := F) i arg3 harg3 arg4 harg4 arg5 harg5 arg6 harg6 arg7 harg7 arg8 harg8 arg9 harg9 arg10 harg10 arg11 harg11 arg12 harg12 v2562) := by
  intro v2562
  unfold k0_part146
  refine walks_load h.l12 fun _ => ?_
  refine walks_store h.s12 fun _ => ?_
  refine walks_load h.l12 fun _ => ?_
  refine walks_load h.l8 fun _ => ?_
  exact walks_pure _

theorem w147 (h : Ok R W arg3 arg4 arg5 arg6 arg7 arg8 arg9 arg10 arg11 arg12) : ∀ v2579, Walks R W (k0_part147 (F := F) i arg3 harg3 arg4 harg4 arg5 harg5 arg6 harg6 arg7 harg7 arg8 harg8 arg9 harg9 arg10 harg10 arg11 harg11 arg12 harg12 v2579) := by
  intro v2579
  unfold k0_part147
  refine walks_load h.l8 fun _ => ?_
  refine walks_store h.s8 fun _ => ?_
  refine walks_load h.l12 fun _ => ?_
  refine walks_load h.l8 fun _ => ?_
  exact walks_pure _

theorem w148 (h : Ok R W arg3 arg4 arg5 arg6 arg7 arg8 arg9 arg10 arg11 arg12) : ∀ v5 v2581 v2595 v2612 v2614 v2628, Walks R W (k0_part148 (F := F) i arg3 harg3 arg4 harg4 arg5 harg5 arg6 harg6 arg7 harg7 arg8 harg8 arg9 harg9 arg10 harg10 arg11 harg11 arg12 harg12 v5 v2581 v2595 v2612 v2614 v2628) := by
  intro v5 v2581 v2595 v2612 v2614 v2628
  unfold k0_part148
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  exact walks_pure _

theorem w149 (h : Ok R W arg3 arg4 arg5 arg6 arg7 arg8 arg9 arg10 arg11 arg12) : Walks R W (k0_part149 (F := F) i arg3 harg3 arg4 harg4 arg5 harg5 arg6 harg6 arg7 harg7 arg8 harg8 arg9 harg9 arg10 harg10 arg11 harg11 arg12 harg12) := by
  unfold k0_part149
  refine walks_load h.l3 fun _ => ?_
  refine walks_load h.l5 fun _ => ?_
  refine walks_load h.l12 fun _ => ?_
  refine walks_store h.s12 fun _ => ?_
  refine walks_load h.l12 fun _ => ?_
  refine walks_load h.l8 fun _ => ?_
  exact walks_pure _

theorem w150 (h : Ok R W arg3 arg4 arg5 arg6 arg7 arg8 arg9 arg10 arg11 arg12) : ∀ v2670 v2678 v2683 v2684, Walks R W (k0_part150 (F := F) i arg3 harg3 arg4 harg4 arg5 harg5 arg6 harg6 arg7 harg7 arg8 harg8 arg9 harg9 arg10 harg10 arg11 harg11 arg12 harg12 v2670 v2678 v2683 v2684) := by
  intro v2670 v2678 v2683 v2684
  unfold k0_part150
  refine walks_load h.l8 fun _ => ?_
  refine walks_store h.s8 fun _ => ?_
  refine walks_load h.l12 fun _ => ?_
  refine walks_load h.l8 fun _ => ?_
  exact walks_pure _

theorem w151 (h : Ok R W arg3 arg4 arg5 arg6 arg7 arg8 arg9 arg10 arg11 arg12) : ∀ v5 v2680 v2694 v2703 v2711 v2713 v2716 v2719, Walks R W (k0_part151 (F := F) i arg3 harg3 arg4 harg4 arg5 harg5 arg6 harg6 arg7 harg7 arg8 harg8 arg9 harg9 arg10 harg10 arg11 harg11 arg12 harg12 v5 v2680 v2694 v2703 v2711 v2713 v2716 v2719) := by
  intro v5 v2680 v2694 v2703 v2711 v2713 v2716 v2719
  unfold k0_part151
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  exact walks_pure _

theorem w152 (h : Ok R W arg3 arg4 arg5 arg6 arg7 arg8 arg9 arg10 arg11 arg12) : ∀ v2751, Walks R W (k0_part152 (F := F) i arg3 harg3 arg4 harg4 arg5 harg5 arg6 harg6 arg7 harg7 arg8 harg8 arg9 harg9 arg10 harg10 arg11 harg11 arg12 harg12 v2751) := by
  intro v2751
  unfold k0_part152
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  refine walks_load h.l12 fun _ => ?_
  exact walks_pure _

theorem w153 (h : Ok R W arg3 arg4 arg5 arg6 arg7 arg8 arg9 arg10 arg11 arg12) : ∀ v2769, Walks R W (k0_part153 (F := F) i arg3 harg3 arg4 harg4 arg5 harg5 arg6 harg6 arg7 harg7 arg8 harg8 arg9 harg9 arg10 harg10 arg11 harg11 arg12 harg12 v2769) := by
  intro v2769
  unfold k0_part153
  refine walks_load h.l8 fun _ => ?_
  refine walks_load h.l8 fun _ => ?_
  refine walks_store h.s8 fun _ => ?_
  refine walks_load h.l12 fun _ => ?_
  exact walks_pure _

theorem w154 (h : Ok R W arg3 arg4 arg5 arg6 arg7 arg8 arg9 arg10 arg11 arg12) : ∀ v5 v2779 v2793 v2802, Walks R W (k0_part154 (F := F) i arg3 harg3 arg4 harg4 arg5 harg5 arg6 harg6 arg7 harg7 arg8 harg8 arg9 harg9 arg10 harg10 arg11 harg11 arg12 harg12 v5 v2779 v2793 v2802) := by
  intro v5 v2779 v2793 v2802
  unfold k0_part154
  refine walks_load h.l8 fun _ => ?_
  refine walks_load h.l8 fun _ => ?_
  refine walks_store h.s8 fun _ => ?_
  refine walks_load h.l9 fun _ => ?_
  refine walks_load h.l10 fun _ => ?_
  refine walks_load h.l11 fun _ => ?_
  exact walks_pure _

theorem w155 (h : Ok R W arg3 arg4 arg5 arg6 arg7 arg8 arg9 arg10 arg11 arg12) : ∀ v2843, Walks R W (k0_part155 (F := F) i arg3 harg3 arg4 harg4 arg5 harg5 arg6 harg6 arg7 harg7 arg8 harg8 arg9 harg9 arg10 harg10 arg11 harg11 arg12 harg12 v2843) := by
  intro v2843
  unfold k0_part155
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  refine walks_load h.l12 fun _ => ?_
  refine walks_store h.s12 fun _ => ?_
  exact walks_pure _

theorem w156 (h : Ok R W arg3 arg4 arg5 arg6 arg7 arg8 arg9 arg10 arg11 arg12) : Walks R W (k0_part156 (F := F) i arg3 harg3 arg4 harg4 arg5 harg5 arg6 harg6 arg7 harg7 arg8 harg8 arg9 harg9 arg10 harg10 arg11 harg11 arg12 harg12) := by
  unfold k0_part156
  refine walks_load h.l12 fun _ => ?_
  refine walks_load h.l8 fun _ => ?_
  refine walks_load h.l8 fun _ => ?_
  refine walks_store h.s8 fun _ => ?_
  exact walks_pure _

theorem w157 (h : Ok R W arg3 arg4 arg5 arg6 arg7 arg8 arg9 arg10 arg11 arg12) : ∀ v5 v2878, Walks R W (k0_part157 (F := F) i arg3 harg3 arg4 harg4 arg5 harg5 arg6 harg6 arg7 harg7 arg8 harg8 arg9 harg9 arg10 harg10 arg11 harg11 arg12 harg12 v5 v2878) := by
  intro v5 v2878
  unfold k0_part157
  refine walks_load h.l12 fun _ => ?_
  refine walks_load h.l8 fun _ => ?_
  refine walks_load h.l8 fun _ => ?_
  refine walks_store h.s8 fun _ => ?_
  refine walks_load h.l9 fun _ => ?_
  exact walks_pure _

theorem w158 (h : Ok R W arg3 arg4 arg5 arg6 arg7 arg8 arg9 arg10 arg11 arg12) : ∀ v2892 v2925 v2933 v2934, Walks R W (k0_part158 (F := F) i arg3 harg3 arg4 harg4 arg5 harg5 arg6 harg6 arg7 harg7 arg8 harg8 arg9 harg9 arg10 harg10 arg11 harg11 arg12 harg12 v2892 v2925 v2933 v2934) := by
  intro v2892 v2925 v2933 v2934
  unfold k0_part158
  refine walks_load h.l10 fun _ => ?_
  refine walks_load h.l11 fun _ => ?_
  refine walks_load h.l9 fun _ => ?_
  refine walks_store h.s9 fun _ => ?_
  refine walks_load h.l3 fun _ => ?_
  refine walks_load h.l5 fun _ => ?_
  refine walks_load h.l12 fun _ => ?_
  refine walks_store h.s12 fun _ => ?_
  refine walks_load h.l3 fun _ => ?_
  refine walks_load h.l5 fun _ => ?_
  exact walks_pure _

theorem w159 (h : Ok R W arg3 arg4 arg5 arg6 arg7 arg8 arg9 arg10 arg11 arg12) : ∀ v2958, Walks R W (k0_part159 (F := F) i arg3 harg3 arg4 harg4 arg5 harg5 arg6 harg6 arg7 harg7 arg8 harg8 arg9 harg9 arg10 harg10 arg11 harg11 arg12 harg12 v2958) := by
  intro v2958
  unfold k0_part159
  refine walks_load h.l12 fun _ => ?_
  refine walks_store h.s12 fun _ => ?_
  refine walks_load h.l12 fun _ => ?_
  refine walks_load h.l8 fun _ => ?_
  exact walks_pure _

theorem w160 (h : Ok R W arg3 arg4 arg5 arg6 arg7 arg8 arg9 arg10 arg11 arg12) : ∀ v2975, Walks R W (k0_part160 (F := F) i arg3 harg3 arg4 harg4 arg5 harg5 arg6 harg6 arg7 harg7 arg8 harg8 arg9 harg9 arg10 harg10 arg11 harg11 arg12 harg12 v2975) := by
  intro v2975
  unfold k0_part160
  refine walks_load h.l8 fun _ => ?_
  refine walks_store h.s8 fun _ => ?_
  refine walks_load h.l12 fun _ => ?_
  refine walks_load h.l8 fun _ => ?_
  exact walks_pure _

theorem w161 (h : Ok R W arg3 arg4 arg5 arg6 arg7 arg8 arg9 arg10 arg11 arg12) : ∀ v5 v2977 v2991 v3008 v3010 v3024, Walks R W (k0_part161 (F := F) i arg3 harg3 arg4 harg4 arg5 harg5 arg6 harg6 arg7 harg7 arg8 harg8 arg9 harg9 arg10 harg10 arg11 harg11 arg12 harg12 v5 v2977 v2991 v3008 v3010 v3024) := by
  intro v5 v2977 v2991 v3008 v3010 v3024
  unfold k0_part161
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  refine walks_store h.s9 fun _ => ?_
  refine walks_load h.l12 fun _ => ?_
  refine walks_load h.l8 fun _ => ?_
  exact walks_pure _

theorem w162 (h : Ok R W arg3 arg4 arg5 arg6 arg7 arg8 arg9 arg10 arg11 arg12) : ∀ v3048 v3051, Walks R W (k0_part162 (F := F) i arg3 harg3 arg4 harg4 arg5 harg5 arg6 harg6 arg7 harg7 arg8 harg8 arg9 harg9 arg10 harg10 arg11 harg11 arg12 harg12 v3048 v3051) := by
  intro v3048 v3051
  unfold k0_part162
  refine walks_load h.l8 fun _ => ?_
  refine walks_store h.s8 fun _ => ?_
  refine walks_load h.l12 fun _ => ?_
  refine walks_load h.l8 fun _ => ?_
  exact walks_pure _

theorem w163 (h : Ok R W arg3 arg4 arg5 arg6 arg7 arg8 arg9 arg10 arg11 arg12) : ∀ v5 v3058 v3072 v3081 v3085, Walks R W (k0_part163 (F := F) i arg3 harg3 arg4 harg4 arg5 harg5 arg6 harg6 arg7 harg7 arg8 harg8 arg9 harg9 arg10 harg10 arg11 harg11 arg12 harg12 v5 v3058 v3072 v3081 v3085) := by
  intro v5 v3058 v3072 v3081 v3085
  unfold k0_part163
  refine walks_load h.l8 fun _ => ?_
  refine walks_store h.s8 fun _ => ?_
  refine walks_load h.l9 fun _ => ?_
  refine walks_load h.l10 fun _ => ?_
  refine walks_load h.l11 fun _ => ?_
  refine walks_load h.l9 fun _ => ?_
  exact walks_pure _

theorem w164 (h : Ok R W arg3 arg4 arg5 arg6 arg7 arg8 arg9 arg10 arg11 arg12) : ∀ v5, Walks R W (k0_part164 (F := F) i arg3 harg3 arg4 harg4 arg5 harg5 arg6 harg6 arg7 harg7 arg8 harg8 arg9 harg9 arg10 harg10 arg11 harg11 arg12 harg12 v5) := by
  intro v5
  unfold k0_part164
  refine walks_bind (w59 h) fun _ => ?_
  refine walks_bind (w60 h _) ?_; rintro ⟨_, _, _⟩
  refine walks_bind (w61 h _ _ _) ?_; rintro ⟨_, _, _⟩
  refine walks_bind (w62 h _ _ _ _ _) fun _ => ?_
  refine walks_bind (w63 h _) ?_; rintro ⟨_, _, _⟩
  refine walks_bind (w64 h _ _ _) ?_; rintro ⟨_, _, _⟩
  refine walks_bind (w65 h _ _ _ _ _ _) ?_; rintro ⟨_, _, _, _⟩
  refine walks_bind (w66 h _ _ _ _ _) fun _ => ?_
  refine walks_bind (w67 h _) ?_; rintro ⟨_, _⟩
  refine walks_bind (w68 h _ _) ?_; rintro ⟨_, _, _, _, _⟩
  refine walks_bind (w69 h _ _ _ _ _ _) fun _ => ?_
  refine walks_bind (w70 h) fun _ => ?_
  refine walks_bind (w71 h) ?_; rintro ⟨_, _⟩
  refine walks_bind (w72 h _ _) ?_; rintro ⟨_, _, _, _⟩
  refine walks_bind (w73 h _ _ _ _ _) fun _ => ?_
  refine walks_bind (w74 h _) ?_; rintro ⟨_, _, _⟩
  refine walks_bind (w75 h _) ?_; rintro ⟨_, _, _, _⟩
  refine walks_bind (w76 h _ _ _ _ _ _ _) ?_; rintro ⟨_, _, _⟩
  refine walks_bind (w77 h _ _ _) ?_; rintro ⟨_, _, _, _, _⟩
  refine walks_bind (w78 h _ _ _ _ _ _) fun _ => ?_
  refine walks_bind (w79 h _) fun _ => ?_
  refine walks_bind (w80 h _) ?_; rintro ⟨_, _, _⟩
  refine walks_bind (w81 h _ _ _) fun _ => ?_
  refine walks_bind (w82 h _) ?_; rintro ⟨_, _, _⟩
  refine walks_bind (w83 h _ _ _ _) ?_; rintro ⟨_, _, _⟩
  refine walks_bind (w84 h _ _ _ _ _) fun _ => ?_
  refine walks_bind (w85 h _) ?_; rintro ⟨_, _, _⟩
  refine walks_bind (w86 h _ _ _ _) ?_; rintro ⟨_, _, _⟩
  refine walks_bind (w87 h _ _ _ _ _ _) ?_; rintro ⟨_, _⟩
  refine walks_bind (w88 h _ _ _) fun _ => ?_
  refine walks_bind (w89 h) ?_; rintro ⟨_, _, _, _, _⟩
  refine walks_bind (w90 h _ _ _ _) ?_; rintro ⟨_, _, _, _, _, _⟩
  refine walks_bind (w91 h _ _ _ _ _ _ _ _) fun _ => ?_
  refine walks_bind (w92 h _) fun _ => ?_
  refine walks_bind (w93 h _) ?_; rintro ⟨_, _, _⟩
  refine walks_bind (w94 h _ _ _ _) fun _ => ?_
  refine walks_bind (w95 h _) fun _ => ?_
  refine walks_bind (w96 h) ?_; rintro ⟨_, _⟩
  refine walks_bind (w97 h _ _) ?_; rintro ⟨_, _, _⟩
  refine walks_bind (w98 h _ _ _ _) fun _ => ?_
  refine walks_bind (w99 h _) ?_; rintro ⟨_, _, _⟩
  refine walks_bind (w100 h _) ?_; rintro ⟨_, _, _⟩
  refine walks_bind (w101 h _ _ _ _ _ _) ?_; rintro ⟨_, _⟩
  refine walks_bind (w102 h _ _) ?_; rintro ⟨_, _, _, _⟩
  refine walks_bind (w103 h _ _ _ _ _) fun _ => ?_
  refine walks_bind (w104 h _) fun _ => ?_
  refine walks_bind (w105 h _) fun _ => ?_
  refine walks_bind (w106 h) fun _ => ?_
  refine walks_bind (w107 h _) ?_; rintro ⟨_, _, _⟩
  refine walks_bind (w108 h _ _ _) ?_; rintro ⟨_, _, _⟩
  refine walks_bind (w109 h _ _ _ _ _) fun _ => ?_
  refine walks_bind (w110 h _) ?_; rintro ⟨_, _, _⟩
  refine walks_bind (w111 h _ _ _) ?_; rintro ⟨_, _, _⟩
  refine walks_bind (w112 h _ _ _ _ _ _) ?_; rintro ⟨_, _, _⟩
  refine walks_bind (w113 h _ _ _ _) fun _ => ?_
  refine walks_bind (w114 h _) ?_; rintro ⟨_, _, _⟩
  refine walks_bind (w115 h _ _ _) ?_; rintro ⟨_, _, _, _, _⟩
  refine walks_bind (w116 h _ _ _ _ _ _) fun _ => ?_
  refine walks_bind (w117 h) fun _ => ?_
  refine walks_bind (w118 h _) ?_; rintro ⟨_, _, _⟩
  exact walks_pure _

theorem w165 (h : Ok R W arg3 arg4 arg5 arg6 arg7 arg8 arg9 arg10 arg11 arg12) : ∀ v5 v1740 v1754 v1763, Walks R W (k0_part165 (F := F) i arg3 harg3 arg4 harg4 arg5 harg5 arg6 harg6 arg7 harg7 arg8 harg8 arg9 harg9 arg10 harg10 arg11 harg11 arg12 harg12 v5 v1740 v1754 v1763) := by
  intro v5 v1740 v1754 v1763
  unfold k0_part165
  refine walks_bind (w119 h _ _ _ _) ?_; rintro ⟨_, _, _, _⟩
  refine walks_bind (w120 h _ _ _ _) ?_; rintro ⟨_, _⟩
  refine walks_bind (w121 h _ _) ?_; rintro ⟨_, _, _⟩
  refine walks_bind (w122 h _ _) ?_; rintro ⟨_, _, _⟩
  refine walks_bind (w123 h _ _ _ _ _) fun _ => ?_
  refine walks_bind (w124 h _) ?_; rintro ⟨_, _, _, _, _, _⟩
  refine walks_bind (w125 h _ _ _ _ _) ?_; rintro ⟨_, _, _, _, _, _, _⟩
  refine walks_bind (w126 h _ _ _ _ _ _ _ _ _) fun _ => ?_
  refine walks_bind (w127 h _) ?_; rintro ⟨_, _⟩
  refine walks_bind (w128 h _ _) ?_; rintro ⟨_, _, _, _, _⟩
  refine walks_bind (w129 h _ _ _ _ _ _) fun _ => ?_
  refine walks_bind (w130 h) ?_; rintro ⟨_, _⟩
  refine walks_bind (w131 h _ _) ?_; rintro ⟨_, _⟩
  refine walks_bind (w132 h _ _ _) ?_; rintro ⟨_, _, _⟩
  refine walks_bind (w133 h _ _ _) ?_; rintro ⟨_, _⟩
  refine walks_bind (w134 h _ _) fun _ => ?_
  refine walks_bind (w135 h _) ?_; rintro ⟨_, _, _⟩
  refine walks_bind (w136 h _ _) ?_; rintro ⟨_, _, _⟩
  refine walks_bind (w137 h _ _ _ _ _) ?_; rintro ⟨_, _⟩
  refine walks_bind (w138 h _ _) ?_; rintro ⟨_, _⟩
  refine walks_bind (w139 h _ _) ?_; rintro ⟨_, _, _⟩
  refine walks_bind (w140 h _ _ _ _ _) ?_; rintro ⟨_, _⟩
  refine walks_bind (w141 h _ _ _) fun _ => ?_
  refine walks_bind (w142 h _) fun _ => ?_
  refine walks_bind (w143 h) ?_; rintro ⟨_, _⟩
  refine walks_bind (w144 h _ _) ?_; rintro ⟨_, _⟩
  refine walks_bind (w145 h _ _ _) fun _ => ?_
  refine walks_bind (w146 h _) ?_; rintro ⟨_, _, _⟩
  refine walks_bind (w147 h _) ?_; rintro ⟨_, _, _⟩
  refine walks_bind (w148 h _ _ _ _ _ _) fun _ => ?_
  refine walks_bind (w149 h) ?_; rintro ⟨_, _, _, _, _⟩
  refine walks_bind (w150 h _ _ _ _) ?_; rintro ⟨_, _, _, _, _, _⟩
  refine walks_bind (w151 h _ _ _ _ _ _ _ _) fun _ => ?_
  refine walks_bind (w152 h _) fun _ => ?_
  refine walks_bind (w153 h _) ?_; rintro ⟨_, _, _⟩
  refine walks_bind (w154 h _ _ _ _) fun _ => ?_
  refine walks_bind (w155 h _) fun _ => ?_
  refine walks_bind (w156 h) ?_; rintro ⟨_, _⟩
  refine walks_bind (w157 h _ _) ?_; rintro ⟨_, _, _⟩
  refine walks_bind (w158 h _ _ _ _) fun _ => ?_
  refine walks_bind (w159 h _) ?_; rintro ⟨_, _, _⟩
  refine walks_bind (w160 h _) ?_; rintro ⟨_, _, _⟩
  refine walks_bind (w161 h _ _ _ _ _ _) ?_; rintro ⟨_, _⟩
  refine walks_bind (w162 h _ _) ?_; rintro ⟨_, _, _, _⟩
  refine walks_bind (w163 h _ _ _ _ _) fun _ => ?_
  refine walks_store h.s9 fun _ => ?_
  refine walks_load h.l9 fun _ => ?_
  exact walks_pure _

/-- The body, whole. -/
theorem walk (h : Ok R W arg3 arg4 arg5 arg6 arg7 arg8 arg9 arg10 arg11 arg12) : Walks R W (cc0_fox_attn (F := F) i arg3 harg3 arg4 harg4 arg5 harg5 arg6 harg6 arg7 harg7 arg8 harg8 arg9 harg9 arg10 harg10 arg11 harg11 arg12 harg12) := by
  unfold cc0_fox_attn
  refine walks_dite (fun _ => ?_) (fun _ => ?_)
  · refine walks_bind (w58 h _) ?_; rintro ⟨_, _, _, _⟩
    refine walks_load h.l7 fun _ => ?_
    refine walks_store h.s7 fun _ => ?_
    refine walks_dite (fun _ => ?_) (fun _ => ?_)
    · refine walks_bind (w164 h _) ?_; rintro ⟨_, _, _⟩
      refine walks_bind (w165 h _ _ _ _) ?_; rintro ⟨_, _, _, _, _⟩
      refine walks_load h.l7 fun _ => ?_
      refine walks_store h.s7 fun _ => ?_
      exact walks_pure _
    · exact walks_pure _
  · refine walks_dite (fun _ => ?_) (fun _ => ?_)
    · refine walks_bind (w164 h _) ?_; rintro ⟨_, _, _⟩
      refine walks_bind (w165 h _ _ _ _) ?_; rintro ⟨_, _, _, _, _⟩
      refine walks_load h.l7 fun _ => ?_
      refine walks_store h.s7 fun _ => ?_
      exact walks_pure _
    · exact walks_pure _

end Cert.AttnIdeal.Run

end
-- ==== Proof.AttnIdealFrame.lean ====
/- The attention's frame: the body walks over its ten buffers, storing to no input's, so
   every input array ends as it began and no semaphore is left raised. The output's
   contents are not named here. -/
module

public import proofs.«01_k».proof.Proof.AttnIdealWalk

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Walk Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each input's buffer keeps its block, the output's is left unnamed, the scratch buffers are at
    any contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed ⟨4, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- The window whose contents are not named: the output's. -/
def fgt (w : Fin cfg0.W) : Bool := w.val == 4

/-- A whole memref owned at `X` is its buffer held at contents that read `X`. -/
theorem owns_cell (c : Dev nD) {s : Shape} {e : EltTy} (a : Memref sig .tc .vmem s e) (ha : a.IsWhole) (X : s.Idx → Elt F e) :
    (owns (c : Thread nD τ) a fullShare X : sProp 𝕄) = cell (c : Thread nD τ) a.view.ref (fun f => a.view.read (Elt F) f = X) := by
  unfold owns cell; rw [ha.set_eq_univ]

/-- The same for a memref owned at some contents. -/
theorem some_in (c : Dev nD) {s : Shape} {e : EltTy} (a : Memref sig .tc .vmem s e) (ha : a.IsWhole) :
    (iprop(∃ X, owns (c : Thread nD τ) a fullShare X) : sProp 𝕄) ⊢ cell (c : Thread nD τ) a.view.ref (fun _ => True) := by
  unfold owns cell; rw [ha.set_eq_univ]
  iintro ⟨%X, %f, %hf, H⟩
  iexists f
  isplitr
  · ipureintro; trivial
  iexact H

theorem some_out (c : Dev nD) {s : Shape} {e : EltTy} (a : Memref sig .tc .vmem s e) (ha : a.IsWhole) :
    (cell (c : Thread nD τ) a.view.ref (fun _ => True) : sProp 𝕄) ⊢ iprop(∃ X, owns (c : Thread nD τ) a fullShare X) := by
  unfold owns cell; rw [ha.set_eq_univ]
  iintro ⟨%f, %hf, H⟩
  iexists (a.view.read (Elt F) f), f
  isplitr
  · ipureintro; rfl
  iexact H

section Body
variable (arg3 : Memref sig .tc .vmem S2048x256 .bf16) (harg3 : arg3.IsWhole) (arg4 : Memref sig .tc .vmem S2048x256 .bf16) (harg4 : arg4.IsWhole)
  (arg5 : Memref sig .tc .vmem S4096x256 .bf16) (harg5 : arg5.IsWhole) (arg6 : Memref sig .tc .vmem S4096x128 .bf16) (harg6 : arg6.IsWhole) (arg7 : Memref sig .tc .vmem S2048x128 .bf16) (harg7 : arg7.IsWhole)
  (x3 x4 : Vec F S2048x256 .bf16) (x5 : Vec F S4096x256 .bf16) (x6 : Vec F S4096x128 .bf16)

/-- The ten buffers. -/
def refs : Fin 10 → Ref sig .tc
  | 0 => arg3.view.ref | 1 => arg4.view.ref | 2 => arg5.view.ref | 3 => arg6.view.ref | 4 => arg7.view.ref
  | 5 => cc0_scratch0 | 6 => cc0_scratch1 | 7 => cc0_scratch2 | 8 => cc0_scratch3 | 9 => cc0_scratch4

/-- What is known of each one's contents: the inputs' are their blocks. -/
def known (c : Dev nD) : (j : Fin 10) → Buf (Elt F) ((c : Thread nD τ).loc (refs arg3 arg4 arg5 arg6 arg7 j)) → Prop
  | 0 => fun f => arg3.view.read (Elt F) f = x3
  | 1 => fun f => arg4.view.read (Elt F) f = x4
  | 2 => fun f => arg5.view.read (Elt F) f = x5
  | 3 => fun f => arg6.view.read (Elt F) f = x6
  | 4 => fun _ => True | 5 => fun _ => True | 6 => fun _ => True | 7 => fun _ => True | 8 => fun _ => True | 9 => fun _ => True

/-- All ten, held. -/
def all (c : Dev nD) : sProp 𝕄 :=
  bigSep Finset.univ fun j => cell (c : Thread nD τ) (refs arg3 arg4 arg5 arg6 arg7 j) (known arg3 arg4 arg5 arg6 arg7 x3 x4 x5 x6 c j)

theorem all_eq (c : Dev nD) : (all arg3 arg4 arg5 arg6 arg7 x3 x4 x5 x6 c : sProp 𝕄)
    = iprop(cell (c : Thread nD τ) arg3.view.ref (fun f => arg3.view.read (Elt F) f = x3)
      ∗ cell (c : Thread nD τ) arg4.view.ref (fun f => arg4.view.read (Elt F) f = x4)
      ∗ cell (c : Thread nD τ) arg5.view.ref (fun f => arg5.view.read (Elt F) f = x5)
      ∗ cell (c : Thread nD τ) arg6.view.ref (fun f => arg6.view.read (Elt F) f = x6)
      ∗ cell (c : Thread nD τ) arg7.view.ref (fun _ => True)
      ∗ cell (c : Thread nD τ) cc0_scratch0 (fun _ => True) ∗ cell (c : Thread nD τ) cc0_scratch1 (fun _ => True)
      ∗ cell (c : Thread nD τ) cc0_scratch2 (fun _ => True) ∗ cell (c : Thread nD τ) cc0_scratch3 (fun _ => True)
      ∗ cell (c : Thread nD τ) cc0_scratch4 (fun _ => True)) :=
  bigSep_univ_eq_bigSepL [(0 : Fin 10), 1, 2, 3, 4, 5, 6, 7, 8, 9] (by decide) (by decide) _

/-- The body, on whole buffers: the inputs' blocks are kept. -/
theorem body_walk (c : Dev nD) (i : grid0.Coords) :
    (all arg3 arg4 arg5 arg6 arg7 x3 x4 x5 x6 c : sProp 𝕄)
      ⊢ wp frame (wpE (defs₀ (F := F)) Variants.none (c : Thread nD τ) none) Set.univ
          (cc0_fox_attn (F := F) i arg3 harg3 arg4 harg4 arg5 harg5 arg6 harg6 arg7 harg7
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _))
          (fun _ => all arg3 arg4 arg5 arg6 arg7 x3 x4 x5 x6 c) :=
  wp_walk Variants.none (c : Thread nD τ) none Set.univ (refs arg3 arg4 arg5 arg6 arg7) (known arg3 arg4 arg5 arg6 arg7 x3 x4 x5 x6 c)
    (fun j => 4 ≤ j.val)
    (fun j hj f => by
      match j, hj with
      | 4, _ => trivial
      | 5, _ => trivial
      | 6, _ => trivial
      | 7, _ => trivial
      | 8, _ => trivial
      | 9, _ => trivial)
    _ (walk ⟨⟨0, rfl⟩, ⟨1, rfl⟩, ⟨2, rfl⟩, ⟨3, rfl⟩, ⟨4, rfl⟩, ⟨5, rfl⟩, ⟨6, rfl⟩, ⟨7, rfl⟩, ⟨8, rfl⟩, ⟨9, rfl⟩,
      ⟨4, by decide, rfl⟩, ⟨5, by decide, rfl⟩, ⟨6, by decide, rfl⟩, ⟨7, by decide, rfl⟩, ⟨8, by decide, rfl⟩, ⟨9, by decide, rfl⟩⟩)

end Body

/-- The invariant between points, its parts named. -/
theorem inv_eq (c : Dev nD) : (Pipeline.ΦA spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f))
      ∗ (∃ r, prngReg c r)) := by
  unfold Pipeline.ΦA; rw [scopedRest0_eq]

theorem scr_in (c : Dev nD) (b : Ref sig .tc) :
    (iprop(∃ f : Buf (Elt F) ((c : Thread nD τ).loc b), ((c : Thread nD τ).loc b) ↦{fullShare} f) : sProp 𝕄)
      ⊢ cell (c : Thread nD τ) b (fun _ => True) := by
  unfold cell
  iintro ⟨%f, H⟩
  iexists f
  isplitr
  · ipureintro; trivial
  iexact H

theorem scr_out (c : Dev nD) (b : Ref sig .tc) :
    (cell (c : Thread nD τ) b (fun _ => True) : sProp 𝕄)
      ⊢ iprop(∃ f : Buf (Elt F) ((c : Thread nD τ).loc b), ((c : Thread nD τ).loc b) ↦{fullShare} f) := by
  unfold cell
  iintro ⟨%f, %h, H⟩
  iexists f
  iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  have h := body_walk (F := F) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (iblk m c 0 t) (iblk m c 1 t) (iblk m c 2 t) (iblk m c 3 t) c (grid0.coords t)
  unfold bodyPre bodyPost
  rw [show (dats m 0 c).Φ t.castSucc = Pipeline.ΦA spec0 c from rfl, show (dats m 0 c).Φ t.succ = Pipeline.ΦA spec0 c from rfl, inv_eq]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl)]
  rw [owns_cell c (st0_0 t) (hstage0_0 ((cfg0.slots t 0).cast nbuf0_0)), owns_cell c (st0_1 t) (hstage0_1 ((cfg0.slots t 1).cast nbuf0_1)),
    owns_cell c (st0_2 t) (hstage0_2 ((cfg0.slots t 2).cast nbuf0_2)), owns_cell c (st0_3 t) (hstage0_3 ((cfg0.slots t 3).cast nbuf0_3))]
  rw [all_eq] at h
  iintro ⟨⟨⟨S0, S1, S2, S3, S4⟩, Hg⟩, Ho, ⟨%d0, H0⟩, ⟨%d1, H1⟩, ⟨%d2, H2⟩, ⟨%d3, H3⟩, H4⟩
  ihave S0 := (scr_in c _) $$ S0
  ihave S1 := (scr_in c _) $$ S1
  ihave S2 := (scr_in c _) $$ S2
  ihave S3 := (scr_in c _) $$ S3
  ihave S4 := (scr_in c _) $$ S4
  ihave H4 := (some_in c (st0_4 t) (hstage0_4 ((cfg0.slots t 4).cast nbuf0_4))) $$ H4
  iapply (wp_wand_r _ _ _)
  isplitl [H0 H1 H2 H3 H4 S0 S1 S2 S3 S4]
  · iapply h
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iexact S4
  iintro %_ ⟨H0, H1, H2, H3, H4, S0, S1, S2, S3, S4⟩
  ihave S0 := (scr_out c _) $$ S0
  ihave S1 := (scr_out c _) $$ S1
  ihave S2 := (scr_out c _) $$ S2
  ihave S3 := (scr_out c _) $$ S3
  ihave S4 := (scr_out c _) $$ S4
  ihave H4 := (some_out c (st0_4 t) (hstage0_4 ((cfg0.slots t 4).cast nbuf0_4))) $$ H4
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]
  · iexact Ho
  isplitl [H0]; · iexact H0
  isplitl [H1]; · iexact H1
  isplitl [H2]; · iexact H2
  isplitl [H3]; · iexact H3
  iexact H4

/-- The body table's row at point `t`'s slots is the body as `bodyAt0` spells it. -/
theorem body_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt := fun t => by
  rw [bigSep_W0, bigSep_W0, body_row]
  exact triple_restated (sound_body m c t) rfl .rfl fun _ => .rfl

/-- What every run ends with: the input arrays as launched, every counter at zero. -/
def Post (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- THE FRAME of the attention. -/
theorem frame_run : θ_run defs (onTc (τ := τ) (main (F := F))) ⟨m, fun _ => 0, ρ⟩ (Post m) :=
  (θ_run defs _ _).mono (fun r h => ⟨fun c => ⟨(h.1.arr_in c 1 rfl).trans rfl, (h.1.arr_in c 2 rfl).trans rfl, (h.1.arr_in c 3 rfl).trans rfl⟩, h.2⟩)
    (run_main m ρ)

end Cert.AttnIdeal.Run

end
-- ==== Proof.AttnBlocks.lean ====
/- The attention's kernel body as a sequence of blocks: the value columns are laid out, a
   tile's logits are stored, a tile's running maximum and weighted sum are brought on by one
   block of keys, and a tile's rows are finished. Each block continues with what follows it. -/
module

public import proofs.«01_k».proof.Proof.Gen.AttnIdeal.Frame

@[expose] public section

set_option maxRecDepth 16384

noncomputable section

namespace Cert.AttnIdeal.Run

open Idealize.ShloMosaic Idealize.ShloMosaic.TcCoe Idealize.ShloMosaic.Tactic
open Idealize.SL Idealize.SL.Sem
open Facts₀ Facts

variable {F : FTy → Type} [FloatOps F]

theorem inbQ (sub : Fin 4) : ∀ a, (![512 * sub.1, 0] : Fin 2 → Nat) a + S512x256.size a ≤ S2048x256.size a := by revert sub; decide
theorem inbQh (hh : Fin 2) : ∀ a, (![0, 128 * hh.1] : Fin 2 → Nat) a + S512x128.size a ≤ S512x256.size a := by revert hh; decide
theorem inbK (c : Fin 8) (hh : Fin 2) : ∀ a, (![512 * c.1, 128 * hh.1] : Fin 2 → Nat) a + S512x128.size a ≤ S4096x256.size a := by revert c hh; decide
theorem inbS (sub : Fin 4) : ∀ a, (![sub.1, 0, 0, 0, 0] : Fin 5 → Nat) a + S1x3x2x512x512.size a ≤ S4x3x2x512x512.size a := by revert sub; decide
theorem inbSf (slot : Fin 3) (hh : Fin 2) : ∀ a, (![slot.1, hh.1, 0, 0] : Fin 4 → Nat) a + S1x1x512x512.size a ≤ S3x2x512x512.size a := by revert slot hh; decide
theorem inbSt (hh : Fin 2) : ∀ a, (![2, hh.1, 0, 0] : Fin 4 → Nat) a + S1x1x256x256.size a ≤ S3x2x512x512.size a := by revert hh; decide
theorem inbSb (hh : Fin 2) : ∀ a, (![2, hh.1, 256, 0] : Fin 4 → Nat) a + S1x1x256x512.size a ≤ S3x2x512x512.size a := by revert hh; decide
theorem inbM (sub : Fin 4) : ∀ a, (![sub.1, 0, 0, 0] : Fin 4 → Nat) a + S1x2x512x128.size a ≤ S4x2x512x128.size a := by revert sub; decide
theorem inbMh (hh : Fin 2) : ∀ a, (![hh.1, 0, 0] : Fin 3 → Nat) a + S1x512x128.size a ≤ S2x512x128.size a := by revert hh; decide
theorem inbA (sub : Fin 4) : ∀ a, (![sub.1, 0, 0] : Fin 3 → Nat) a + S1x512x256.size a ≤ S4x512x256.size a := by revert sub; decide
theorem inbV (c : Fin 8) : ∀ a, (![512 * c.1, 0] : Fin 2 → Nat) a + S512x256.size a ≤ S4096x256.size a := by revert c; decide
theorem inbVh (c : Fin 8) : ∀ a, (![512 * c.1, 0] : Fin 2 → Nat) a + S256x256.size a ≤ S4096x256.size a := by revert c; decide
theorem inbO (sub : Fin 4) : ∀ a, (![512 * sub.1, 0] : Fin 2 → Nat) a + S512x128.size a ≤ S2048x128.size a := by revert sub; decide
theorem packO (sub : Fin 4) : (Rect.unit (s := S2048x128) ![512 * sub.1, 0] S512x128.size (inbO sub)).PackedRows (EltTy.packing .bf16) := by revert sub; decide

/-- A program of the kernel. -/
abbrev PR (F : FTy → Type) [FloatOps F] := Prog (TpuEff nD τ sig (Elt F) Λ₀ .tc) PUnit

section Pieces

/-- The value columns of one head of a pair, beside the column that sums its weights: which lanes are kept, and which lane is the sum's. -/
def headV (v12 : Vec F S4096x128 .bf16) (low : Bool) : FVec F S4096x128 .bf16 :=
  truncf .bf16 (select (match low with
      | true => cmpi .slt (iota .tc S4096x128 32 [1] iota_S4096x128_d1_w32) (broadcast S4096x128 64#32)
      | false => cmpi .sge (iota .tc S4096x128 32 [1] iota_S4096x128_d1_w32) (broadcast S4096x128 64#32))
    (extf .f32 v12 bitsLt_bf16_f32) (broadcast S4096x128 (Scalar.ofBits .f32 0x00000000#32))) bitsLt_bf16_f32

def oneV (l : BitVec 32) : FVec F S4096x128 .bf16 :=
  truncf .bf16 (select (cmpi .eq (iota .tc S4096x128 32 [1] iota_S4096x128_d1_w32) (broadcast S4096x128 l))
    (broadcast S4096x128 (Scalar.ofBits .f32 0x3F800000#32)) (broadcast S4096x128 (Scalar.ofBits .f32 0x00000000#32))) bitsLt_bf16_f32

def topD (q kk : Vec F S512x128 .bf16) : FVec F S256x256 .f32 :=
  matmul dot_S256x128_S256x128_S256x256_1_1_0_0_n_n none (extractStridedSlice S256x128 ![0, 0] q slices_S512x128_o0_0_S256x128)
    (extractStridedSlice S256x128 ![0, 0] kk slices_S512x128_o0_0_S256x128) (constant S256x256 .f32 0x00000000#32)

def botD (q kk : Vec F S512x128 .bf16) : FVec F S256x512 .f32 :=
  matmul dot_S256x128_S512x128_S256x512_1_1_0_0_n_n none (extractStridedSlice S256x128 ![256, 0] q slices_S512x128_o256_0_S256x128) kk
    (constant S256x512 .f32 0x00000000#32)

def full (q kk : Vec F S512x128 .bf16) : FVec F S512x512 .f32 :=
  matmul dot_S512x128_S512x128_S512x512_1_1_0_0_n_n none q kk (constant S512x512 .f32 0x00000000#32)

abbrev tri : IVec S128x128 1 := cmpi .sge (iota .tc S128x128 32 [0] iota_S128x128_d0_w32) (iota .tc S128x128 32 [1] iota_S128x128_d1_w32)

/-- A diagonal block's four columns of logits, the keys after the query masked. -/
def col0 (a : Vec F S128x128 .f32) (b : Vec F S384x128 .f32) : FVec F S512x128 .f32 :=
  concatenate S512x128 0 [⟨S128x128, select tri a (broadcast S128x128 (Scalar.ofBits .f32 0xFF800000#32))⟩, ⟨S384x128, b⟩] concatenates_S128x128_S384x128_S512x128_d0
def col1 (a : Vec F S128x128 .f32) (b : Vec F S256x128 .f32) : FVec F S512x128 .f32 :=
  concatenate S512x128 0 [⟨S128x128, broadcast S128x128 (Scalar.ofBits .f32 0xFF800000#32)⟩, ⟨S128x128, select tri a (broadcast S128x128 (Scalar.ofBits .f32 0xFF800000#32))⟩, ⟨S256x128, b⟩] concatenates_S128x128_S128x128_S256x128_S512x128_d0
def col2 (a b : Vec F S128x128 .f32) : FVec F S512x128 .f32 :=
  concatenate S512x128 0 [⟨S256x128, broadcast S256x128 (Scalar.ofBits .f32 0xFF800000#32)⟩, ⟨S128x128, select tri a (broadcast S128x128 (Scalar.ofBits .f32 0xFF800000#32))⟩, ⟨S128x128, b⟩] concatenates_S256x128_S128x128_S128x128_S512x128_d0
def col3 (a : Vec F S128x128 .f32) : FVec F S512x128 .f32 :=
  concatenate S512x128 0 [⟨S384x128, broadcast S384x128 (Scalar.ofBits .f32 0xFF800000#32)⟩, ⟨S128x128, select tri a (broadcast S128x128 (Scalar.ofBits .f32 0xFF800000#32))⟩] concatenates_S384x128_S128x128_S512x128_d0

/-- The largest logit of each row, along every lane. -/
def topOf (c0 c1 c2 c3 : FVec F S512x128 .f32) : FVec F S512x128 .f32 :=
  broadcastTo S512x128 (shapeCast S512x1 (shapeCast S512x1 (multiReduction .maximumf [1] S512 (maximumf (maximumf (maximumf c0 c1) c2) c3) 0xFF800000#32 reduces_S512x128_S512 (.inl rfl) rfl) shapeCasts_S512_S512x1) shapeCasts_S512x1_S512x1) broadcasts_S512x1_S512x128

/-- A diagonal block's weights. -/
def weightsD (c0 c1 c2 c3 : FVec F S512x128 .f32) (mx : FVec F S512x128 .f32) : FVec F S512x512 .bf16 :=
  truncf .bf16 (concatenate S512x512 1 [⟨S512x128, exp2 (subf c0 mx)⟩,
    ⟨S512x128, concatenate S512x128 0 [⟨S128x128, broadcast S128x128 (Scalar.ofBits .f32 0x00000000#32)⟩, ⟨S384x128, exp2 (subf (extractStridedSlice S384x128 ![128, 0] c1 slices_S512x128_o128_0_S384x128) (extractStridedSlice S384x128 ![128, 0] mx slices_S512x128_o128_0_S384x128))⟩] concatenates_S128x128_S384x128_S512x128_d0⟩,
    ⟨S512x128, concatenate S512x128 0 [⟨S256x128, broadcast S256x128 (Scalar.ofBits .f32 0x00000000#32)⟩, ⟨S256x128, exp2 (subf (extractStridedSlice S256x128 ![256, 0] c2 slices_S512x128_o256_0_S256x128) (extractStridedSlice S256x128 ![256, 0] mx slices_S512x128_o256_0_S256x128))⟩] concatenates_S256x128_S256x128_S512x128_d0⟩,
    ⟨S512x128, concatenate S512x128 0 [⟨S384x128, broadcast S384x128 (Scalar.ofBits .f32 0x00000000#32)⟩, ⟨S128x128, exp2 (subf (extractStridedSlice S128x128 ![384, 0] c3 slices_S512x128_o384_0_S128x128) (extractStridedSlice S128x128 ![384, 0] mx slices_S512x128_o384_0_S128x128))⟩] concatenates_S384x128_S128x128_S512x128_d0⟩]
    concatenates_S512x128_S512x128_S512x128_S512x128_S512x512_d1) bitsLt_bf16_f32

def pvTop (p0 p1 : FVec F S512x512 .bf16) (vt vb : Vec F S256x256 .bf16) : FVec F S256x256 .f32 :=
  addf (matmul dot_S256x256_S256x256_S256x256_1_0_0_1_n_n none (extractStridedSlice S256x256 ![0, 0] p0 slices_S512x512_o0_0_S256x256) vt (constant S256x256 .f32 0x00000000#32))
    (matmul dot_S256x256_S256x256_S256x256_1_0_0_1_n_n none (extractStridedSlice S256x256 ![0, 0] p1 slices_S512x512_o0_0_S256x256) vb (constant S256x256 .f32 0x00000000#32))

def pvBot (p0 p1 : FVec F S512x512 .bf16) (vt vb : Vec F S512x256 .bf16) : FVec F S256x256 .f32 :=
  addf (matmul dot_S256x512_S512x256_S256x256_1_0_0_1_n_n none (extractStridedSlice S256x512 ![256, 0] p0 slices_S512x512_o256_0_S256x512) vt (constant S256x256 .f32 0x00000000#32))
    (matmul dot_S256x512_S512x256_S256x256_1_0_0_1_n_n none (extractStridedSlice S256x512 ![256, 0] p1 slices_S512x512_o256_0_S256x512) vb (constant S256x256 .f32 0x00000000#32))

/-- The running maximum after a block of logits. -/
def nextM (sc : FVec F S512x512 .f32) (mp : FVec F S512x128 .f32) : FVec F S512x128 .f32 :=
  maximumf mp (broadcastTo S512x128 (shapeCast S512x1 (multiReduction .maximumf [1] S512 sc 0xFF800000#32 reduces_S512x512_S512 (.inl rfl) rfl) shapeCasts_S512_S512x1) broadcasts_S512x1_S512x128)

/-- A block's weights. -/
def weights (sc : FVec F S512x512 .f32) (mx : FVec F S512x128 .f32) : FVec F S512x512 .bf16 :=
  truncf .bf16 (concatenate S512x512 1 [⟨S512x128, exp2 (subf (extractStridedSlice S512x128 ![0, 0] sc slices_S512x512_o0_0_S512x128) mx)⟩,
    ⟨S512x128, exp2 (subf (extractStridedSlice S512x128 ![0, 128] sc slices_S512x512_o0_128_S512x128) mx)⟩,
    ⟨S512x128, exp2 (subf (extractStridedSlice S512x128 ![0, 256] sc slices_S512x512_o0_256_S512x128) mx)⟩,
    ⟨S512x128, exp2 (subf (extractStridedSlice S512x128 ![0, 384] sc slices_S512x512_o0_384_S512x128) mx)⟩] concatenates_S512x128_S512x128_S512x128_S512x128_S512x512_d1) bitsLt_bf16_f32

/-- The weighted sums after a block, scaled to the new maximum. -/
def nextA (ev : IVec S512x256 1) (a0 a1 : FVec F S512x128 .f32) (acc : FVec F S512x256 .f32) (p0 p1 : FVec F S512x512 .bf16) (vt vb : Vec F S512x256 .bf16) : FVec F S512x256 .f32 :=
  addf (mulf (select ev (concatenate S512x256 1 [⟨S512x128, a0⟩, ⟨S512x128, a0⟩] concatenates_S512x128_S512x128_S512x256_d1) (concatenate S512x256 1 [⟨S512x128, a1⟩, ⟨S512x128, a1⟩] concatenates_S512x128_S512x128_S512x256_d1)) acc)
    (addf (matmul dot_S512x512_S512x256_S512x256_1_0_0_1_n_n none p0 vt (constant S512x256 .f32 0x00000000#32))
      (matmul dot_S512x512_S512x256_S512x256_1_0_0_1_n_n none p1 vb (constant S512x256 .f32 0x00000000#32)))

/-- A tile's rows: the weighted sums over the sums of the weights. -/
def outOf (a : FVec F S512x256 .f32) : FVec F S512x128 .bf16 :=
  truncf .bf16 (divf (extractStridedSlice S512x128 ![0, 0] a slices_S512x256_o0_0_S512x128)
    (select (cmpi .slt (iota .tc S512x128 32 [1] iota_S512x128_d1_w32) (broadcast S512x128 64#32))
      (broadcastTo S512x128 (shapeCast S512x1 (extractStridedSlice S512x1 ![0, 128] a slices_S512x256_o0_128_S512x1) shapeCasts_S512x1_S512x1) broadcasts_S512x1_S512x128)
      (broadcastTo S512x128 (shapeCast S512x1 (extractStridedSlice S512x1 ![0, 129] a slices_S512x256_o0_129_S512x1) shapeCasts_S512x1_S512x1) broadcasts_S512x1_S512x128))) bitsLt_bf16_f32

end Pieces

/-- The lanes of the weighted sums that belong to the pair's first head. -/
def evenL : IVec S512x256 1 :=
  ori (cmpi .slt (iota .tc S512x256 32 [1] iota_S512x256_d1_w32) (broadcast S512x256 64#32))
    (cmpi .eq (iota .tc S512x256 32 [1] iota_S512x256_d1_w32) (broadcast S512x256 128#32))

section Blocks
variable (arg3 : Memref sig .tc .vmem S2048x256 .bf16) (arg4 : Memref sig .tc .vmem S2048x256 .bf16) (arg5 : Memref sig .tc .vmem S4096x256 .bf16)
  (arg6 : Memref sig .tc .vmem S4096x128 .bf16) (arg7 : Memref sig .tc .vmem S2048x128 .bf16) (harg7 : arg7.IsWhole)
  (arg8 : Memref sig .tc .vmem S4x2x512x128 .f32) (arg9 : Memref sig .tc .vmem S4x512x256 .f32)
  (arg10 : Memref sig .tc .vmem S4096x256 .bf16) (harg10 : arg10.IsWhole) (arg11 : Memref sig .tc .vmem S4096x256 .bf16) (harg11 : arg11.IsWhole)
  (arg12 : Memref sig .tc .vmem S4x3x2x512x512 .f32)

def qV (sub : Fin 4) : Memref sig .tc .vmem S512x256 .bf16 := arg3.slice (Rect.unit (s := S2048x256) ![512 * sub.1, 0] S512x256.size (inbQ sub)) (fun _ => rfl)
def sV (sub : Fin 4) : Memref sig .tc .vmem S3x2x512x512 .f32 :=
  (arg12.slice (Rect.unit (s := S4x3x2x512x512) ![sub.1, 0, 0, 0, 0] S1x3x2x512x512.size (inbS sub)) (fun _ => rfl)).squeeze S3x2x512x512 squeezes_S1x3x2x512x512_S3x2x512x512
def dV (sub : Fin 4) (hh : Fin 2) : Memref sig .tc .vmem S512x512 .f32 :=
  ((sV arg12 sub).slice (Rect.unit (s := S3x2x512x512) ![2, hh.1, 0, 0] S1x1x512x512.size (inbSf 2 hh)) (fun _ => rfl)).squeeze S512x512 squeezes_S1x1x512x512_S512x512
def mV (sub : Fin 4) : Memref sig .tc .vmem S2x512x128 .f32 :=
  (arg8.slice (Rect.unit (s := S4x2x512x128) ![sub.1, 0, 0, 0] S1x2x512x128.size (inbM sub)) (fun _ => rfl)).squeeze S2x512x128 squeezes_S1x2x512x128_S2x512x128
def aV (sub : Fin 4) : Memref sig .tc .vmem S512x256 .f32 :=
  (arg9.slice (Rect.unit (s := S4x512x256) ![sub.1, 0, 0] S1x512x256.size (inbA sub)) (fun _ => rfl)).squeeze S512x256 squeezes_S1x512x256_S512x256

def rQh (hh : Fin 2) : Rect S512x256 := Rect.unit (s := S512x256) ![0, 128 * hh.1] S512x128.size (inbQh hh)
def rK (c : Fin 8) (hh : Fin 2) : Rect S4096x256 := Rect.unit (s := S4096x256) ![512 * c.1, 128 * hh.1] S512x128.size (inbK c hh)
def rSf (slot : Fin 3) (hh : Fin 2) : Rect S3x2x512x512 := Rect.unit (s := S3x2x512x512) ![slot.1, hh.1, 0, 0] S1x1x512x512.size (inbSf slot hh)
def rSt (hh : Fin 2) : Rect S3x2x512x512 := Rect.unit (s := S3x2x512x512) ![2, hh.1, 0, 0] S1x1x256x256.size (inbSt hh)
def rSb (hh : Fin 2) : Rect S3x2x512x512 := Rect.unit (s := S3x2x512x512) ![2, hh.1, 256, 0] S1x1x256x512.size (inbSb hh)
def rM (hh : Fin 2) : Rect S2x512x128 := Rect.unit (s := S2x512x128) ![hh.1, 0, 0] S1x512x128.size (inbMh hh)
def rA (sub : Fin 4) : Rect S4x512x256 := Rect.unit (s := S4x512x256) ![sub.1, 0, 0] S1x512x256.size (inbA sub)
def rV (c : Fin 8) : Rect S4096x256 := Rect.unit (s := S4096x256) ![512 * c.1, 0] S512x256.size (inbV c)
def rVh (c : Fin 8) : Rect S4096x256 := Rect.unit (s := S4096x256) ![512 * c.1, 0] S256x256.size (inbVh c)
def rO (sub : Fin 4) : Rect S2048x128 := Rect.unit (s := S2048x128) ![512 * sub.1, 0] S512x128.size (inbO sub)

/-- The value columns laid out. -/
def buildV (k : PR F) : PR F :=
  .op (.load arg6 (Rect.unit (s := S4096x128) ![0, 0] S4096x128.size inb_S4096x128_S4096x128_0_0).toLoadRect (View.loadsAt_vmem h_S4096x128)) fun (v12 : Vec F S4096x128 .bf16) =>
  .op (.load arg10 (Rect.unit (s := S4096x256) ![0, 0] S4096x128.size inb_S4096x256_S4096x128_0_0).toLoadRect (View.loadsAt_vmem h_S4096x128)) fun (_ : Vec F S4096x128 .bf16) =>
  .op (.store arg10 (Rect.unit (s := S4096x256) ![0, 0] S4096x128.size inb_S4096x256_S4096x128_0_0) (shapeCast S4096x128 (headV v12 true) shapeCasts_S4096x128_S4096x128) Finset.univ (View.stores_vmem h_S4096x128 (harg10.storeExact_slice rfl _ packedbf16_S4096x256_S4096x128_0_0) (fun _ => rfl)) (.inl rfl)) fun _ =>
  .op (.load arg10 (Rect.unit (s := S4096x256) ![0, 128] S4096x128.size inb_S4096x256_S4096x128_0_128).toLoadRect (View.loadsAt_vmem h_S4096x128)) fun (_ : Vec F S4096x128 .bf16) =>
  .op (.store arg10 (Rect.unit (s := S4096x256) ![0, 128] S4096x128.size inb_S4096x256_S4096x128_0_128) (shapeCast S4096x128 (oneV 0#32) shapeCasts_S4096x128_S4096x128) Finset.univ (View.stores_vmem h_S4096x128 (harg10.storeExact_slice rfl _ packedbf16_S4096x256_S4096x128_0_128) (fun _ => rfl)) (.inl rfl)) fun _ =>
  .op (.load arg11 (Rect.unit (s := S4096x256) ![0, 0] S4096x128.size inb_S4096x256_S4096x128_0_0).toLoadRect (View.loadsAt_vmem h_S4096x128)) fun (_ : Vec F S4096x128 .bf16) =>
  .op (.store arg11 (Rect.unit (s := S4096x256) ![0, 0] S4096x128.size inb_S4096x256_S4096x128_0_0) (shapeCast S4096x128 (headV v12 false) shapeCasts_S4096x128_S4096x128) Finset.univ (View.stores_vmem h_S4096x128 (harg11.storeExact_slice rfl _ packedbf16_S4096x256_S4096x128_0_0) (fun _ => rfl)) (.inl rfl)) fun _ =>
  .op (.load arg11 (Rect.unit (s := S4096x256) ![0, 128] S4096x128.size inb_S4096x256_S4096x128_0_128).toLoadRect (View.loadsAt_vmem h_S4096x128)) fun (_ : Vec F S4096x128 .bf16) =>
  .op (.store arg11 (Rect.unit (s := S4096x256) ![0, 128] S4096x128.size inb_S4096x256_S4096x128_0_128) (shapeCast S4096x128 (oneV 1#32) shapeCasts_S4096x128_S4096x128) Finset.univ (View.stores_vmem h_S4096x128 (harg11.storeExact_slice rfl _ packedbf16_S4096x256_S4096x128_0_128) (fun _ => rfl)) (.inl rfl)) fun _ =>
  k

/-- One head's logits of a tile's queries against a block of keys, put in a slot. -/
def logitsH (sub : Fin 4) (slot : Fin 3) (c : Fin 8) (hh : Fin 2) (k : PR F) : PR F :=
  .op (.load (qV arg3 sub) (rQh hh).toLoadRect (View.loadsAt_vmem h_S512x128)) fun (q : Vec F S512x128 .bf16) =>
  .op (.load arg5 (rK c hh).toLoadRect (View.loadsAt_vmem h_S512x128)) fun (kb : Vec F S512x128 .bf16) =>
  .op (.load (sV arg12 sub) (rSf slot hh).toLoadRect (View.loadsAt_vmem h_S1x1x512x512)) fun (_ : Vec F S1x1x512x512 .f32) =>
  .op (.store (sV arg12 sub) (rSf slot hh) (shapeCast S1x1x512x512 (full q kb) shapeCasts_S512x512_S1x1x512x512) Finset.univ (View.stores_vmem_bits_univ h_S1x1x512x512 rfl) (.inl rfl)) fun _ =>
  k

def logitsB (sub : Fin 4) (slot : Fin 3) (c : Fin 8) (k : PR F) : PR F :=
  logitsH arg3 arg5 arg12 sub slot c 0 (logitsH arg3 arg5 arg12 sub slot c 1 k)

/-- One head's logits of a tile's queries against the keys of its own rows, those of the first half's queries against the first half's keys alone. `qsub` names the queries' tile. -/
def diagH (qsub sub : Fin 4) (c : Fin 8) (hh : Fin 2) (k : PR F) : PR F :=
  .op (.load (qV arg3 qsub) (rQh hh).toLoadRect (View.loadsAt_vmem h_S512x128)) fun (q : Vec F S512x128 .bf16) =>
  .op (.load arg5 (rK c hh).toLoadRect (View.loadsAt_vmem h_S512x128)) fun (kb : Vec F S512x128 .bf16) =>
  .op (.load (sV arg12 sub) (rSt hh).toLoadRect (View.loadsAt_vmem h_S1x1x256x256)) fun (_ : Vec F S1x1x256x256 .f32) =>
  .op (.store (sV arg12 sub) (rSt hh) (shapeCast S1x1x256x256 (topD q kb) shapeCasts_S256x256_S1x1x256x256) Finset.univ (View.stores_vmem_bits_univ h_S1x1x256x256 rfl) (.inl rfl)) fun _ =>
  .op (.load (sV arg12 sub) (rSb hh).toLoadRect (View.loadsAt_vmem h_S1x1x256x512)) fun (_ : Vec F S1x1x256x512 .f32) =>
  .op (.store (sV arg12 sub) (rSb hh) (shapeCast S1x1x256x512 (botD q kb) shapeCasts_S256x512_S1x1x256x512) Finset.univ (View.stores_vmem_bits_univ h_S1x1x256x512 rfl) (.inl rfl)) fun _ =>
  k

def diagB (qsub sub : Fin 4) (c : Fin 8) (k : PR F) : PR F :=
  diagH arg3 arg5 arg12 qsub sub c 0 (diagH arg3 arg5 arg12 qsub sub c 1 k)

/-- One head's half of a tile's first update: the maximum of its diagonal block, kept, and its weights, passed on. -/
def upDiagH (sub : Fin 4) (hh : Fin 2) (k : FVec F S512x512 .bf16 → PR F) : PR F :=
  .op (.load (dV arg12 sub hh) (Rect.unit (s := S512x512) ![0, 0] S128x128.size inb_S512x512_S128x128_0_0).toLoadRect (View.loadsAt_vmem h_S128x128)) fun (a0 : Vec F S128x128 .f32) =>
  .op (.load (dV arg12 sub hh) (Rect.unit (s := S512x512) ![128, 0] S384x128.size inb_S512x512_S384x128_128_0).toLoadRect (View.loadsAt_vmem h_S384x128)) fun (b0 : Vec F S384x128 .f32) =>
  .op (.load (dV arg12 sub hh) (Rect.unit (s := S512x512) ![128, 128] S128x128.size inb_S512x512_S128x128_128_128).toLoadRect (View.loadsAt_vmem h_S128x128)) fun (a1 : Vec F S128x128 .f32) =>
  .op (.load (dV arg12 sub hh) (Rect.unit (s := S512x512) ![256, 128] S256x128.size inb_S512x512_S256x128_256_128).toLoadRect (View.loadsAt_vmem h_S256x128)) fun (b1 : Vec F S256x128 .f32) =>
  .op (.load (dV arg12 sub hh) (Rect.unit (s := S512x512) ![256, 256] S128x128.size inb_S512x512_S128x128_256_256).toLoadRect (View.loadsAt_vmem h_S128x128)) fun (a2 : Vec F S128x128 .f32) =>
  .op (.load (dV arg12 sub hh) (Rect.unit (s := S512x512) ![384, 256] S128x128.size inb_S512x512_S128x128_384_256).toLoadRect (View.loadsAt_vmem h_S128x128)) fun (b2 : Vec F S128x128 .f32) =>
  .op (.load (dV arg12 sub hh) (Rect.unit (s := S512x512) ![384, 384] S128x128.size inb_S512x512_S128x128_384_384).toLoadRect (View.loadsAt_vmem h_S128x128)) fun (a3 : Vec F S128x128 .f32) =>
  .op (.load (mV arg8 sub) (rM hh).toLoadRect (View.loadsAt_vmem h_S1x512x128)) fun (_ : Vec F S1x512x128 .f32) =>
  .op (.store (mV arg8 sub) (rM hh) (shapeCast S1x512x128 (topOf (col0 a0 b0) (col1 a1 b1) (col2 a2 b2) (col3 a3)) shapeCasts_S512x128_S1x512x128) Finset.univ (View.stores_vmem_bits_univ h_S1x512x128 rfl) (.inl rfl)) fun _ =>
  k (weightsD (col0 a0 b0) (col1 a1 b1) (col2 a2 b2) (col3 a3) (topOf (col0 a0 b0) (col1 a1 b1) (col2 a2 b2) (col3 a3)))

/-- A tile's first weighted sums. -/
def accDiag (sub : Fin 4) (c : Fin 8) (p0 p1 : FVec F S512x512 .bf16) (k : PR F) : PR F :=
  .op (.load arg10 (rVh c).toLoadRect (View.loadsAt_vmem h_S256x256)) fun (vt : Vec F S256x256 .bf16) =>
  .op (.load arg11 (rVh c).toLoadRect (View.loadsAt_vmem h_S256x256)) fun (vb : Vec F S256x256 .bf16) =>
  .op (.load (aV arg9 sub) (Rect.unit (s := S512x256) ![0, 0] S256x256.size inb_S512x256_S256x256_0_0).toLoadRect (View.loadsAt_vmem h_S256x256)) fun (_ : Vec F S256x256 .f32) =>
  .op (.store (aV arg9 sub) (Rect.unit (s := S512x256) ![0, 0] S256x256.size inb_S512x256_S256x256_0_0) (shapeCast S256x256 (pvTop p0 p1 vt vb) shapeCasts_S256x256_S256x256) Finset.univ (View.stores_vmem_bits_univ h_S256x256 rfl) (.inl rfl)) fun _ =>
  .op (.load arg10 (rV c).toLoadRect (View.loadsAt_vmem h_S512x256)) fun (vt : Vec F S512x256 .bf16) =>
  .op (.load arg11 (rV c).toLoadRect (View.loadsAt_vmem h_S512x256)) fun (vb : Vec F S512x256 .bf16) =>
  .op (.load (aV arg9 sub) (Rect.unit (s := S512x256) ![256, 0] S256x256.size inb_S512x256_S256x256_256_0).toLoadRect (View.loadsAt_vmem h_S256x256)) fun (_ : Vec F S256x256 .f32) =>
  .op (.store (aV arg9 sub) (Rect.unit (s := S512x256) ![256, 0] S256x256.size inb_S512x256_S256x256_256_0) (shapeCast S256x256 (pvBot p0 p1 vt vb) shapeCasts_S256x256_S256x256) Finset.univ (View.stores_vmem_bits_univ h_S256x256 rfl) (.inl rfl)) fun _ =>
  k

def upDiagB (sub : Fin 4) (c : Fin 8) (k : PR F) : PR F :=
  upDiagH arg8 arg12 sub 0 fun p0 => upDiagH arg8 arg12 sub 1 fun p1 => accDiag arg9 arg10 arg11 sub c p0 p1 k

/-- One head's half of an update: the maximum brought on by a slot's block of logits, kept; its weights and the old sums' scale passed on. -/
def upH (sub : Fin 4) (slot : Fin 3) (hh : Fin 2) (k : FVec F S512x128 .f32 → FVec F S512x512 .bf16 → PR F) : PR F :=
  .op (.load (sV arg12 sub) (rSf slot hh).toLoadRect (View.loadsAt_vmem h_S1x1x512x512)) fun (sc : Vec F S1x1x512x512 .f32) =>
  .op (.load (mV arg8 sub) (rM hh).toLoadRect (View.loadsAt_vmem h_S1x512x128)) fun (mp : Vec F S1x512x128 .f32) =>
  .op (.load (mV arg8 sub) (rM hh).toLoadRect (View.loadsAt_vmem h_S1x512x128)) fun (_ : Vec F S1x512x128 .f32) =>
  .op (.store (mV arg8 sub) (rM hh) (shapeCast S1x512x128 (nextM (shapeCast S512x512 sc shapeCasts_S1x1x512x512_S512x512) (shapeCast S512x128 mp shapeCasts_S1x512x128_S512x128)) shapeCasts_S512x128_S1x512x128) Finset.univ (View.stores_vmem_bits_univ h_S1x512x128 rfl) (.inl rfl)) fun _ =>
  k (exp2 (subf (shapeCast S512x128 mp shapeCasts_S1x512x128_S512x128) (nextM (shapeCast S512x512 sc shapeCasts_S1x1x512x512_S512x512) (shapeCast S512x128 mp shapeCasts_S1x512x128_S512x128))))
    (weights (shapeCast S512x512 sc shapeCasts_S1x1x512x512_S512x512) (nextM (shapeCast S512x512 sc shapeCasts_S1x1x512x512_S512x512) (shapeCast S512x128 mp shapeCasts_S1x512x128_S512x128)))

def accB (sub : Fin 4) (c : Fin 8) (a0 a1 : FVec F S512x128 .f32) (p0 p1 : FVec F S512x512 .bf16) (k : PR F) : PR F :=
  .op (.load arg9 (rA sub).toLoadRect (View.loadsAt_vmem h_S1x512x256)) fun (acc : Vec F S1x512x256 .f32) =>
  .op (.load arg10 (rV c).toLoadRect (View.loadsAt_vmem h_S512x256)) fun (vt : Vec F S512x256 .bf16) =>
  .op (.load arg11 (rV c).toLoadRect (View.loadsAt_vmem h_S512x256)) fun (vb : Vec F S512x256 .bf16) =>
  .op (.load arg9 (rA sub).toLoadRect (View.loadsAt_vmem h_S1x512x256)) fun (_ : Vec F S1x512x256 .f32) =>
  .op (.store arg9 (rA sub) (shapeCast S1x512x256 (nextA evenL a0 a1 (shapeCast S512x256 acc shapeCasts_S1x512x256_S512x256) p0 p1 vt vb) shapeCasts_S512x256_S1x512x256) Finset.univ (View.stores_vmem_bits_univ h_S1x512x256 rfl) (.inl rfl)) fun _ =>
  k

def upB (sub : Fin 4) (slot : Fin 3) (c : Fin 8) (k : PR F) : PR F :=
  upH arg8 arg12 sub slot 0 fun a0 p0 => upH arg8 arg12 sub slot 1 fun a1 p1 => accB arg9 arg10 arg11 sub c a0 a1 p0 p1 k

/-- A tile's rows written out. -/
def finB (sub : Fin 4) (k : PR F) : PR F :=
  .op (.load arg9 (rA sub).toLoadRect (View.loadsAt_vmem h_S1x512x256)) fun (a : Vec F S1x512x256 .f32) =>
  .op (.load arg7 (rO sub).toLoadRect (View.loadsAt_vmem h_S512x128)) fun (_ : Vec F S512x128 .bf16) =>
  .op (.store arg7 (rO sub) (outOf (shapeCast S512x256 a shapeCasts_S1x512x256_S512x256)) Finset.univ (View.stores_vmem h_S512x128 (harg7.storeExact_slice rfl _ (packO sub)) (fun _ => rfl)) (.inl rfl)) fun _ =>
  k

/-- Key blocks `c`, `c - 1`, …, `0` in turn, each one's logits stored while the one before is summed; `d` takes the last one's place in that. -/
def chain (sub : Fin 4) (d : PR F → PR F) : (c : Nat) → c < 8 → (slot : Bool) → PR F → PR F
  | 0, _, slot, k => d (upB arg8 arg9 arg10 arg11 arg12 sub (if slot then 1 else 0) 0 k)
  | c + 1, h, slot, k => logitsB arg3 arg5 arg12 sub (if slot then 0 else 1) ⟨c, Nat.lt_of_succ_lt h⟩
      (upB arg8 arg9 arg10 arg11 arg12 sub (if slot then 1 else 0) ⟨c + 1, h⟩ (chain sub d c (Nat.lt_of_succ_lt h) (!slot) k))

/-- A tile whose own block of keys is number `c + 1`, from its diagonal logits on. -/
def tileB (sub : Fin 4) (d : PR F → PR F) (c : Nat) (h : c + 1 < 8) (k : PR F) : PR F :=
  logitsB arg3 arg5 arg12 sub 1 ⟨c, Nat.lt_of_succ_lt h⟩ (upDiagB arg8 arg9 arg10 arg11 arg12 sub ⟨c + 1, h⟩
    (chain arg3 arg5 arg8 arg9 arg10 arg11 arg12 sub d c (Nat.lt_of_succ_lt h) true (finB arg7 harg7 arg9 sub k)))

/-- The first four tiles of a sequence, and the fifth's diagonal logits. -/
def stepA : PR F :=
  buildV arg6 arg10 harg10 arg11 harg11 <| diagB arg3 arg5 arg12 0 0 0 <| upDiagB arg8 arg9 arg10 arg11 arg12 0 0 <| finB arg7 harg7 arg9 0 <|
  diagB arg3 arg5 arg12 1 1 1 <| tileB arg3 arg5 arg7 harg7 arg8 arg9 arg10 arg11 arg12 1 id 0 (by decide) <|
  diagB arg3 arg5 arg12 2 2 2 <| tileB arg3 arg5 arg7 harg7 arg8 arg9 arg10 arg11 arg12 2 id 1 (by decide) <|
  diagB arg3 arg5 arg12 3 3 3 <| tileB arg3 arg5 arg7 harg7 arg8 arg9 arg10 arg11 arg12 3 (diagB arg4 arg5 arg12 0 0 4) 2 (by decide) <|
  .ret ⟨⟩

/-- The last four tiles. -/
def stepB : PR F :=
  tileB arg3 arg5 arg7 harg7 arg8 arg9 arg10 arg11 arg12 0 id 3 (by decide) <|
  diagB arg3 arg5 arg12 1 1 5 <| tileB arg3 arg5 arg7 harg7 arg8 arg9 arg10 arg11 arg12 1 id 4 (by decide) <|
  diagB arg3 arg5 arg12 2 2 6 <| tileB arg3 arg5 arg7 harg7 arg8 arg9 arg10 arg11 arg12 2 id 5 (by decide) <|
  diagB arg3 arg5 arg12 3 3 7 <| tileB arg3 arg5 arg7 harg7 arg8 arg9 arg10 arg11 arg12 3 id 6 (by decide) <|
  .ret ⟨⟩

end Blocks

section Match
variable (i : grid0.Coords) (arg3 : Memref sig .tc .vmem S2048x256 .bf16) (harg3 : arg3.IsWhole) (arg4 : Memref sig .tc .vmem S2048x256 .bf16) (harg4 : arg4.IsWhole)
  (arg5 : Memref sig .tc .vmem S4096x256 .bf16) (harg5 : arg5.IsWhole) (arg6 : Memref sig .tc .vmem S4096x128 .bf16) (harg6 : arg6.IsWhole) (arg7 : Memref sig .tc .vmem S2048x128 .bf16) (harg7 : arg7.IsWhole)
  (arg8 : Memref sig .tc .vmem S4x2x512x128 .f32) (harg8 : arg8.IsWhole) (arg9 : Memref sig .tc .vmem S4x512x256 .f32) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S4x3x2x512x512 .f32) (harg12 : arg12.IsWhole)

theorem body_A (h1 : k0_cond1 i = 1#1) (h2 : ¬ k0_cond2 i = 1#1) :
    cc0_fox_attn (F := F) i arg3 harg3 arg4 harg4 arg5 harg5 arg6 harg6 arg7 harg7 arg8 harg8 arg9 harg9 arg10 harg10 arg11 harg11 arg12 harg12
      = stepA arg3 arg4 arg5 arg6 arg7 harg7 arg8 arg9 arg10 harg10 arg11 harg11 arg12 := by
  unfold cc0_fox_attn
  rw [dif_pos h1, dif_neg h2]
  sl_kernel_rfl

theorem body_B (h1 : ¬ k0_cond1 i = 1#1) (h2 : k0_cond2 i = 1#1) :
    cc0_fox_attn (F := F) i arg3 harg3 arg4 harg4 arg5 harg5 arg6 harg6 arg7 harg7 arg8 harg8 arg9 harg9 arg10 harg10 arg11 harg11 arg12 harg12
      = stepB arg3 arg5 arg7 harg7 arg8 arg9 arg10 arg11 arg12 := by
  unfold cc0_fox_attn
  rw [dif_neg h1, dif_pos h2]
  sl_kernel_rfl

end Match

end Cert.AttnIdeal.Run

end
-- ==== Proof.Runs.lean ====
/- A program that only loads and stores, run on the contents of its buffers: what it ends
   with, as a proposition about contents. Where its steps go through memrefs of buffers
   that are held, running it is what the logic says of it. -/
module

public import proofs.«01_k».proof.Proof.Walk

@[expose] public section

noncomputable section

namespace Cert.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The contents of every buffer a thread can name. -/
abbrev Contents (Val : EltTy → Type) (c : Thread nD τ) (sig : RefSig) : Type := (b : Ref sig c.2.kind) → Buf Val (c.loc b)

/-- Running the program from contents `σ` ends with a result and contents of which `Q` holds. -/
def Runs (c : Thread nD τ) {α : Type} (Q : α → Contents Val c sig → Prop) : Prog (TpuEff nD τ sig Val Λ c.2) α → Contents Val c sig → Prop
  | .ret a, σ => Q a σ
  | .op (.load m r h) k, σ => Runs c Q (k (m.view.readAt Val r (σ m.view.ref))) σ
  | .op (.store m r w M h hm) k, σ => Runs c Q (k ⟨⟩) (Function.update σ m.view.ref ((m.access r).write Val (σ m.view.ref) w M))
  | _, _ => False

/-- A weaker end. -/
theorem Runs.mono {c : Thread nD τ} {α : Type} {Q Q' : α → Contents Val c sig → Prop} (h : ∀ a σ, Q a σ → Q' a σ)
    {p : Prog (TpuEff nD τ sig Val Λ c.2) α} {σ : Contents Val c sig} (hp : Runs c Q p σ) : Runs c Q' p σ := by
  induction p generalizing σ with
  | ret a => exact h _ _ hp
  | op e k ih =>
    cases e <;> first | exact hp.elim | exact ih _ hp

section Sound
variable {Ix : Type} [DecidableEq Ix] {Name : Type} [DecidableEq Name] {U : Type} [URA U] {Lvl : Type} [Preorder Lvl]
  {defs : Defs nD τ sig Val Λ} (𝒱 : Variants) (c : Thread nD τ) (bd : Option 𝒱.V) {Γ : PendingWaitsCtx sig Ix} (E : Set Name)
  {α : Type} {I : Type} [Fintype I] [DecidableEq I]
local notation "𝕄" => MT nD τ sig Ix Val Name U Lvl

/-- The buffers `refs`, whole, at the contents `σ` gives them. -/
def held (refs : I → Ref sig c.2.kind) (σ : Contents Val c sig) : sProp 𝕄 :=
  bigSep Finset.univ fun j => (c.loc (refs j) ↦[Finset.univ]{fullShare} σ (refs j))

theorem held_split (refs : I → Ref sig c.2.kind) (σ : Contents Val c sig) (j : I) :
    (held c refs σ : sProp 𝕄) = iprop((c.loc (refs j) ↦[Finset.univ]{fullShare} σ (refs j))
      ∗ bigSep (Finset.univ.erase j) fun j => (c.loc (refs j) ↦[Finset.univ]{fullShare} σ (refs j))) := bigSep_univ_split j

theorem held_update (refs : I → Ref sig c.2.kind) (hinj : Function.Injective refs) (σ : Contents Val c sig) (j : I) (b : Ref sig c.2.kind) (hb : refs j = b)
    (X : Buf Val (c.loc b)) :
    (held c refs (Function.update σ b X) : sProp 𝕄) = iprop((c.loc b ↦[Finset.univ]{fullShare} X)
      ∗ bigSep (Finset.univ.erase j) fun j => (c.loc (refs j) ↦[Finset.univ]{fullShare} σ (refs j))) := by
  subst hb
  rw [held_split c refs _ j, Function.update_self]
  congr 1
  refine bigSep_congr fun j' hj' => ?_
  rw [Function.update_of_ne (fun h => (Finset.mem_erase.mp hj').1 (hinj h))]

/-- What running says, the logic says. -/
theorem wp_run (refs : I → Ref sig c.2.kind) (hinj : Function.Injective refs) (R W : Ref sig c.2.kind → Prop)
    (hR : ∀ b, R b → ∃ j, refs j = b) (hW : ∀ b, W b → ∃ j, refs j = b)
    (Q : α → Contents Val c sig → Prop) (p : Prog (TpuEff nD τ sig Val Λ c.2) α) (hp : Walks R W p) (σ : Contents Val c sig) (hσ : Runs c Q p σ) :
    (held c refs σ : sProp 𝕄) ⊢ wp frame (wpE' defs 𝒱 c bd Γ) E p (fun a => iprop(∃ σ', ⌜Q a σ'⌝ ∗ held c refs σ')) := by
  induction p generalizing σ with
  | ret a =>
    rw [wp_ret]
    refine BIBase.Entails.trans ?_ fupd_intro
    iintro H
    iexists σ
    isplitr
    · ipureintro; exact hσ
    iexact H
  | op e k ih =>
    cases e <;> try exact hp.elim
    case load cs s e m r h =>
      obtain ⟨hr, hk⟩ := hp
      obtain ⟨j, hj⟩ := hR _ hr
      have step := wp_load 𝒱 c bd E (m := m) (r := r) (hl := h) (k := k) (S := Finset.univ) (q := fullShare) (f := σ m.view.ref) (defs := defs) (Γ := Γ)
        (Q := fun a => (iprop(∃ σ', ⌜Q a σ'⌝ ∗ held c refs σ') : sProp 𝕄)) (Finset.subset_univ _)
      have next := ih _ (hk _) σ hσ
      have e1 := held_update (Ix := Ix) (Name := Name) (U := U) (Lvl := Lvl) c refs hinj σ j _ hj (σ m.view.ref)
      rw [Function.update_eq_self] at e1
      rw [e1] at next ⊢
      iintro ⟨Hb, H⟩
      iapply step $$ Hb
      iintro Hb
      iapply next
      isplitl [Hb]
      · iexact Hb
      iexact H
    case store cs s e m r w M h hM =>
      obtain ⟨hr, hk⟩ := hp
      obtain ⟨j, hj⟩ := hW _ hr
      have step := wp_store 𝒱 c bd E (m := m) (r := r) (w := w) (Mk := M) (hx := h) (hm := hM) (k := k) (S := (Finset.univ : Finset (Idx ((m.access r).loc c)))) (f := σ m.view.ref) (defs := defs) (Γ := Γ)
        (Q := fun a => (iprop(∃ σ', ⌜Q a σ'⌝ ∗ held c refs σ') : sProp 𝕄)) (Finset.subset_univ ((m.access r).setOn M))
      have next := ih _ (hk _) _ hσ
      have e1 := held_update (Ix := Ix) (Name := Name) (U := U) (Lvl := Lvl) c refs hinj σ j _ hj (σ m.view.ref)
      rw [Function.update_eq_self] at e1
      rw [held_update (Ix := Ix) (Name := Name) (U := U) (Lvl := Lvl) c refs hinj σ j _ hj] at next
      rw [e1]
      iintro ⟨Hb, H⟩
      iapply step $$ Hb
      iintro Hb
      iapply next
      isplitl [Hb]
      · iexact Hb
      iexact H

end Sound

section Read
variable {c : Thread nD τ} {s : Shape} {e : EltTy} {sp : Space}

/-- The contents read through a memref. -/
def rd {cs : CoreSpace} (a : Memref sig c.2.kind cs s e) (σ : Contents Val c sig) : s.Idx → Val e := a.view.read Val (σ a.view.ref)

variable {cs : CoreSpace} {s' : Shape} {e' : EltTy}

/-- A store elsewhere is not read. -/
theorem rd_update_ne (a : Memref sig c.2.kind cs s e) {b : Ref sig c.2.kind} (h : a.view.ref ≠ b) (σ : Contents Val c sig) (X : Buf Val (c.loc b)) :
    rd a (Function.update σ b X) = rd a σ := by
  unfold rd; rw [Function.update_of_ne h]

/-- A store through a rectangle of the memref, read where it wrote, -/
theorem rd_store_hit (a : Memref sig c.2.kind cs s e) (σ : Contents Val c sig) (r : Rect s) (w : r.shape.Idx → Val e) (x : r.shape.Idx) (y : s.Idx)
    (hy : r.emb x = y) : rd a (Function.update σ a.view.ref ((a.view.slice r).write Val (σ a.view.ref) w Finset.univ)) y = w x := by
  subst hy; unfold rd; rw [Function.update_self]
  exact View.read_slice_write_emb r _ w (Finset.mem_univ x)

/-- and where it did not. -/
theorem rd_store_miss (a : Memref sig c.2.kind cs s e) (σ : Contents Val c sig) (r : Rect s) (w : r.shape.Idx → Val e) (y : s.Idx)
    (hy : ∀ x, r.emb x ≠ y) : rd a (Function.update σ a.view.ref ((a.view.slice r).write Val (σ a.view.ref) w Finset.univ)) y = rd a σ y := by
  unfold rd; rw [Function.update_self]
  refine View.read_slice_write_of_not_mem r _ w _ fun hm => ?_
  obtain ⟨x, -, hx⟩ := Finset.mem_map.mp hm
  exact hy x hx

/-- The same through a rectangle of a slice of it re-indexed, -/
theorem rd_store3_hit (a : Memref sig c.2.kind cs s e) (σ : Contents Val c sig) (r0 : Rect s) (s1 : Shape) (h : s1.numel = r0.shape.numel) (r : Rect s1)
    (w : r.shape.Idx → Val e) (x : r.shape.Idx) (y : s.Idx) (hy : r0.emb (Shape.reshapeEquiv h (r.emb x)) = y) :
    rd a (Function.update σ a.view.ref ((((a.view.slice r0).reshape s1 h).slice r).write Val (σ a.view.ref) w Finset.univ)) y = w x := by
  subst hy; unfold rd; rw [Function.update_self]
  exact View.read_slice_write_emb (v := (a.view.slice r0).reshape s1 h) r _ w (Finset.mem_univ x)

theorem rd_store3_miss (a : Memref sig c.2.kind cs s e) (σ : Contents Val c sig) (r0 : Rect s) (s1 : Shape) (h : s1.numel = r0.shape.numel) (r : Rect s1)
    (w : r.shape.Idx → Val e) (y : s.Idx) (hy : ∀ x, r0.emb (Shape.reshapeEquiv h (r.emb x)) ≠ y) :
    rd a (Function.update σ a.view.ref ((((a.view.slice r0).reshape s1 h).slice r).write Val (σ a.view.ref) w Finset.univ)) y = rd a σ y := by
  unfold rd; rw [Function.update_self, View.read_apply, View.read_apply]
  rw [View.write_of_not_mem]
  intro hm
  obtain ⟨x, -, hx⟩ := Finset.mem_map.mp hm
  exact hy x (a.view.emb.injective hx)

end Read

end Cert.Walk

end
-- ==== Proof.AttnMem.lean ====
/- The attention's ten buffers as functions of their coordinates, and what a load or a store
   of the kernel body's blocks is on them. -/
module

public import proofs.«01_k».proof.Proof.AttnBlocks
public import proofs.«01_k».proof.Proof.Runs
public import Idealize.ShloMosaic.Lib.Pointwise

@[expose] public section

set_option maxRecDepth 16384

noncomputable section

namespace Cert.AttnIdeal.Run

open Idealize.ShloMosaic Idealize.ShloMosaic.TcCoe Idealize.SL.Sem
open Cert.AttnIdeal Cert.AttnIdeal.Gen Cert.Walk

/-- The contents of the ten buffers: the tiles' queries, the next tiles', the keys, the values, the output,
    the running maxima, the weighted sums, the two heads' value columns, the logits. -/
structure St where
  q : Fin 2048 → Fin 256 → EReal
  n : Fin 2048 → Fin 256 → EReal
  k : Fin 4096 → Fin 256 → EReal
  v : Fin 4096 → Fin 128 → EReal
  o : Fin 2048 → Fin 128 → EReal
  m : Fin 4 → Fin 2 → Fin 512 → Fin 128 → EReal
  a : Fin 4 → Fin 512 → Fin 256 → EReal
  vt : Fin 4096 → Fin 256 → EReal
  vb : Fin 4096 → Fin 256 → EReal
  s : Fin 4 → Fin 3 → Fin 2 → Fin 512 → Fin 512 → EReal

/-- Row `i` of a tile, row `j` of a key block, lane `l` of a head. -/
def row (sub : Fin 4) (i : Fin 512) : Fin 2048 := ⟨512 * sub.1 + i.1, by omega⟩
def key (c : Fin 8) (j : Fin 512) : Fin 4096 := ⟨512 * c.1 + j.1, by omega⟩
def lane (hh : Fin 2) (l : Fin 128) : Fin 256 := ⟨128 * hh.1 + l.1, by omega⟩

section Mem
variable {c : Dev nD}

abbrev Mem (c : Dev nD) := Contents (Elt Ideal) (c : Thread nD τ) sig

/-- The body's ten buffers. -/
structure Args where
  arg3 : Memref sig .tc .vmem S2048x256 .bf16
  arg4 : Memref sig .tc .vmem S2048x256 .bf16
  arg5 : Memref sig .tc .vmem S4096x256 .bf16
  arg6 : Memref sig .tc .vmem S4096x128 .bf16
  arg7 : Memref sig .tc .vmem S2048x128 .bf16
  arg8 : Memref sig .tc .vmem S4x2x512x128 .f32
  arg9 : Memref sig .tc .vmem S4x512x256 .f32
  arg10 : Memref sig .tc .vmem S4096x256 .bf16
  arg11 : Memref sig .tc .vmem S4096x256 .bf16
  arg12 : Memref sig .tc .vmem S4x3x2x512x512 .f32
  harg7 : arg7.IsWhole
  harg10 : arg10.IsWhole
  harg11 : arg11.IsWhole

variable (A : Args)

/-- The ten buffers. -/
def refsOf : Fin 10 → Ref sig .tc
  | 0 => A.arg3.view.ref | 1 => A.arg4.view.ref | 2 => A.arg5.view.ref | 3 => A.arg6.view.ref | 4 => A.arg7.view.ref
  | 5 => A.arg8.view.ref | 6 => A.arg9.view.ref | 7 => A.arg10.view.ref | 8 => A.arg11.view.ref | 9 => A.arg12.view.ref

/-- The contents `σ` are `st`'s. -/
structure Abs (σ : Mem c) (st : St) : Prop where
  q : ∀ r l, rd (c := (c : Thread nD τ)) A.arg3 σ (ix2 r l) = st.q r l
  n : ∀ r l, rd (c := (c : Thread nD τ)) A.arg4 σ (ix2 r l) = st.n r l
  k : ∀ r l, rd (c := (c : Thread nD τ)) A.arg5 σ (ix2 r l) = st.k r l
  v : ∀ r l, rd (c := (c : Thread nD τ)) A.arg6 σ (ix2 r l) = st.v r l
  o : ∀ r l, rd (c := (c : Thread nD τ)) A.arg7 σ (ix2 r l) = st.o r l
  m : ∀ a d i l, rd (c := (c : Thread nD τ)) A.arg8 σ (ix4 a d i l) = st.m a d i l
  a : ∀ a i l, rd (c := (c : Thread nD τ)) A.arg9 σ (ix3 a i l) = st.a a i l
  vt : ∀ r l, rd (c := (c : Thread nD τ)) A.arg10 σ (ix2 r l) = st.vt r l
  vb : ∀ r l, rd (c := (c : Thread nD τ)) A.arg11 σ (ix2 r l) = st.vb r l
  s : ∀ a b d i j, rd (c := (c : Thread nD τ)) A.arg12 σ (ix5 a b d i j) = st.s a b d i j

variable {A}
variable (hinj : Function.Injective (refsOf A))

include hinj in
theorem ref_ne {i j : Fin 10} (h : i ≠ j) : refsOf A i ≠ refsOf A j :=
  fun e => h (hinj e)

variable {σ : Mem c} {st : St}

include hinj

theorem Abs.set_o (h : Abs A σ st) (X : Buf (Elt Ideal) ((c : Thread nD τ).loc A.arg7.view.ref)) (o' : Fin 2048 → Fin 128 → EReal)
    (hX : ∀ r l, rd (c := (c : Thread nD τ)) A.arg7 (Function.update σ A.arg7.view.ref X) (ix2 r l) = o' r l) :
    Abs A (Function.update σ A.arg7.view.ref X) { st with o := o' } where
  q r l := (congrFun (rd_update_ne (c := (c : Thread nD τ)) A.arg3 (ref_ne hinj (i := 0) (j := 4) (by decide)) σ X) _).trans (h.q r l)
  n r l := (congrFun (rd_update_ne (c := (c : Thread nD τ)) A.arg4 (ref_ne hinj (i := 1) (j := 4) (by decide)) σ X) _).trans (h.n r l)
  k r l := (congrFun (rd_update_ne (c := (c : Thread nD τ)) A.arg5 (ref_ne hinj (i := 2) (j := 4) (by decide)) σ X) _).trans (h.k r l)
  v r l := (congrFun (rd_update_ne (c := (c : Thread nD τ)) A.arg6 (ref_ne hinj (i := 3) (j := 4) (by decide)) σ X) _).trans (h.v r l)
  o := hX
  m a d i l := (congrFun (rd_update_ne (c := (c : Thread nD τ)) A.arg8 (ref_ne hinj (i := 5) (j := 4) (by decide)) σ X) _).trans (h.m a d i l)
  a a i l := (congrFun (rd_update_ne (c := (c : Thread nD τ)) A.arg9 (ref_ne hinj (i := 6) (j := 4) (by decide)) σ X) _).trans (h.a a i l)
  vt r l := (congrFun (rd_update_ne (c := (c : Thread nD τ)) A.arg10 (ref_ne hinj (i := 7) (j := 4) (by decide)) σ X) _).trans (h.vt r l)
  vb r l := (congrFun (rd_update_ne (c := (c : Thread nD τ)) A.arg11 (ref_ne hinj (i := 8) (j := 4) (by decide)) σ X) _).trans (h.vb r l)
  s a b d i j := (congrFun (rd_update_ne (c := (c : Thread nD τ)) A.arg12 (ref_ne hinj (i := 9) (j := 4) (by decide)) σ X) _).trans (h.s a b d i j)

theorem Abs.set_m (h : Abs A σ st) (X : Buf (Elt Ideal) ((c : Thread nD τ).loc A.arg8.view.ref)) (m' : Fin 4 → Fin 2 → Fin 512 → Fin 128 → EReal)
    (hX : ∀ a d i l, rd (c := (c : Thread nD τ)) A.arg8 (Function.update σ A.arg8.view.ref X) (ix4 a d i l) = m' a d i l) :
    Abs A (Function.update σ A.arg8.view.ref X) { st with m := m' } where
  q r l := (congrFun (rd_update_ne (c := (c : Thread nD τ)) A.arg3 (ref_ne hinj (i := 0) (j := 5) (by decide)) σ X) _).trans (h.q r l)
  n r l := (congrFun (rd_update_ne (c := (c : Thread nD τ)) A.arg4 (ref_ne hinj (i := 1) (j := 5) (by decide)) σ X) _).trans (h.n r l)
  k r l := (congrFun (rd_update_ne (c := (c : Thread nD τ)) A.arg5 (ref_ne hinj (i := 2) (j := 5) (by decide)) σ X) _).trans (h.k r l)
  v r l := (congrFun (rd_update_ne (c := (c : Thread nD τ)) A.arg6 (ref_ne hinj (i := 3) (j := 5) (by decide)) σ X) _).trans (h.v r l)
  o r l := (congrFun (rd_update_ne (c := (c : Thread nD τ)) A.arg7 (ref_ne hinj (i := 4) (j := 5) (by decide)) σ X) _).trans (h.o r l)
  m := hX
  a a i l := (congrFun (rd_update_ne (c := (c : Thread nD τ)) A.arg9 (ref_ne hinj (i := 6) (j := 5) (by decide)) σ X) _).trans (h.a a i l)
  vt r l := (congrFun (rd_update_ne (c := (c : Thread nD τ)) A.arg10 (ref_ne hinj (i := 7) (j := 5) (by decide)) σ X) _).trans (h.vt r l)
  vb r l := (congrFun (rd_update_ne (c := (c : Thread nD τ)) A.arg11 (ref_ne hinj (i := 8) (j := 5) (by decide)) σ X) _).trans (h.vb r l)
  s a b d i j := (congrFun (rd_update_ne (c := (c : Thread nD τ)) A.arg12 (ref_ne hinj (i := 9) (j := 5) (by decide)) σ X) _).trans (h.s a b d i j)

theorem Abs.set_a (h : Abs A σ st) (X : Buf (Elt Ideal) ((c : Thread nD τ).loc A.arg9.view.ref)) (a' : Fin 4 → Fin 512 → Fin 256 → EReal)
    (hX : ∀ a i l, rd (c := (c : Thread nD τ)) A.arg9 (Function.update σ A.arg9.view.ref X) (ix3 a i l) = a' a i l) :
    Abs A (Function.update σ A.arg9.view.ref X) { st with a := a' } where
  q r l := (congrFun (rd_update_ne (c := (c : Thread nD τ)) A.arg3 (ref_ne hinj (i := 0) (j := 6) (by decide)) σ X) _).trans (h.q r l)
  n r l := (congrFun (rd_update_ne (c := (c : Thread nD τ)) A.arg4 (ref_ne hinj (i := 1) (j := 6) (by decide)) σ X) _).trans (h.n r l)
  k r l := (congrFun (rd_update_ne (c := (c : Thread nD τ)) A.arg5 (ref_ne hinj (i := 2) (j := 6) (by decide)) σ X) _).trans (h.k r l)
  v r l := (congrFun (rd_update_ne (c := (c : Thread nD τ)) A.arg6 (ref_ne hinj (i := 3) (j := 6) (by decide)) σ X) _).trans (h.v r l)
  o r l := (congrFun (rd_update_ne (c := (c : Thread nD τ)) A.arg7 (ref_ne hinj (i := 4) (j := 6) (by decide)) σ X) _).trans (h.o r l)
  m a d i l := (congrFun (rd_update_ne (c := (c : Thread nD τ)) A.arg8 (ref_ne hinj (i := 5) (j := 6) (by decide)) σ X) _).trans (h.m a d i l)
  a := hX
  vt r l := (congrFun (rd_update_ne (c := (c : Thread nD τ)) A.arg10 (ref_ne hinj (i := 7) (j := 6) (by decide)) σ X) _).trans (h.vt r l)
  vb r l := (congrFun (rd_update_ne (c := (c : Thread nD τ)) A.arg11 (ref_ne hinj (i := 8) (j := 6) (by decide)) σ X) _).trans (h.vb r l)
  s a b d i j := (congrFun (rd_update_ne (c := (c : Thread nD τ)) A.arg12 (ref_ne hinj (i := 9) (j := 6) (by decide)) σ X) _).trans (h.s a b d i j)

theorem Abs.set_vt (h : Abs A σ st) (X : Buf (Elt Ideal) ((c : Thread nD τ).loc A.arg10.view.ref)) (w' : Fin 4096 → Fin 256 → EReal)
    (hX : ∀ r l, rd (c := (c : Thread nD τ)) A.arg10 (Function.update σ A.arg10.view.ref X) (ix2 r l) = w' r l) :
    Abs A (Function.update σ A.arg10.view.ref X) { st with vt := w' } where
  q r l := (congrFun (rd_update_ne (c := (c : Thread nD τ)) A.arg3 (ref_ne hinj (i := 0) (j := 7) (by decide)) σ X) _).trans (h.q r l)
  n r l := (congrFun (rd_update_ne (c := (c : Thread nD τ)) A.arg4 (ref_ne hinj (i := 1) (j := 7) (by decide)) σ X) _).trans (h.n r l)
  k r l := (congrFun (rd_update_ne (c := (c : Thread nD τ)) A.arg5 (ref_ne hinj (i := 2) (j := 7) (by decide)) σ X) _).trans (h.k r l)
  v r l := (congrFun (rd_update_ne (c := (c : Thread nD τ)) A.arg6 (ref_ne hinj (i := 3) (j := 7) (by decide)) σ X) _).trans (h.v r l)
  o r l := (congrFun (rd_update_ne (c := (c : Thread nD τ)) A.arg7 (ref_ne hinj (i := 4) (j := 7) (by decide)) σ X) _).trans (h.o r l)
  m a d i l := (congrFun (rd_update_ne (c := (c : Thread nD τ)) A.arg8 (ref_ne hinj (i := 5) (j := 7) (by decide)) σ X) _).trans (h.m a d i l)
  a a i l := (congrFun (rd_update_ne (c := (c : Thread nD τ)) A.arg9 (ref_ne hinj (i := 6) (j := 7) (by decide)) σ X) _).trans (h.a a i l)
  vt := hX
  vb r l := (congrFun (rd_update_ne (c := (c : Thread nD τ)) A.arg11 (ref_ne hinj (i := 8) (j := 7) (by decide)) σ X) _).trans (h.vb r l)
  s a b d i j := (congrFun (rd_update_ne (c := (c : Thread nD τ)) A.arg12 (ref_ne hinj (i := 9) (j := 7) (by decide)) σ X) _).trans (h.s a b d i j)

theorem Abs.set_vb (h : Abs A σ st) (X : Buf (Elt Ideal) ((c : Thread nD τ).loc A.arg11.view.ref)) (w' : Fin 4096 → Fin 256 → EReal)
    (hX : ∀ r l, rd (c := (c : Thread nD τ)) A.arg11 (Function.update σ A.arg11.view.ref X) (ix2 r l) = w' r l) :
    Abs A (Function.update σ A.arg11.view.ref X) { st with vb := w' } where
  q r l := (congrFun (rd_update_ne (c := (c : Thread nD τ)) A.arg3 (ref_ne hinj (i := 0) (j := 8) (by decide)) σ X) _).trans (h.q r l)
  n r l := (congrFun (rd_update_ne (c := (c : Thread nD τ)) A.arg4 (ref_ne hinj (i := 1) (j := 8) (by decide)) σ X) _).trans (h.n r l)
  k r l := (congrFun (rd_update_ne (c := (c : Thread nD τ)) A.arg5 (ref_ne hinj (i := 2) (j := 8) (by decide)) σ X) _).trans (h.k r l)
  v r l := (congrFun (rd_update_ne (c := (c : Thread nD τ)) A.arg6 (ref_ne hinj (i := 3) (j := 8) (by decide)) σ X) _).trans (h.v r l)
  o r l := (congrFun (rd_update_ne (c := (c : Thread nD τ)) A.arg7 (ref_ne hinj (i := 4) (j := 8) (by decide)) σ X) _).trans (h.o r l)
  m a d i l := (congrFun (rd_update_ne (c := (c : Thread nD τ)) A.arg8 (ref_ne hinj (i := 5) (j := 8) (by decide)) σ X) _).trans (h.m a d i l)
  a a i l := (congrFun (rd_update_ne (c := (c : Thread nD τ)) A.arg9 (ref_ne hinj (i := 6) (j := 8) (by decide)) σ X) _).trans (h.a a i l)
  vt r l := (congrFun (rd_update_ne (c := (c : Thread nD τ)) A.arg10 (ref_ne hinj (i := 7) (j := 8) (by decide)) σ X) _).trans (h.vt r l)
  vb := hX
  s a b d i j := (congrFun (rd_update_ne (c := (c : Thread nD τ)) A.arg12 (ref_ne hinj (i := 9) (j := 8) (by decide)) σ X) _).trans (h.s a b d i j)

theorem Abs.set_s (h : Abs A σ st) (X : Buf (Elt Ideal) ((c : Thread nD τ).loc A.arg12.view.ref)) (s' : Fin 4 → Fin 3 → Fin 2 → Fin 512 → Fin 512 → EReal)
    (hX : ∀ a b d i j, rd (c := (c : Thread nD τ)) A.arg12 (Function.update σ A.arg12.view.ref X) (ix5 a b d i j) = s' a b d i j) :
    Abs A (Function.update σ A.arg12.view.ref X) { st with s := s' } where
  q r l := (congrFun (rd_update_ne (c := (c : Thread nD τ)) A.arg3 (ref_ne hinj (i := 0) (j := 9) (by decide)) σ X) _).trans (h.q r l)
  n r l := (congrFun (rd_update_ne (c := (c : Thread nD τ)) A.arg4 (ref_ne hinj (i := 1) (j := 9) (by decide)) σ X) _).trans (h.n r l)
  k r l := (congrFun (rd_update_ne (c := (c : Thread nD τ)) A.arg5 (ref_ne hinj (i := 2) (j := 9) (by decide)) σ X) _).trans (h.k r l)
  v r l := (congrFun (rd_update_ne (c := (c : Thread nD τ)) A.arg6 (ref_ne hinj (i := 3) (j := 9) (by decide)) σ X) _).trans (h.v r l)
  o r l := (congrFun (rd_update_ne (c := (c : Thread nD τ)) A.arg7 (ref_ne hinj (i := 4) (j := 9) (by decide)) σ X) _).trans (h.o r l)
  m a d i l := (congrFun (rd_update_ne (c := (c : Thread nD τ)) A.arg8 (ref_ne hinj (i := 5) (j := 9) (by decide)) σ X) _).trans (h.m a d i l)
  a a i l := (congrFun (rd_update_ne (c := (c : Thread nD τ)) A.arg9 (ref_ne hinj (i := 6) (j := 9) (by decide)) σ X) _).trans (h.a a i l)
  vt r l := (congrFun (rd_update_ne (c := (c : Thread nD τ)) A.arg10 (ref_ne hinj (i := 7) (j := 9) (by decide)) σ X) _).trans (h.vt r l)
  vb r l := (congrFun (rd_update_ne (c := (c : Thread nD τ)) A.arg11 (ref_ne hinj (i := 8) (j := 9) (by decide)) σ X) _).trans (h.vb r l)
  s := hX

omit hinj

/-- Where each access falls, coordinate by coordinate. -/
theorem at_q (sub : Fin 4) (hh : Fin 2) (i : Fin 512) (l : Fin 128) :
    (Rect.unit (s := S2048x256) ![512 * sub.1, 0] S512x256.size (inbQ sub)).emb ((rQh hh).emb (ix2 i l)) = ix2 (row sub i) (lane hh l) := by
  funext a
  match a with
  | ⟨0, _⟩ => exact Fin.ext (show 512 * sub.1 + 1 * (0 + 1 * i.1) = 512 * sub.1 + i.1 by omega)
  | ⟨1, _⟩ => exact Fin.ext (show 0 + 1 * (128 * hh.1 + 1 * l.1) = 128 * hh.1 + l.1 by omega)

theorem at_k (b : Fin 8) (hh : Fin 2) (j : Fin 512) (l : Fin 128) : (rK b hh).emb (ix2 j l) = ix2 (key b j) (lane hh l) := by
  funext a
  match a with
  | ⟨0, _⟩ => exact Fin.ext (show 512 * b.1 + 1 * j.1 = 512 * b.1 + j.1 by omega)
  | ⟨1, _⟩ => exact Fin.ext (show 128 * hh.1 + 1 * l.1 = 128 * hh.1 + l.1 by omega)

theorem at_v (b : Fin 8) (j : Fin 512) (l : Fin 256) : (rV b).emb (ix2 j l) = ix2 (key b j) l := by
  funext a
  match a with
  | ⟨0, _⟩ => exact Fin.ext (show 512 * b.1 + 1 * j.1 = 512 * b.1 + j.1 by omega)
  | ⟨1, _⟩ => exact Fin.ext (show 0 + 1 * l.1 = l.1 by omega)

theorem at_vh (b : Fin 8) (j : Fin 256) (l : Fin 256) : (rVh b).emb (ix2 j l) = ix2 (key b ⟨j.1, by omega⟩) l := by
  funext a
  match a with
  | ⟨0, _⟩ => exact Fin.ext (show 512 * b.1 + 1 * j.1 = 512 * b.1 + j.1 by omega)
  | ⟨1, _⟩ => exact Fin.ext (show 0 + 1 * l.1 = l.1 by omega)

theorem at_o (sub : Fin 4) (i : Fin 512) (l : Fin 128) : (rO sub).emb (ix2 i l) = ix2 (row sub i) l := by
  funext a
  match a with
  | ⟨0, _⟩ => exact Fin.ext (show 512 * sub.1 + 1 * i.1 = 512 * sub.1 + i.1 by omega)
  | ⟨1, _⟩ => exact Fin.ext (show 0 + 1 * l.1 = l.1 by omega)

theorem at_a (sub : Fin 4) (z : Fin 1) (i : Fin 512) (l : Fin 256) : (rA sub).emb (ix3 z i l) = ix3 sub i l := by
  funext a
  match a with
  | ⟨0, _⟩ => exact Fin.ext (show sub.1 + 1 * z.1 = sub.1 by omega)
  | ⟨1, _⟩ => exact Fin.ext (show 0 + 1 * i.1 = i.1 by omega)
  | ⟨2, _⟩ => exact Fin.ext (show 0 + 1 * l.1 = l.1 by omega)

/-- Dropping a leading coordinate. -/
theorem drop5 (b : Fin 3) (d : Fin 2) (i j : Fin 512) :
    Shape.reshapeEquiv (s := S1x3x2x512x512) (s' := S3x2x512x512) squeezes_S1x3x2x512x512_S3x2x512x512.numel_eq (ix4 b d i j) = ix5 (0 : Fin 1) b d i j :=
  Shape.reshapeEquiv_eq_of_rowMajor _ (by
    rw [Shape.rowMajor_val_five, Shape.rowMajor_val_four]
    show ((((0 * 3 + b.1) * 2 + d.1) * 512 + i.1) * 512 + j.1) = (((b.1 * 2 + d.1) * 512 + i.1) * 512 + j.1)
    omega)

theorem drop4 (i j : Fin 512) :
    Shape.reshapeEquiv (s := S1x1x512x512) (s' := S512x512) squeezes_S1x1x512x512_S512x512.numel_eq (ix2 i j) = ix4 (0 : Fin 1) (0 : Fin 1) i j :=
  Shape.reshapeEquiv_eq_of_rowMajor _ (by
    rw [Shape.rowMajor_val_four, Shape.rowMajor_val_two]
    show ((((0 * 1 + 0) * 512 + i.1) * 512 + j.1)) = (i.1 * 512 + j.1)
    omega)

theorem dropM (d : Fin 2) (i : Fin 512) (l : Fin 128) :
    Shape.reshapeEquiv (s := S1x2x512x128) (s' := S2x512x128) squeezes_S1x2x512x128_S2x512x128.numel_eq (ix3 d i l) = ix4 (0 : Fin 1) d i l :=
  Shape.reshapeEquiv_eq_of_rowMajor _ (by
    rw [Shape.rowMajor_val_four, Shape.rowMajor_val_three]
    show (((0 * 2 + d.1) * 512 + i.1) * 128 + l.1) = ((d.1 * 512 + i.1) * 128 + l.1)
    omega)

theorem dropA (i : Fin 512) (l : Fin 256) :
    Shape.reshapeEquiv (s := S1x512x256) (s' := S512x256) squeezes_S1x512x256_S512x256.numel_eq (ix2 i l) = ix3 (0 : Fin 1) i l :=
  Shape.reshapeEquiv_eq_of_rowMajor _ (by
    rw [Shape.rowMajor_val_three, Shape.rowMajor_val_two]
    show ((0 * 512 + i.1) * 256 + l.1) = (i.1 * 256 + l.1)
    omega)

/-- A tile's slab of the logits, at its own coordinates. -/
def slab (sub : Fin 4) : Rect S4x3x2x512x512 := Rect.unit (s := S4x3x2x512x512) ![sub.1, 0, 0, 0, 0] S1x3x2x512x512.size (inbS sub)
theorem at_slab (sub : Fin 4) (b : Fin 3) (d : Fin 2) (i j : Fin 512) :
    (slab sub).emb (Shape.reshapeEquiv (s := S1x3x2x512x512) (s' := S3x2x512x512) squeezes_S1x3x2x512x512_S3x2x512x512.numel_eq (ix4 b d i j)) = ix5 sub b d i j := by
  rw [drop5]
  funext a
  match a with
  | ⟨0, _⟩ => exact Fin.ext (show sub.1 + 1 * 0 = sub.1 by omega)
  | ⟨1, _⟩ => exact Fin.ext (show 0 + 1 * b.1 = b.1 by omega)
  | ⟨2, _⟩ => exact Fin.ext (show 0 + 1 * d.1 = d.1 by omega)
  | ⟨3, _⟩ => exact Fin.ext (show 0 + 1 * i.1 = i.1 by omega)
  | ⟨4, _⟩ => exact Fin.ext (show 0 + 1 * j.1 = j.1 by omega)

theorem at_sf (slot : Fin 3) (hh : Fin 2) (y z : Fin 1) (i j : Fin 512) : (rSf slot hh).emb (ix4 y z i j) = ix4 slot hh i j := by
  funext a
  match a with
  | ⟨0, _⟩ => exact Fin.ext (show slot.1 + 1 * y.1 = slot.1 by omega)
  | ⟨1, _⟩ => exact Fin.ext (show hh.1 + 1 * z.1 = hh.1 by omega)
  | ⟨2, _⟩ => exact Fin.ext (show 0 + 1 * i.1 = i.1 by omega)
  | ⟨3, _⟩ => exact Fin.ext (show 0 + 1 * j.1 = j.1 by omega)

theorem at_st (hh : Fin 2) (y z : Fin 1) (i j : Fin 256) : (rSt hh).emb (ix4 y z i j) = ix4 (2 : Fin 3) hh ⟨i.1, by omega⟩ ⟨j.1, by omega⟩ := by
  funext a
  match a with
  | ⟨0, _⟩ => exact Fin.ext (show 2 + 1 * y.1 = 2 by omega)
  | ⟨1, _⟩ => exact Fin.ext (show hh.1 + 1 * z.1 = hh.1 by omega)
  | ⟨2, _⟩ => exact Fin.ext (show 0 + 1 * i.1 = i.1 by omega)
  | ⟨3, _⟩ => exact Fin.ext (show 0 + 1 * j.1 = j.1 by omega)

theorem at_sb (hh : Fin 2) (y z : Fin 1) (i : Fin 256) (j : Fin 512) : (rSb hh).emb (ix4 y z i j) = ix4 (2 : Fin 3) hh ⟨256 + i.1, by omega⟩ j := by
  funext a
  match a with
  | ⟨0, _⟩ => exact Fin.ext (show 2 + 1 * y.1 = 2 by omega)
  | ⟨1, _⟩ => exact Fin.ext (show hh.1 + 1 * z.1 = hh.1 by omega)
  | ⟨2, _⟩ => exact Fin.ext (show 256 + 1 * i.1 = 256 + i.1 by omega)
  | ⟨3, _⟩ => exact Fin.ext (show 0 + 1 * j.1 = j.1 by omega)

/-- A tile's slab of the maxima. -/
def slabM (sub : Fin 4) : Rect S4x2x512x128 := Rect.unit (s := S4x2x512x128) ![sub.1, 0, 0, 0] S1x2x512x128.size (inbM sub)
theorem at_m (sub : Fin 4) (hh : Fin 2) (z : Fin 1) (i : Fin 512) (l : Fin 128) :
    (slabM sub).emb (Shape.reshapeEquiv (s := S1x2x512x128) (s' := S2x512x128) squeezes_S1x2x512x128_S2x512x128.numel_eq ((rM hh).emb (ix3 z i l))) = ix4 sub hh i l := by
  have e : (rM hh).emb (ix3 z i l) = ix3 hh i l := by
    funext a
    match a with
    | ⟨0, _⟩ => exact Fin.ext (show hh.1 + 1 * z.1 = hh.1 by omega)
    | ⟨1, _⟩ => exact Fin.ext (show 0 + 1 * i.1 = i.1 by omega)
    | ⟨2, _⟩ => exact Fin.ext (show 0 + 1 * l.1 = l.1 by omega)
  rw [e, dropM]
  funext a
  match a with
  | ⟨0, _⟩ => exact Fin.ext (show sub.1 + 1 * 0 = sub.1 by omega)
  | ⟨1, _⟩ => exact Fin.ext (show 0 + 1 * hh.1 = hh.1 by omega)
  | ⟨2, _⟩ => exact Fin.ext (show 0 + 1 * i.1 = i.1 by omega)
  | ⟨3, _⟩ => exact Fin.ext (show 0 + 1 * l.1 = l.1 by omega)

/-- Half a tile's weighted sums, rows from `o` on. -/
theorem at_ah (sub : Fin 4) (o : ℕ) (ho : o + 256 ≤ 512) (inb : ∀ a, (![o, 0] : Fin 2 → Nat) a + S256x256.size a ≤ S512x256.size a) (i : Fin 256) (l : Fin 256) :
    (rA sub).emb (Shape.reshapeEquiv (s := S1x512x256) (s' := S512x256) squeezes_S1x512x256_S512x256.numel_eq
      ((Rect.unit (s := S512x256) ![o, 0] S256x256.size inb).emb (ix2 i l))) = ix3 sub ⟨o + i.1, by omega⟩ l := by
  have e : (Rect.unit (s := S512x256) ![o, 0] S256x256.size inb).emb (ix2 i l) = ix2 (⟨o + i.1, by omega⟩ : Fin 512) l := by
    funext a
    match a with
    | ⟨0, _⟩ => exact Fin.ext (show o + 1 * i.1 = o + i.1 by omega)
    | ⟨1, _⟩ => exact Fin.ext (show 0 + 1 * l.1 = l.1 by omega)
  rw [e, dropA, at_a]

/-- A piece of a tile's diagonal block. -/
theorem at_d (sub : Fin 4) (hh : Fin 2) (o p : ℕ) (n' m' : ℕ) (ho : o + n' ≤ 512) (hp : p + m' ≤ 512)
    (inb : ∀ a, (![o, p] : Fin 2 → Nat) a + (![n', m'] : Fin 2 → Nat) a ≤ S512x512.size a) (i : Fin n') (j : Fin m') :
    (slab sub).emb (Shape.reshapeEquiv (s := S1x3x2x512x512) (s' := S3x2x512x512) squeezes_S1x3x2x512x512_S3x2x512x512.numel_eq
      ((Rect.unit (s := S3x2x512x512) ![2, hh.1, 0, 0] S1x1x512x512.size (inbSf 2 hh)).emb
        (Shape.reshapeEquiv (s := S1x1x512x512) (s' := S512x512) squeezes_S1x1x512x512_S512x512.numel_eq
          ((Rect.unit (s := S512x512) ![o, p] ![n', m'] inb).emb (ix2 i j))))) = ix5 sub 2 hh ⟨o + i.1, by omega⟩ ⟨p + j.1, by omega⟩ := by
  have e : (Rect.unit (s := S512x512) ![o, p] ![n', m'] inb).emb (ix2 i j) = ix2 (⟨o + i.1, by omega⟩ : Fin 512) (⟨p + j.1, by omega⟩ : Fin 512) := by
    funext a
    match a with
    | ⟨0, _⟩ => exact Fin.ext (show o + 1 * i.1 = o + i.1 by omega)
    | ⟨1, _⟩ => exact Fin.ext (show p + 1 * j.1 = p + j.1 by omega)
  rw [e, drop4]
  exact (congrArg (fun z => (slab sub).emb (Shape.reshapeEquiv (s := S1x3x2x512x512) (s' := S3x2x512x512) squeezes_S1x3x2x512x512_S3x2x512x512.numel_eq z))
    (at_sf 2 hh 0 0 _ _)).trans (at_slab sub 2 hh _ _)

end Mem

end Cert.AttnIdeal.Run

end
-- ==== Proof.AttnPay.lean ====
/- What each block of the attention's kernel body computes, at a row and a column. -/
module

public import proofs.«01_k».proof.Proof.AttnBlocks
public import Idealize.ShloMosaic.Lib.Pointwise

@[expose] public section

set_option maxRecDepth 16384

noncomputable section

namespace Cert.AttnIdeal.Run

open Idealize.ShloMosaic Idealize.ShloMosaic.TcCoe Idealize.SL.Sem
open Cert.AttnIdeal Cert.AttnIdeal.Gen

theorem full_at (q k : Vec Ideal S512x128 .bf16) (i j : Fin 512) :
    full (F := Ideal) q k (ix2 i j) = ∑ l : Fin 128, q (ix2 i l) * k (ix2 j l) := by
  pointwise [full]

theorem topD_at (q k : Vec Ideal S512x128 .bf16) (i j : Fin 256) :
    topD (F := Ideal) q k (ix2 i j) = ∑ l : Fin 128, q (ix2 ⟨i.1, by omega⟩ l) * k (ix2 ⟨j.1, by omega⟩ l) := by
  pointwise [topD]

theorem botD_at (q k : Vec Ideal S512x128 .bf16) (i : Fin 256) (j : Fin 512) :
    botD (F := Ideal) q k (ix2 i j) = ∑ l : Fin 128, q (ix2 ⟨256 + i.1, by omega⟩ l) * k (ix2 j l) := by
  pointwise [botD]

/-- A choice by a word that says whether `p` holds. -/
theorem select_iff {α : Type} {w : BitVec 1} {p : Prop} [Decidable p] (h : w = 1 ↔ p) (a b : α) : Scalar.select w a b = if p then a else b := by
  unfold Scalar.select
  by_cases hp : p
  · rw [if_pos hp, if_pos (h.mpr hp)]
  · rw [if_neg hp, if_neg (fun e => hp (h.mp e))]

theorem slt_64 (l : Fin 128) : IntOp.cmpi CmpIPredicate.slt (BitVec.ofNat 32 l.1) 64#32 = 1 ↔ l.1 < 64 := by revert l; decide
theorem sge_64 (l : Fin 128) : IntOp.cmpi CmpIPredicate.sge (BitVec.ofNat 32 l.1) 64#32 = 1 ↔ 64 ≤ l.1 := by revert l; decide
theorem eq_0 (l : Fin 128) : IntOp.cmpi CmpIPredicate.eq (BitVec.ofNat 32 l.1) 0#32 = 1 ↔ l.1 = 0 := by revert l; decide
theorem eq_1 (l : Fin 128) : IntOp.cmpi CmpIPredicate.eq (BitVec.ofNat 32 l.1) 1#32 = 1 ↔ l.1 = 1 := by revert l; decide
theorem ev_256 (l : Fin 256) : IntOp.ori (IntOp.cmpi CmpIPredicate.slt (BitVec.ofNat 32 l.1) 64#32) (IntOp.cmpi CmpIPredicate.eq (BitVec.ofNat 32 l.1) 128#32) = 1 ↔ (l.1 < 64 ∨ l.1 = 128) := by
  revert l; decide
theorem sge_128 (i l : Fin 128) : IntOp.cmpi CmpIPredicate.sge (BitVec.ofNat 32 i.1) (BitVec.ofNat 32 l.1) = 1 ↔ l.1 ≤ i.1 := by
  revert i l; decide +kernel

/-- The word for minus infinity. -/
theorem word_bot : Ideal.ofBits FTy.f32 4286578688#32 = ⊥ := by
  simp [Ideal.ofBits, Ideal.ieee]

theorem headT_at (v : Vec Ideal S4096x128 .bf16) (j : Fin 4096) (l : Fin 128) :
    headV (F := Ideal) v true (ix2 j l) = if l.1 < 64 then v (ix2 j l) else 0 := by
  pointwise [headV]
  exact select_iff (slt_64 l) _ _

theorem headB_at (v : Vec Ideal S4096x128 .bf16) (j : Fin 4096) (l : Fin 128) :
    headV (F := Ideal) v false (ix2 j l) = if 64 ≤ l.1 then v (ix2 j l) else 0 := by
  pointwise [headV]
  exact select_iff (sge_64 l) _ _

theorem oneT_at (j : Fin 4096) (l : Fin 128) :
    oneV (F := Ideal) 0#32 (ix2 j l) = if l.1 = 0 then 1 else 0 := by
  pointwise [oneV]
  exact select_iff (eq_0 l) _ _

theorem oneB_at (j : Fin 4096) (l : Fin 128) :
    oneV (F := Ideal) 1#32 (ix2 j l) = if l.1 = 1 then 1 else 0 := by
  pointwise [oneV]
  exact select_iff (eq_1 l) _ _

/-- A block of logits on the diagonal, the keys after the query at minus infinity. -/
def causal (S : Fin 512 → Fin 512 → EReal) (i j : Fin 512) : EReal := if j.1 ≤ i.1 then S i j else ⊥

theorem exp_eq {a a' b b' : EReal} (ha : a = a') (hb : b = b') : FloatOps.exp2 (F := Ideal) (φ := .f32) (a - b) = Ideal.exp2 (a' - b') := by
  subst ha hb; rfl
theorem ext2 {α : Type} {n m : Nat} (f : Fin n → Fin m → α) {a a' : Fin n} {b b' : Fin m} (ha : a.1 = a'.1) (hb : b.1 = b'.1) : f a b = f a' b' := by
  rw [Fin.ext ha, Fin.ext hb]
theorem at2 {α : Type} {n m : Nat} (f : (Shape.Idx (⟨2, ![n, m]⟩ : Shape)) → α) {a a' : Fin n} {b b' : Fin m} (ha : a.1 = a'.1) (hb : b.1 = b'.1) : f (ix2 a b) = f (ix2 a' b') := by
  rw [Fin.ext ha, Fin.ext hb]

section Columns
variable (S : Fin 512 → Fin 512 → EReal)

theorem col0_at (a : Vec Ideal S128x128 .f32) (b : Vec Ideal S384x128 .f32)
    (ha : ∀ i l : Fin 128, a (ix2 i l) = S ⟨0 + i.1, by omega⟩ ⟨0 + l.1, by omega⟩) (hb : ∀ (i : Fin 384) (l : Fin 128), b (ix2 i l) = S ⟨128 + i.1, by omega⟩ ⟨0 + l.1, by omega⟩)
    (i : Fin 512) (l : Fin 128) : col0 (F := Ideal) a b (ix2 i l) = causal S i ⟨l.1, by omega⟩ := by
  have hi := i.2; have hl := l.2
  pointwise [col0, tri]
  unfold causal
  split
  · next h =>
    refine (select_iff (sge_128 ⟨i.1, h⟩ l) _ _).trans ((if_congr Iff.rfl (ha _ _) word_bot).trans ?_)
    exact if_congr Iff.rfl (ext2 S (Nat.zero_add _) (Nat.zero_add _)) rfl
  · next h =>
    exact (hb _ _).trans ((ext2 S (show 128 + (i.1 - 128) = i.1 by omega) (Nat.zero_add _)).trans (if_pos (show l.1 ≤ i.1 by omega)).symm)

theorem col1_at (a : Vec Ideal S128x128 .f32) (b : Vec Ideal S256x128 .f32)
    (ha : ∀ i l : Fin 128, a (ix2 i l) = S ⟨128 + i.1, by omega⟩ ⟨128 + l.1, by omega⟩) (hb : ∀ (i : Fin 256) (l : Fin 128), b (ix2 i l) = S ⟨256 + i.1, by omega⟩ ⟨128 + l.1, by omega⟩)
    (i : Fin 512) (l : Fin 128) : col1 (F := Ideal) a b (ix2 i l) = causal S i ⟨128 + l.1, by omega⟩ := by
  have hi := i.2; have hl := l.2
  pointwise [col1, tri]
  unfold causal
  split
  · next h => exact word_bot.trans (if_neg (show ¬ 128 + l.1 ≤ i.1 by omega)).symm
  · next h =>
    split
    · next h' =>
      refine (select_iff (sge_128 ⟨i.1 - 128, h'⟩ l) _ _).trans ((if_congr Iff.rfl (ha _ _) word_bot).trans ?_)
      exact if_congr (show l.1 ≤ i.1 - 128 ↔ 128 + l.1 ≤ i.1 by omega) (ext2 S (show 128 + (i.1 - 128) = i.1 by omega) rfl) rfl
    · next h' =>
      exact (hb _ _).trans ((ext2 S (show 256 + (i.1 - 128 - 128) = i.1 by omega) rfl).trans (if_pos (show 128 + l.1 ≤ i.1 by omega)).symm)

theorem col2_at (a b : Vec Ideal S128x128 .f32)
    (ha : ∀ i l : Fin 128, a (ix2 i l) = S ⟨256 + i.1, by omega⟩ ⟨256 + l.1, by omega⟩) (hb : ∀ (i : Fin 128) (l : Fin 128), b (ix2 i l) = S ⟨384 + i.1, by omega⟩ ⟨256 + l.1, by omega⟩)
    (i : Fin 512) (l : Fin 128) : col2 (F := Ideal) a b (ix2 i l) = causal S i ⟨256 + l.1, by omega⟩ := by
  have hi := i.2; have hl := l.2
  pointwise [col2, tri]
  unfold causal
  split
  · next h => exact word_bot.trans (if_neg (show ¬ 256 + l.1 ≤ i.1 by omega)).symm
  · next h =>
    split
    · next h' =>
      refine (select_iff (sge_128 ⟨i.1 - 256, h'⟩ l) _ _).trans ((if_congr Iff.rfl (ha _ _) word_bot).trans ?_)
      exact if_congr (show l.1 ≤ i.1 - 256 ↔ 256 + l.1 ≤ i.1 by omega) (ext2 S (show 256 + (i.1 - 256) = i.1 by omega) rfl) rfl
    · next h' =>
      exact (hb _ _).trans ((ext2 S (show 384 + (i.1 - 256 - 128) = i.1 by omega) rfl).trans (if_pos (show 256 + l.1 ≤ i.1 by omega)).symm)

theorem col3_at (a : Vec Ideal S128x128 .f32)
    (ha : ∀ i l : Fin 128, a (ix2 i l) = S ⟨384 + i.1, by omega⟩ ⟨384 + l.1, by omega⟩)
    (i : Fin 512) (l : Fin 128) : col3 (F := Ideal) a (ix2 i l) = causal S i ⟨384 + l.1, by omega⟩ := by
  have hi := i.2; have hl := l.2
  pointwise [col3, tri]
  unfold causal
  split
  · next h => exact word_bot.trans (if_neg (show ¬ 384 + l.1 ≤ i.1 by omega)).symm
  · next h =>
    refine (select_iff (sge_128 ⟨i.1 - 384, by omega⟩ l) _ _).trans ((if_congr Iff.rfl (ha _ _) word_bot).trans ?_)
    exact if_congr (show l.1 ≤ i.1 - 384 ↔ 384 + l.1 ≤ i.1 by omega) (ext2 S (show 384 + (i.1 - 384) = i.1 by omega) rfl) rfl

variable {S} {c0 c1 c2 c3 : FVec Ideal S512x128 .f32}
  (h0 : ∀ (i : Fin 512) (l : Fin 128), c0 (ix2 i l) = causal S i ⟨l.1, by omega⟩) (h1 : ∀ (i : Fin 512) (l : Fin 128), c1 (ix2 i l) = causal S i ⟨128 + l.1, by omega⟩)
  (h2 : ∀ (i : Fin 512) (l : Fin 128), c2 (ix2 i l) = causal S i ⟨256 + l.1, by omega⟩) (h3 : ∀ (i : Fin 512) (l : Fin 128), c3 (ix2 i l) = causal S i ⟨384 + l.1, by omega⟩)
include h0 h1 h2 h3

theorem topOf_at (i : Fin 512) (l : Fin 128) :
    topOf (F := Ideal) c0 c1 c2 c3 (ix2 i l) = Finset.univ.sup (causal S i) := by
  pointwise [topOf]
  simp only [h0, h1, h2, h3, word_bot]
  refine le_antisymm (Finset.sup_le fun x _ => ?_) (Finset.sup_le fun j _ => ?_)
  · exact max_le (max_le (max_le (Finset.le_sup (f := causal S i) (Finset.mem_univ _)) (Finset.le_sup (f := causal S i) (Finset.mem_univ _))) (Finset.le_sup (f := causal S i) (Finset.mem_univ _))) (Finset.le_sup (f := causal S i) (Finset.mem_univ _))
  · have hj := j.2
    refine le_trans ?_ (Finset.le_sup (f := fun x : Fin 128 => max (max (max (causal S i ⟨x.1, by omega⟩) (causal S i ⟨128 + x.1, by omega⟩)) (causal S i ⟨256 + x.1, by omega⟩)) (causal S i ⟨384 + x.1, by omega⟩))
      (Finset.mem_univ ⟨j.1 % 128, Nat.mod_lt _ (by decide)⟩))
    rcases (by omega : j.1 = j.1 % 128 ∨ j.1 = 128 + j.1 % 128 ∨ j.1 = 256 + j.1 % 128 ∨ j.1 = 384 + j.1 % 128) with e | e | e | e
    · exact (ext2 (causal S) rfl e).le.trans ((le_max_left _ _).trans ((le_max_left _ _).trans (le_max_left _ _)))
    · exact (ext2 (causal S) rfl e).le.trans ((le_max_right _ _).trans ((le_max_left _ _).trans (le_max_left _ _)))
    · exact (ext2 (causal S) rfl e).le.trans ((le_max_right _ _).trans (le_max_left _ _))
    · exact (ext2 (causal S) rfl e).le.trans (le_max_right _ _)

theorem weightsD_at (mx : FVec Ideal S512x128 .f32) (i j : Fin 512) :
    weightsD (F := Ideal) c0 c1 c2 c3 mx (ix2 i j) = Ideal.exp2 (causal S i j - mx (ix2 i ⟨j.1 % 128, Nat.mod_lt _ (by decide)⟩)) := by
  pointwise [weightsD]
  simp only [h0, h1, h2, h3]
  have hi := i.2; have hj := j.2
  have zero (h : ¬ j.1 ≤ i.1) (x : EReal) : (0 : EReal) = Ideal.exp2 (causal S i j - x) := by
    unfold causal
    rw [if_neg h, sub_eq_add_neg, EReal.bot_add]
    rfl
  split
  · exact exp_eq rfl (at2 mx rfl (show j.1 = j.1 % 128 by omega))
  · split
    · split
      · exact zero (by omega) _
      · exact exp_eq (ext2 (causal S) (show 128 + (i.1 - 128) = i.1 by omega) (show 128 + (j.1 - 128) = j.1 by omega))
          (at2 mx (show 128 + (i.1 - 128) = i.1 by omega) (show j.1 - 128 = j.1 % 128 by omega))
    · split
      · split
        · exact zero (by omega) _
        · exact exp_eq (ext2 (causal S) (show 256 + (i.1 - 256) = i.1 by omega) (show 256 + (j.1 - 128 - 128) = j.1 by omega))
            (at2 mx (show 256 + (i.1 - 256) = i.1 by omega) (show j.1 - 128 - 128 = j.1 % 128 by omega))
      · split
        · exact zero (by omega) _
        · exact exp_eq (ext2 (causal S) (show 384 + (i.1 - 384) = i.1 by omega) (show 384 + (j.1 - 128 - 128 - 128) = j.1 by omega))
            (at2 mx (show 384 + (i.1 - 384) = i.1 by omega) (show j.1 - 128 - 128 - 128 = j.1 % 128 by omega))

end Columns

theorem weights_at (sc : FVec Ideal S512x512 .f32) (mx : FVec Ideal S512x128 .f32) (i j : Fin 512) :
    weights (F := Ideal) sc mx (ix2 i j) = Ideal.exp2 (sc (ix2 i j) - mx (ix2 i ⟨j.1 % 128, Nat.mod_lt _ (by decide)⟩)) := by
  pointwise [weights]
  have hj := j.2
  split
  · exact exp_eq rfl (at2 mx rfl (show j.1 = j.1 % 128 by omega))
  · split
    · exact exp_eq (at2 sc rfl (show 128 + (j.1 - 128) = j.1 by omega)) (at2 mx rfl (show j.1 - 128 = j.1 % 128 by omega))
    · split
      · exact exp_eq (at2 sc rfl (show 256 + (j.1 - 128 - 128) = j.1 by omega)) (at2 mx rfl (show j.1 - 128 - 128 = j.1 % 128 by omega))
      · exact exp_eq (at2 sc rfl (show 384 + (j.1 - 128 - 128 - 128) = j.1 by omega)) (at2 mx rfl (show j.1 - 128 - 128 - 128 = j.1 % 128 by omega))

theorem nextM_at (sc : FVec Ideal S512x512 .f32) (mp : FVec Ideal S512x128 .f32) (i : Fin 512) (l : Fin 128) :
    nextM (F := Ideal) sc mp (ix2 i l) = max (mp (ix2 i l)) (Finset.univ.sup fun j : Fin 512 => sc (ix2 i j)) := by
  pointwise [nextM]
  rw [word_bot]
  rfl

/-- A lane is the first head's. -/
def even (l : Fin 256) : Prop := l.1 < 64 ∨ l.1 = 128
instance (l : Fin 256) : Decidable (even l) := inferInstanceAs (Decidable (_ ∨ _))

theorem nextA_at (a0 a1 : FVec Ideal S512x128 .f32) (acc : FVec Ideal S512x256 .f32) (p0 p1 : FVec Ideal S512x512 .bf16) (vt vb : Vec Ideal S512x256 .bf16) (i : Fin 512) (l : Fin 256) :
    nextA (F := Ideal) evenL a0 a1 acc p0 p1 vt vb (ix2 i l)
      = (if even l then a0 (ix2 i ⟨l.1 % 128, Nat.mod_lt _ (by decide)⟩) else a1 (ix2 i ⟨l.1 % 128, Nat.mod_lt _ (by decide)⟩)) * acc (ix2 i l)
        + (∑ x : Fin 512, p0 (ix2 i x) * vt (ix2 x l) + ∑ x : Fin 512, p1 (ix2 i x) * vb (ix2 x l)) := by
  pointwise [nextA, evenL]
  have hl := l.2
  refine congrArg (fun z : EReal => z * acc (ix2 i l) + _) ((select_iff (ev_256 l) _ _).trans (if_congr Iff.rfl ?_ ?_)) <;> split
  · exact at2 a0 rfl (show l.1 = l.1 % 128 by omega)
  · exact at2 a0 rfl (show l.1 - 128 = l.1 % 128 by omega)
  · exact at2 a1 rfl (show l.1 = l.1 % 128 by omega)
  · exact at2 a1 rfl (show l.1 - 128 = l.1 % 128 by omega)

theorem pvTop_at (p0 p1 : FVec Ideal S512x512 .bf16) (vt vb : Vec Ideal S256x256 .bf16) (i : Fin 256) (l : Fin 256) :
    pvTop (F := Ideal) p0 p1 vt vb (ix2 i l)
      = ∑ x : Fin 256, p0 (ix2 ⟨i.1, by omega⟩ ⟨x.1, by omega⟩) * vt (ix2 x l) + ∑ x : Fin 256, p1 (ix2 ⟨i.1, by omega⟩ ⟨x.1, by omega⟩) * vb (ix2 x l) := by
  pointwise [pvTop]

theorem pvBot_at (p0 p1 : FVec Ideal S512x512 .bf16) (vt vb : Vec Ideal S512x256 .bf16) (i : Fin 256) (l : Fin 256) :
    pvBot (F := Ideal) p0 p1 vt vb (ix2 i l)
      = ∑ x : Fin 512, p0 (ix2 ⟨256 + i.1, by omega⟩ x) * vt (ix2 x l) + ∑ x : Fin 512, p1 (ix2 ⟨256 + i.1, by omega⟩ x) * vb (ix2 x l) := by
  pointwise [pvBot]

theorem outOf_at (a : FVec Ideal S512x256 .f32) (i : Fin 512) (l : Fin 128) :
    outOf (F := Ideal) a (ix2 i l) = Ideal.div (a (ix2 i ⟨l.1, by omega⟩)) (if l.1 < 64 then a (ix2 i ⟨128, by decide⟩) else a (ix2 i ⟨129, by decide⟩)) := by
  pointwise [outOf]
  exact congrArg (Ideal.div _) (select_iff (slt_64 l) _ _)

end Cert.AttnIdeal.Run

end
-- ==== Proof.AttnStep.lean ====
/- What each block of the attention's kernel body does to the ten buffers. -/
module

public import proofs.«01_k».proof.Proof.AttnMem
public import proofs.«01_k».proof.Proof.AttnPay

@[expose] public section

set_option maxRecDepth 16384

noncomputable section

namespace Cert.AttnIdeal.Run

open Idealize.ShloMosaic Idealize.ShloMosaic.TcCoe Idealize.SL.Sem
open Cert.AttnIdeal Cert.AttnIdeal.Gen Cert.Walk

/-- A logit: a query against a key, one head's lanes. -/
def lgt (q : Fin 2048 → Fin 256 → EReal) (k : Fin 4096 → Fin 256 → EReal) (hh : Fin 2) (r : Fin 2048) (j : Fin 4096) : EReal :=
  ∑ l : Fin 128, q r (lane hh l) * k j (lane hh l)

/-- Logits put in a slot, in the part of the block that `P` names. -/
def putS (s : Fin 4 → Fin 3 → Fin 2 → Fin 512 → Fin 512 → EReal) (sub : Fin 4) (slot : Fin 3) (hh : Fin 2) (P : Fin 512 → Fin 512 → Prop)
    [∀ i j, Decidable (P i j)] (f : Fin 512 → Fin 512 → EReal) : Fin 4 → Fin 3 → Fin 2 → Fin 512 → Fin 512 → EReal :=
  fun a b d i j => if (a = sub ∧ b = slot ∧ d = hh) ∧ P i j then f i j else s a b d i j
def putM (m : Fin 4 → Fin 2 → Fin 512 → Fin 128 → EReal) (sub : Fin 4) (hh : Fin 2) (f : Fin 512 → Fin 128 → EReal) : Fin 4 → Fin 2 → Fin 512 → Fin 128 → EReal :=
  fun a d i l => if a = sub ∧ d = hh then f i l else m a d i l
def putA (m : Fin 4 → Fin 512 → Fin 256 → EReal) (sub : Fin 4) (f : Fin 512 → Fin 256 → EReal) : Fin 4 → Fin 512 → Fin 256 → EReal :=
  fun a i l => if a = sub then f i l else m a i l

section Casts
variable {α : Type}
theorem cast44 (v : S512x512.Idx → α) (i j : Fin 512) : shapeCast S1x1x512x512 v shapeCasts_S512x512_S1x1x512x512 (ix4 0 0 i j) = v (ix2 i j) := by pointwise []
theorem cast_t (v : S256x256.Idx → α) (i j : Fin 256) : shapeCast S1x1x256x256 v shapeCasts_S256x256_S1x1x256x256 (ix4 0 0 i j) = v (ix2 i j) := by pointwise []
theorem cast_b (v : S256x512.Idx → α) (i : Fin 256) (j : Fin 512) : shapeCast S1x1x256x512 v shapeCasts_S256x512_S1x1x256x512 (ix4 0 0 i j) = v (ix2 i j) := by pointwise []
theorem uncast44 (v : S1x1x512x512.Idx → α) (i j : Fin 512) : shapeCast S512x512 v shapeCasts_S1x1x512x512_S512x512 (ix2 i j) = v (ix4 0 0 i j) := by pointwise []
theorem castM (v : S512x128.Idx → α) (i : Fin 512) (l : Fin 128) : shapeCast S1x512x128 v shapeCasts_S512x128_S1x512x128 (ix3 0 i l) = v (ix2 i l) := by pointwise []
theorem uncastM (v : S1x512x128.Idx → α) (i : Fin 512) (l : Fin 128) : shapeCast S512x128 v shapeCasts_S1x512x128_S512x128 (ix2 i l) = v (ix3 0 i l) := by pointwise []
theorem castA (v : S512x256.Idx → α) (i : Fin 512) (l : Fin 256) : shapeCast S1x512x256 v shapeCasts_S512x256_S1x512x256 (ix3 0 i l) = v (ix2 i l) := by pointwise []
theorem uncastA (v : S1x512x256.Idx → α) (i : Fin 512) (l : Fin 256) : shapeCast S512x256 v shapeCasts_S1x512x256_S512x256 (ix2 i l) = v (ix3 0 i l) := by pointwise []
theorem cast_h (v : S256x256.Idx → α) (i l : Fin 256) : shapeCast S256x256 v shapeCasts_S256x256_S256x256 (ix2 i l) = v (ix2 i l) := by pointwise []
theorem cast_v (v : S4096x128.Idx → α) (i : Fin 4096) (l : Fin 128) : shapeCast S4096x128 v shapeCasts_S4096x128_S4096x128 (ix2 i l) = v (ix2 i l) := by pointwise []
end Casts

section Stores
variable {c : Dev nD} (A : Args) (σ : Mem c)

theorem store_sf (sub : Fin 4) (slot : Fin 3) (hh : Fin 2) (w : Vec Ideal S1x1x512x512 .f32) (a : Fin 4) (b : Fin 3) (d : Fin 2) (i j : Fin 512) :
    rd (c := (c : Thread nD τ)) A.arg12 (Function.update σ A.arg12.view.ref (((sV A.arg12 sub).access (rSf slot hh)).write (Elt Ideal) (σ A.arg12.view.ref) w Finset.univ)) (ix5 a b d i j)
      = if (a = sub ∧ b = slot ∧ d = hh) ∧ True then w (ix4 0 0 i j) else rd (c := (c : Thread nD τ)) A.arg12 σ (ix5 a b d i j) := by
  by_cases h : a = sub ∧ b = slot ∧ d = hh
  · rw [if_pos ⟨h, trivial⟩]
    obtain ⟨rfl, rfl, rfl⟩ := h
    exact rd_store3_hit (c := (c : Thread nD τ)) A.arg12 σ (slab a) S3x2x512x512 squeezes_S1x3x2x512x512_S3x2x512x512.numel_eq (rSf b d) w (ix4 0 0 i j) _
      ((congrArg (fun z => (slab a).emb (Shape.reshapeEquiv squeezes_S1x3x2x512x512_S3x2x512x512.numel_eq z)) (at_sf b d 0 0 i j)).trans (at_slab a b d i j))
  · rw [if_neg (fun h' => h h'.1)]
    refine rd_store3_miss (c := (c : Thread nD τ)) A.arg12 σ (slab sub) S3x2x512x512 squeezes_S1x3x2x512x512_S3x2x512x512.numel_eq (rSf slot hh) w _ fun x e => h ?_
    have e := ((congrArg (fun z => (slab sub).emb (Shape.reshapeEquiv squeezes_S1x3x2x512x512_S3x2x512x512.numel_eq z))
      ((congrArg (rSf slot hh).emb (eq_ix4 x)).trans (at_sf slot hh (x 0) (x 1) (x 2) (x 3)))).trans (at_slab sub slot hh _ _)).symm.trans e
    exact ⟨(congrFun e 0).symm, (congrFun e 1).symm, (congrFun e 2).symm⟩

theorem store_st (sub : Fin 4) (hh : Fin 2) (w : Vec Ideal S1x1x256x256 .f32) (a : Fin 4) (b : Fin 3) (d : Fin 2) (i j : Fin 512) :
    rd (c := (c : Thread nD τ)) A.arg12 (Function.update σ A.arg12.view.ref (((sV A.arg12 sub).access (rSt hh)).write (Elt Ideal) (σ A.arg12.view.ref) w Finset.univ)) (ix5 a b d i j)
      = if h : (a = sub ∧ b = 2 ∧ d = hh) ∧ (i.1 < 256 ∧ j.1 < 256) then w (ix4 0 0 ⟨i.1, h.2.1⟩ ⟨j.1, h.2.2⟩) else rd (c := (c : Thread nD τ)) A.arg12 σ (ix5 a b d i j) := by
  split
  · next h =>
    obtain ⟨⟨rfl, rfl, rfl⟩, hi, hj⟩ := h
    exact rd_store3_hit (c := (c : Thread nD τ)) A.arg12 σ (slab a) S3x2x512x512 squeezes_S1x3x2x512x512_S3x2x512x512.numel_eq (rSt d) w (ix4 0 0 ⟨i.1, hi⟩ ⟨j.1, hj⟩) _
      ((congrArg (fun z => (slab a).emb (Shape.reshapeEquiv squeezes_S1x3x2x512x512_S3x2x512x512.numel_eq z)) (at_st d 0 0 ⟨i.1, hi⟩ ⟨j.1, hj⟩)).trans (at_slab a 2 d i j))
  · next h =>
    refine rd_store3_miss (c := (c : Thread nD τ)) A.arg12 σ (slab sub) S3x2x512x512 squeezes_S1x3x2x512x512_S3x2x512x512.numel_eq (rSt hh) w _ fun x e => h ?_
    have e := ((congrArg (fun z => (slab sub).emb (Shape.reshapeEquiv squeezes_S1x3x2x512x512_S3x2x512x512.numel_eq z))
      ((congrArg (rSt hh).emb (eq_ix4 x)).trans (at_st hh (x 0) (x 1) (x 2) (x 3)))).trans (at_slab sub 2 hh _ _)).symm.trans e
    refine ⟨⟨(congrFun e 0).symm, (congrFun e 1).symm, (congrFun e 2).symm⟩, ?_, ?_⟩
    · have := congrArg Fin.val (congrFun e 3); exact this ▸ (x 2).2
    · have := congrArg Fin.val (congrFun e 4); exact this ▸ (x 3).2

theorem store_sb (sub : Fin 4) (hh : Fin 2) (w : Vec Ideal S1x1x256x512 .f32) (a : Fin 4) (b : Fin 3) (d : Fin 2) (i j : Fin 512) :
    rd (c := (c : Thread nD τ)) A.arg12 (Function.update σ A.arg12.view.ref (((sV A.arg12 sub).access (rSb hh)).write (Elt Ideal) (σ A.arg12.view.ref) w Finset.univ)) (ix5 a b d i j)
      = if h : (a = sub ∧ b = 2 ∧ d = hh) ∧ 256 ≤ i.1 then w (ix4 0 0 ⟨i.1 - 256, by omega⟩ j) else rd (c := (c : Thread nD τ)) A.arg12 σ (ix5 a b d i j) := by
  split
  · next h =>
    obtain ⟨⟨rfl, rfl, rfl⟩, hi⟩ := h
    refine rd_store3_hit (c := (c : Thread nD τ)) A.arg12 σ (slab a) S3x2x512x512 squeezes_S1x3x2x512x512_S3x2x512x512.numel_eq (rSb d) w (ix4 0 0 ⟨i.1 - 256, by omega⟩ j) _
      ((congrArg (fun z => (slab a).emb (Shape.reshapeEquiv squeezes_S1x3x2x512x512_S3x2x512x512.numel_eq z)) (at_sb d 0 0 ⟨i.1 - 256, by omega⟩ j)).trans ((at_slab a 2 d _ j).trans ?_))
    exact congrArg (fun z => ix5 a 2 d z j) (Fin.ext (show 256 + (i.1 - 256) = i.1 by omega))
  · next h =>
    refine rd_store3_miss (c := (c : Thread nD τ)) A.arg12 σ (slab sub) S3x2x512x512 squeezes_S1x3x2x512x512_S3x2x512x512.numel_eq (rSb hh) w _ fun x e => h ?_
    have e := ((congrArg (fun z => (slab sub).emb (Shape.reshapeEquiv squeezes_S1x3x2x512x512_S3x2x512x512.numel_eq z))
      ((congrArg (rSb hh).emb (eq_ix4 x)).trans (at_sb hh (x 0) (x 1) (x 2) (x 3)))).trans (at_slab sub 2 hh _ _)).symm.trans e
    refine ⟨⟨(congrFun e 0).symm, (congrFun e 1).symm, (congrFun e 2).symm⟩, ?_⟩
    have := congrArg Fin.val (congrFun e 3); exact this ▸ Nat.le_add_right 256 _

theorem store_m (sub : Fin 4) (hh : Fin 2) (w : Vec Ideal S1x512x128 .f32) (a : Fin 4) (d : Fin 2) (i : Fin 512) (l : Fin 128) :
    rd (c := (c : Thread nD τ)) A.arg8 (Function.update σ A.arg8.view.ref (((mV A.arg8 sub).access (rM hh)).write (Elt Ideal) (σ A.arg8.view.ref) w Finset.univ)) (ix4 a d i l)
      = if a = sub ∧ d = hh then w (ix3 0 i l) else rd (c := (c : Thread nD τ)) A.arg8 σ (ix4 a d i l) := by
  split
  · next h =>
    obtain ⟨rfl, rfl⟩ := h
    exact rd_store3_hit (c := (c : Thread nD τ)) A.arg8 σ (slabM a) S2x512x128 squeezes_S1x2x512x128_S2x512x128.numel_eq (rM d) w (ix3 0 i l) _ (at_m a d 0 i l)
  · next h =>
    refine rd_store3_miss (c := (c : Thread nD τ)) A.arg8 σ (slabM sub) S2x512x128 squeezes_S1x2x512x128_S2x512x128.numel_eq (rM hh) w _ fun x e => h ?_
    have e := ((congrArg (fun z => (slabM sub).emb (Shape.reshapeEquiv squeezes_S1x2x512x128_S2x512x128.numel_eq ((rM hh).emb z))) (eq_ix3 x)).trans (at_m sub hh (x 0) (x 1) (x 2))).symm.trans e
    exact ⟨(congrFun e 0).symm, (congrFun e 1).symm⟩

theorem store_a (sub : Fin 4) (w : Vec Ideal S1x512x256 .f32) (a : Fin 4) (i : Fin 512) (l : Fin 256) :
    rd (c := (c : Thread nD τ)) A.arg9 (Function.update σ A.arg9.view.ref ((A.arg9.access (rA sub)).write (Elt Ideal) (σ A.arg9.view.ref) w Finset.univ)) (ix3 a i l)
      = if a = sub then w (ix3 0 i l) else rd (c := (c : Thread nD τ)) A.arg9 σ (ix3 a i l) := by
  split
  · next h =>
    subst h
    exact rd_store_hit (c := (c : Thread nD τ)) A.arg9 σ (rA a) w (ix3 0 i l) _ (at_a a 0 i l)
  · next h =>
    refine rd_store_miss (c := (c : Thread nD τ)) A.arg9 σ (rA sub) w _ fun x e => h ?_
    have e := ((congrArg (rA sub).emb (eq_ix3 x)).trans (at_a sub (x 0) (x 1) (x 2))).symm.trans e
    exact (congrFun e 0).symm

theorem store_ah (sub : Fin 4) (o : ℕ) (ho : o + 256 ≤ 512) (inb : ∀ a, (![o, 0] : Fin 2 → Nat) a + S256x256.size a ≤ S512x256.size a) (w : Vec Ideal S256x256 .f32) (a : Fin 4) (i : Fin 512) (l : Fin 256) :
    rd (c := (c : Thread nD τ)) A.arg9 (Function.update σ A.arg9.view.ref (((aV A.arg9 sub).access (Rect.unit (s := S512x256) ![o, 0] S256x256.size inb)).write (Elt Ideal) (σ A.arg9.view.ref) w Finset.univ)) (ix3 a i l)
      = if h : a = sub ∧ o ≤ i.1 ∧ i.1 < o + 256 then w (ix2 ⟨i.1 - o, by omega⟩ l) else rd (c := (c : Thread nD τ)) A.arg9 σ (ix3 a i l) := by
  split
  · next h =>
    obtain ⟨rfl, h1, h2⟩ := h
    refine rd_store3_hit (c := (c : Thread nD τ)) A.arg9 σ (rA a) S512x256 squeezes_S1x512x256_S512x256.numel_eq (Rect.unit (s := S512x256) ![o, 0] S256x256.size inb) w (ix2 ⟨i.1 - o, by omega⟩ l) _
      ((at_ah a o ho inb ⟨i.1 - o, by omega⟩ l).trans ?_)
    exact congrArg (fun z => ix3 a z l) (Fin.ext (show o + (i.1 - o) = i.1 by omega))
  · next h =>
    refine rd_store3_miss (c := (c : Thread nD τ)) A.arg9 σ (rA sub) S512x256 squeezes_S1x512x256_S512x256.numel_eq (Rect.unit (s := S512x256) ![o, 0] S256x256.size inb) w _ fun x e => h ?_
    have e := ((congrArg (fun z => (rA sub).emb (Shape.reshapeEquiv squeezes_S1x512x256_S512x256.numel_eq ((Rect.unit (s := S512x256) ![o, 0] S256x256.size inb).emb z))) (eq_ix2 x)).trans
      (at_ah sub o ho inb (x 0) (x 1))).symm.trans e
    have h1 : o + (x 0).1 = i.1 := congrArg Fin.val (congrFun e 1)
    have h2 : (x 0).1 < 256 := (x 0).2
    exact ⟨(congrFun e 0).symm, by omega, by omega⟩

theorem store_o (sub : Fin 4) (w : Vec Ideal S512x128 .bf16) (r : Fin 2048) (l : Fin 128) :
    rd (c := (c : Thread nD τ)) A.arg7 (Function.update σ A.arg7.view.ref ((A.arg7.access (rO sub)).write (Elt Ideal) (σ A.arg7.view.ref) w Finset.univ)) (ix2 r l)
      = if r.1 / 512 = sub.1 then w (ix2 ⟨r.1 % 512, Nat.mod_lt _ (by decide)⟩ l) else rd (c := (c : Thread nD τ)) A.arg7 σ (ix2 r l) := by
  split
  · next h =>
    refine rd_store_hit (c := (c : Thread nD τ)) A.arg7 σ (rO sub) w (ix2 ⟨r.1 % 512, Nat.mod_lt _ (by decide)⟩ l) _ ((at_o sub _ l).trans ?_)
    exact congrArg (fun z => ix2 z l) (Fin.ext (show 512 * sub.1 + r.1 % 512 = r.1 by omega))
  · next h =>
    refine rd_store_miss (c := (c : Thread nD τ)) A.arg7 σ (rO sub) w _ fun x e => h ?_
    have e := ((congrArg (rO sub).emb (eq_ix2 x)).trans (at_o sub (x 0) (x 1))).symm.trans e
    have h1 : 512 * sub.1 + (x 0).1 = r.1 := congrArg Fin.val (congrFun e 0)
    have h2 : (x 0).1 < 512 := (x 0).2
    omega

/-- A store of half of the lanes of the laid-out values, from lane `o` on. -/
theorem store_v (m : Memref sig .tc .vmem S4096x256 .bf16) (o : ℕ) (ho : o + 128 ≤ 256) (inb : ∀ a, (![0, o] : Fin 2 → Nat) a + S4096x128.size a ≤ S4096x256.size a) (w : Vec Ideal S4096x128 .bf16) (r : Fin 4096) (l : Fin 256) :
    rd (c := (c : Thread nD τ)) m (Function.update σ m.view.ref ((m.access (Rect.unit (s := S4096x256) ![0, o] S4096x128.size inb)).write (Elt Ideal) (σ m.view.ref) w Finset.univ)) (ix2 r l)
      = if h : o ≤ l.1 ∧ l.1 < o + 128 then w (ix2 r ⟨l.1 - o, by omega⟩) else rd (c := (c : Thread nD τ)) m σ (ix2 r l) := by
  have e0 (x : Fin 4096) (y : Fin 128) : (Rect.unit (s := S4096x256) ![0, o] S4096x128.size inb).emb (ix2 x y) = ix2 x (⟨o + y.1, by omega⟩ : Fin 256) := by
    funext a
    match a with
    | ⟨0, _⟩ => exact Fin.ext (show 0 + 1 * x.1 = x.1 by omega)
    | ⟨1, _⟩ => exact Fin.ext (show o + 1 * y.1 = o + y.1 by omega)
  split
  · next h =>
    refine rd_store_hit (c := (c : Thread nD τ)) m σ (Rect.unit (s := S4096x256) ![0, o] S4096x128.size inb) w (ix2 r ⟨l.1 - o, by omega⟩) _ ((e0 _ _).trans ?_)
    exact congrArg (fun z => ix2 r z) (Fin.ext (show o + (l.1 - o) = l.1 by omega))
  · next h =>
    refine rd_store_miss (c := (c : Thread nD τ)) m σ (Rect.unit (s := S4096x256) ![0, o] S4096x128.size inb) w _ fun x e => h ?_
    have e := ((congrArg (Rect.unit (s := S4096x256) ![0, o] S4096x128.size inb).emb (eq_ix2 x)).trans (e0 (x 0) (x 1))).symm.trans e
    have h1 : o + (x 1).1 = l.1 := congrArg Fin.val (congrFun e 1)
    have h2 : (x 1).1 < 128 := (x 1).2
    exact ⟨by omega, by omega⟩

end Stores

end Cert.AttnIdeal.Run

end
-- ==== Proof.AttnEff.lean ====
/- What each block of the attention's kernel body leaves in the ten buffers. -/
module

public import proofs.«01_k».proof.Proof.AttnStep

@[expose] public section

set_option maxRecDepth 16384

noncomputable section

namespace Cert.AttnIdeal.Run

open Idealize.ShloMosaic Idealize.ShloMosaic.TcCoe Idealize.SL.Sem
open Cert.AttnIdeal Cert.AttnIdeal.Gen Cert.Walk

section Eff
variable {c : Dev nD} {A : Args} (hinj : Function.Injective (refsOf A)) {Q : PUnit → Mem c → Prop} {σ : Mem c} {st : St}

/-- Running from `σ`. -/
abbrev Go (Q : PUnit → Mem c → Prop) (p : PR Ideal) (σ : Mem c) : Prop := Runs (c : Thread nD τ) Q p σ

theorem load_q (h : Abs A σ st) (sub : Fin 4) (hh : Fin 2) (i : Fin 512) (l : Fin 128) :
    (qV A.arg3 sub).view.readAt (Elt Ideal) (rQh hh).toLoadRect (σ A.arg3.view.ref) (ix2 i l) = st.q (row sub i) (lane hh l) :=
  (congrArg (rd (c := (c : Thread nD τ)) A.arg3 σ) (at_q sub hh i l)).trans (h.q _ _)
theorem load_n (h : Abs A σ st) (sub : Fin 4) (hh : Fin 2) (i : Fin 512) (l : Fin 128) :
    (qV A.arg4 sub).view.readAt (Elt Ideal) (rQh hh).toLoadRect (σ A.arg4.view.ref) (ix2 i l) = st.n (row sub i) (lane hh l) :=
  (congrArg (rd (c := (c : Thread nD τ)) A.arg4 σ) (at_q sub hh i l)).trans (h.n _ _)
theorem load_k (h : Abs A σ st) (b : Fin 8) (hh : Fin 2) (j : Fin 512) (l : Fin 128) :
    A.arg5.view.readAt (Elt Ideal) (rK b hh).toLoadRect (σ A.arg5.view.ref) (ix2 j l) = st.k (key b j) (lane hh l) :=
  (congrArg (rd (c := (c : Thread nD τ)) A.arg5 σ) (at_k b hh j l)).trans (h.k _ _)
theorem load_vt (h : Abs A σ st) (b : Fin 8) (j : Fin 512) (l : Fin 256) :
    A.arg10.view.readAt (Elt Ideal) (rV b).toLoadRect (σ A.arg10.view.ref) (ix2 j l) = st.vt (key b j) l :=
  (congrArg (rd (c := (c : Thread nD τ)) A.arg10 σ) (at_v b j l)).trans (h.vt _ _)
theorem load_vb (h : Abs A σ st) (b : Fin 8) (j : Fin 512) (l : Fin 256) :
    A.arg11.view.readAt (Elt Ideal) (rV b).toLoadRect (σ A.arg11.view.ref) (ix2 j l) = st.vb (key b j) l :=
  (congrArg (rd (c := (c : Thread nD τ)) A.arg11 σ) (at_v b j l)).trans (h.vb _ _)
theorem load_vth (h : Abs A σ st) (b : Fin 8) (j : Fin 256) (l : Fin 256) :
    A.arg10.view.readAt (Elt Ideal) (rVh b).toLoadRect (σ A.arg10.view.ref) (ix2 j l) = st.vt (key b ⟨j.1, by omega⟩) l :=
  (congrArg (rd (c := (c : Thread nD τ)) A.arg10 σ) (at_vh b j l)).trans (h.vt _ _)
theorem load_vbh (h : Abs A σ st) (b : Fin 8) (j : Fin 256) (l : Fin 256) :
    A.arg11.view.readAt (Elt Ideal) (rVh b).toLoadRect (σ A.arg11.view.ref) (ix2 j l) = st.vb (key b ⟨j.1, by omega⟩) l :=
  (congrArg (rd (c := (c : Thread nD τ)) A.arg11 σ) (at_vh b j l)).trans (h.vb _ _)
theorem load_a (h : Abs A σ st) (sub : Fin 4) (i : Fin 512) (l : Fin 256) :
    A.arg9.view.readAt (Elt Ideal) (rA sub).toLoadRect (σ A.arg9.view.ref) (ix3 0 i l) = st.a sub i l :=
  (congrArg (rd (c := (c : Thread nD τ)) A.arg9 σ) (at_a sub 0 i l)).trans (h.a _ _ _)
theorem load_m (h : Abs A σ st) (sub : Fin 4) (hh : Fin 2) (i : Fin 512) (l : Fin 128) :
    (mV A.arg8 sub).view.readAt (Elt Ideal) (rM hh).toLoadRect (σ A.arg8.view.ref) (ix3 0 i l) = st.m sub hh i l :=
  (congrArg (rd (c := (c : Thread nD τ)) A.arg8 σ) (at_m sub hh 0 i l)).trans (h.m _ _ _ _)
theorem load_s (h : Abs A σ st) (sub : Fin 4) (slot : Fin 3) (hh : Fin 2) (i j : Fin 512) :
    (sV A.arg12 sub).view.readAt (Elt Ideal) (rSf slot hh).toLoadRect (σ A.arg12.view.ref) (ix4 0 0 i j) = st.s sub slot hh i j :=
  (congrArg (rd (c := (c : Thread nD τ)) A.arg12 σ) ((congrArg (fun z => (slab sub).emb (Shape.reshapeEquiv squeezes_S1x3x2x512x512_S3x2x512x512.numel_eq z)) (at_sf slot hh 0 0 i j)).trans (at_slab sub slot hh i j))).trans (h.s _ _ _ _ _)
theorem load_d (h : Abs A σ st) (sub : Fin 4) (hh : Fin 2) (o p : ℕ) (n' m' : ℕ) (ho : o + n' ≤ 512) (hp : p + m' ≤ 512)
    (inb : ∀ a, (![o, p] : Fin 2 → Nat) a + (![n', m'] : Fin 2 → Nat) a ≤ S512x512.size a) (i : Fin n') (j : Fin m') :
    (dV A.arg12 sub hh).view.readAt (Elt Ideal) (Rect.unit (s := S512x512) ![o, p] ![n', m'] inb).toLoadRect (σ A.arg12.view.ref) (ix2 i j)
      = st.s sub 2 hh ⟨o + i.1, by omega⟩ ⟨p + j.1, by omega⟩ :=
  (congrArg (rd (c := (c : Thread nD τ)) A.arg12 σ) (at_d sub hh o p n' m' ho hp inb i j)).trans (h.s _ _ _ _ _)

include hinj

/-- A block of logits, whole. -/
theorem go_logitsH (h : Abs A σ st) (sub : Fin 4) (slot : Fin 3) (b : Fin 8) (hh : Fin 2) (k : PR Ideal)
    (hk : ∀ σ', Abs A σ' { st with s := putS st.s sub slot hh (fun _ _ => True) fun i j => lgt st.q st.k hh (row sub i) (key b j) } → Go Q k σ') :
    Go Q (logitsH A.arg3 A.arg5 A.arg12 sub slot b hh k) σ := by
  refine hk _ (h.set_s hinj _ _ fun a b' d i j => (store_sf A σ sub slot hh _ a b' d i j).trans (if_congr Iff.rfl ?_ (h.s _ _ _ _ _)))
  refine (cast44 _ i j).trans ((full_at _ _ i j).trans (Finset.sum_congr rfl fun l _ => ?_))
  exact congrArg₂ (· * ·) (load_q h sub hh i l) (load_k h b hh j l)

theorem abs_st (h : Abs A σ st) (sub : Fin 4) (hh : Fin 2) (f : Fin 512 → Fin 512 → EReal) (w : Vec Ideal S1x1x256x256 .f32)
    (hw : ∀ i j : Fin 256, w (ix4 0 0 i j) = f ⟨i.1, by omega⟩ ⟨j.1, by omega⟩) :
    Abs A (Function.update σ A.arg12.view.ref (((sV A.arg12 sub).access (rSt hh)).write (Elt Ideal) (σ A.arg12.view.ref) w Finset.univ))
      { st with s := putS st.s sub 2 hh (fun i j => i.1 < 256 ∧ j.1 < 256) f } := by
  refine h.set_s hinj _ _ fun a b' d i j => (store_st A σ sub hh _ a b' d i j).trans ?_
  unfold putS
  split
  · exact hw _ _
  · exact h.s _ _ _ _ _

theorem abs_sb (h : Abs A σ st) (sub : Fin 4) (hh : Fin 2) (f : Fin 512 → Fin 512 → EReal) (s0 : Fin 4 → Fin 3 → Fin 2 → Fin 512 → Fin 512 → EReal)
    (hs : st.s = putS s0 sub 2 hh (fun i j => i.1 < 256 ∧ j.1 < 256) f) (w : Vec Ideal S1x1x256x512 .f32)
    (hw : ∀ (i : Fin 256) (j : Fin 512), w (ix4 0 0 i j) = f ⟨256 + i.1, by omega⟩ j) :
    Abs A (Function.update σ A.arg12.view.ref (((sV A.arg12 sub).access (rSb hh)).write (Elt Ideal) (σ A.arg12.view.ref) w Finset.univ))
      { st with s := putS s0 sub 2 hh (fun i j => i.1 < 256 → j.1 < 256) f } := by
  refine h.set_s hinj _ _ fun a b' d i j => (store_sb A σ sub hh _ a b' d i j).trans ?_
  split
  · next hc =>
    refine (hw _ _).trans ((ext2 f (show 256 + (i.1 - 256) = i.1 by omega) rfl).trans (if_pos ⟨hc.1, fun h' => absurd h' (by omega)⟩).symm)
  · next hc =>
    refine (h.s _ _ _ _ _).trans ?_
    rw [hs]
    unfold putS
    refine if_congr ⟨fun h' => ⟨h'.1, fun _ => h'.2.2⟩, fun h' => ?_⟩ rfl rfl
    have hi : i.1 < 256 := by by_contra hi; exact hc ⟨h'.1, by omega⟩
    exact ⟨h'.1, hi, h'.2 hi⟩

/-- A diagonal block of logits: the part under the diagonal, and more. -/
theorem go_diagH (h : Abs A σ st) (qsub sub : Fin 4) (b : Fin 8) (hh : Fin 2) (k : PR Ideal)
    (hk : ∀ σ', Abs A σ' { st with s := putS st.s sub 2 hh (fun i j => i.1 < 256 → j.1 < 256) fun i j => lgt st.q st.k hh (row qsub i) (key b j) } → Go Q k σ') :
    Go Q (diagH A.arg3 A.arg5 A.arg12 qsub sub b hh k) σ := by
  refine hk _ (abs_sb hinj (abs_st hinj h sub hh (fun i j => lgt st.q st.k hh (row qsub i) (key b j)) _ fun i j => ?_) sub hh _ st.s rfl _ fun i j => ?_)
  · refine (cast_t _ _ _).trans ((topD_at _ _ _ _).trans (Finset.sum_congr rfl fun l _ => ?_))
    exact congrArg₂ (· * ·) (load_q h qsub hh _ l) (load_k h b hh _ l)
  · refine (cast_b _ _ _).trans ((botD_at _ _ _ _).trans (Finset.sum_congr rfl fun l _ => ?_))
    exact congrArg₂ (· * ·) (load_q h qsub hh _ l) (load_k h b hh _ l)

/-- The same of the next tiles' queries. -/
theorem go_diagN (h : Abs A σ st) (qsub sub : Fin 4) (b : Fin 8) (hh : Fin 2) (k : PR Ideal)
    (hk : ∀ σ', Abs A σ' { st with s := putS st.s sub 2 hh (fun i j => i.1 < 256 → j.1 < 256) fun i j => lgt st.n st.k hh (row qsub i) (key b j) } → Go Q k σ') :
    Go Q (diagH A.arg4 A.arg5 A.arg12 qsub sub b hh k) σ := by
  refine hk _ (abs_sb hinj (abs_st hinj h sub hh (fun i j => lgt st.n st.k hh (row qsub i) (key b j)) _ fun i j => ?_) sub hh _ st.s rfl _ fun i j => ?_)
  · refine (cast_t _ _ _).trans ((topD_at _ _ _ _).trans (Finset.sum_congr rfl fun l _ => ?_))
    exact congrArg₂ (· * ·) (load_n h qsub hh _ l) (load_k h b hh _ l)
  · refine (cast_b _ _ _).trans ((botD_at _ _ _ _).trans (Finset.sum_congr rfl fun l _ => ?_))
    exact congrArg₂ (· * ·) (load_n h qsub hh _ l) (load_k h b hh _ l)

/-- The maximum and the weights of a diagonal block. -/
theorem go_upDiagH (h : Abs A σ st) (sub : Fin 4) (hh : Fin 2) (k : FVec Ideal S512x512 .bf16 → PR Ideal)
    (hk : ∀ p σ', (∀ i j, p (ix2 i j) = Ideal.exp2 (causal (st.s sub 2 hh) i j - Finset.univ.sup (causal (st.s sub 2 hh) i))) →
      Abs A σ' { st with m := putM st.m sub hh fun i _ => Finset.univ.sup (causal (st.s sub 2 hh) i) } → Go Q (k p) σ') :
    Go Q (upDiagH A.arg8 A.arg12 sub hh k) σ := by
  have h0 := col0_at (st.s sub 2 hh) _ _ (load_d h sub hh 0 0 128 128 (by decide) (by decide) inb_S512x512_S128x128_0_0) (load_d h sub hh 128 0 384 128 (by decide) (by decide) inb_S512x512_S384x128_128_0)
  have h1 := col1_at (st.s sub 2 hh) _ _ (load_d h sub hh 128 128 128 128 (by decide) (by decide) inb_S512x512_S128x128_128_128) (load_d h sub hh 256 128 256 128 (by decide) (by decide) inb_S512x512_S256x128_256_128)
  have h2 := col2_at (st.s sub 2 hh) _ _ (load_d h sub hh 256 256 128 128 (by decide) (by decide) inb_S512x512_S128x128_256_256) (load_d h sub hh 384 256 128 128 (by decide) (by decide) inb_S512x512_S128x128_384_256)
  have h3 := col3_at (st.s sub 2 hh) _ (load_d h sub hh 384 384 128 128 (by decide) (by decide) inb_S512x512_S128x128_384_384)
  have top := topOf_at h0 h1 h2 h3
  refine hk _ _ (fun i j => ?_) (h.set_m hinj _ _ fun a d i l => (store_m A σ sub hh _ a d i l).trans (if_congr Iff.rfl ?_ (h.m _ _ _ _)))
  · exact (weightsD_at h0 h1 h2 h3 _ i j).trans (congrArg (fun z => Ideal.exp2 (causal (st.s sub 2 hh) i j - z)) (top i ⟨j.1 % 128, Nat.mod_lt _ (by decide)⟩))
  · exact (castM _ i l).trans (top i l)

theorem abs_ah (h : Abs A σ st) (sub : Fin 4) (o : ℕ) (ho : o + 256 ≤ 512) (inb : ∀ a, (![o, 0] : Fin 2 → Nat) a + S256x256.size a ≤ S512x256.size a)
    (f : Fin 512 → Fin 256 → EReal) (w : Vec Ideal S256x256 .f32) (hw : ∀ i l : Fin 256, w (ix2 i l) = f ⟨o + i.1, by omega⟩ l) :
    Abs A (Function.update σ A.arg9.view.ref (((aV A.arg9 sub).access (Rect.unit (s := S512x256) ![o, 0] S256x256.size inb)).write (Elt Ideal) (σ A.arg9.view.ref) w Finset.univ))
      { st with a := fun a i l => if a = sub ∧ o ≤ i.1 ∧ i.1 < o + 256 then f i l else st.a a i l } := by
  refine h.set_a hinj _ _ fun a i l => (store_ah A σ sub o ho inb _ a i l).trans ?_
  split
  · next hc => exact (hw _ _).trans (ext2 f (show o + (i.1 - o) = i.1 by omega) rfl)
  · exact h.a _ _ _

/-- A tile's first weighted sums. -/
theorem go_accDiag (h : Abs A σ st) (sub : Fin 4) (b : Fin 8) (p0 p1 : FVec Ideal S512x512 .bf16) (P0 P1 : Fin 512 → Fin 512 → EReal)
    (h0 : ∀ i j, p0 (ix2 i j) = P0 i j) (h1 : ∀ i j, p1 (ix2 i j) = P1 i j) (z0 : ∀ i j : Fin 512, i.1 < j.1 → P0 i j = 0) (z1 : ∀ i j : Fin 512, i.1 < j.1 → P1 i j = 0) (k : PR Ideal)
    (hk : ∀ σ', Abs A σ' { st with a := putA st.a sub fun i l => ∑ j : Fin 512, P0 i j * st.vt (key b j) l + ∑ j : Fin 512, P1 i j * st.vb (key b j) l } → Go Q k σ') :
    Go Q (accDiag A.arg9 A.arg10 A.arg11 sub b p0 p1 k) σ := by
  have half (g : Fin 512 → EReal) (i : Fin 256) (hg : ∀ j : Fin 512, i.1 < j.1 → g j = 0) : ∑ x : Fin 256, g ⟨x.1, by omega⟩ = ∑ x : Fin 512, g x := by
    refine Eq.trans ?_ (Fin.sum_univ_add (a := 256) (b := 256) g).symm
    rw [Finset.sum_eq_zero (f := fun x : Fin 256 => g (Fin.natAdd 256 x)) (fun x _ => hg _ (show i.1 < 256 + x.1 by omega)), add_zero]
    rfl
  have w1 := abs_ah hinj h sub 0 (by decide) inb_S512x256_S256x256_0_0 (fun i l => ∑ j : Fin 512, P0 i j * st.vt (key b j) l + ∑ j : Fin 512, P1 i j * st.vb (key b j) l)
    (shapeCast S256x256 (pvTop p0 p1 (A.arg10.view.readAt (Elt Ideal) (rVh b).toLoadRect (σ A.arg10.view.ref)) (A.arg11.view.readAt (Elt Ideal) (rVh b).toLoadRect (σ A.arg11.view.ref))) shapeCasts_S256x256_S256x256) (by
      intro i l
      refine (cast_h _ i l).trans ((pvTop_at _ _ _ _ i l).trans (congrArg₂ (· + ·) ?_ ?_))
      · refine (Finset.sum_congr rfl fun x _ => congrArg₂ (· * ·) ((h0 _ _).trans (ext2 P0 (Nat.zero_add _).symm rfl)) (load_vth h b x l)).trans (half (fun x => P0 ⟨0 + i.1, by omega⟩ x * st.vt (key b x) l) i fun j hj => ?_)
        rw [z0 _ _ (show 0 + i.1 < j.1 by omega), zero_mul]
      · refine (Finset.sum_congr rfl fun x _ => congrArg₂ (· * ·) ((h1 _ _).trans (ext2 P1 (Nat.zero_add _).symm rfl)) (load_vbh h b x l)).trans (half (fun x => P1 ⟨0 + i.1, by omega⟩ x * st.vb (key b x) l) i fun j hj => ?_)
        rw [z1 _ _ (show 0 + i.1 < j.1 by omega), zero_mul])
  have w2 := abs_ah hinj w1 sub 256 (by decide) inb_S512x256_S256x256_256_0 (fun i l => ∑ j : Fin 512, P0 i j * st.vt (key b j) l + ∑ j : Fin 512, P1 i j * st.vb (key b j) l)
    (shapeCast S256x256 (pvBot p0 p1 (A.arg10.view.readAt (Elt Ideal) (rV b).toLoadRect _) (A.arg11.view.readAt (Elt Ideal) (rV b).toLoadRect _)) shapeCasts_S256x256_S256x256) (by
      intro i l
      refine (cast_h _ i l).trans ((pvBot_at _ _ _ _ i l).trans (congrArg₂ (· + ·) ?_ ?_))
      · exact Finset.sum_congr rfl fun x _ => congrArg₂ (· * ·) (h0 _ _) (load_vt w1 b x l)
      · exact Finset.sum_congr rfl fun x _ => congrArg₂ (· * ·) (h1 _ _) (load_vb w1 b x l))
  refine hk _ (Eq.mp (congrArg (fun a => Abs A _ { st with a := a }) (funext fun a => funext fun i => funext fun l => ?_)) w2)
  unfold putA
  have hi := i.2
  by_cases ha : a = sub
  · rw [if_pos ha]
    split
    · rfl
    · next h' => exact if_pos ⟨ha, by omega, by by_contra h''; exact h' ⟨ha, by omega, by omega⟩⟩
  · rw [if_neg ha, if_neg (fun h' => ha h'.1)]
    exact if_neg (fun h' => ha h'.1)

/-- An update's maximum, scale and weights. -/
theorem go_upH (h : Abs A σ st) (sub : Fin 4) (slot : Fin 3) (hh : Fin 2) (k : FVec Ideal S512x128 .f32 → FVec Ideal S512x512 .bf16 → PR Ideal)
    (hk : ∀ a p σ', (∀ i l, a (ix2 i l) = Ideal.exp2 (st.m sub hh i l - max (st.m sub hh i l) (Finset.univ.sup (st.s sub slot hh i)))) →
      (∀ i j, p (ix2 i j) = Ideal.exp2 (st.s sub slot hh i j - max (st.m sub hh i ⟨j.1 % 128, Nat.mod_lt _ (by decide)⟩) (Finset.univ.sup (st.s sub slot hh i)))) →
      Abs A σ' { st with m := putM st.m sub hh fun i l => max (st.m sub hh i l) (Finset.univ.sup (st.s sub slot hh i)) } → Go Q (k a p) σ') :
    Go Q (upH A.arg8 A.arg12 sub slot hh k) σ := by
  have hs (i j : Fin 512) := (uncast44 _ i j).trans (load_s h sub slot hh i j)
  have hm (i : Fin 512) (l : Fin 128) := (uncastM _ i l).trans (load_m h sub hh i l)
  have mx (i : Fin 512) (l : Fin 128) := (nextM_at _ _ i l).trans (congrArg₂ max (hm i l) (congrArg Finset.univ.sup (funext fun j => hs i j)))
  refine hk _ _ _ (fun i l => ?_) (fun i j => ?_) (h.set_m hinj _ _ fun a d i l => (store_m A σ sub hh _ a d i l).trans (if_congr Iff.rfl ?_ (h.m _ _ _ _)))
  · exact congrArg₂ (fun x y => Ideal.exp2 (x - y)) (hm i l) (mx i l)
  · exact (weights_at _ _ i j).trans (congrArg₂ (fun x y => Ideal.exp2 (x - y)) (hs i j) (mx i _))
  · exact (castM _ i l).trans (mx i l)

/-- An update's weighted sums. -/
theorem go_accB (h : Abs A σ st) (sub : Fin 4) (b : Fin 8) (a0 a1 : FVec Ideal S512x128 .f32) (p0 p1 : FVec Ideal S512x512 .bf16) (A0 A1 : Fin 512 → Fin 128 → EReal) (P0 P1 : Fin 512 → Fin 512 → EReal)
    (g0 : ∀ i l, a0 (ix2 i l) = A0 i l) (g1 : ∀ i l, a1 (ix2 i l) = A1 i l) (h0 : ∀ i j, p0 (ix2 i j) = P0 i j) (h1 : ∀ i j, p1 (ix2 i j) = P1 i j) (k : PR Ideal)
    (hk : ∀ σ', Abs A σ' { st with a := putA st.a sub fun i l => (if even l then A0 i ⟨l.1 % 128, Nat.mod_lt _ (by decide)⟩ else A1 i ⟨l.1 % 128, Nat.mod_lt _ (by decide)⟩) * st.a sub i l
      + (∑ j : Fin 512, P0 i j * st.vt (key b j) l + ∑ j : Fin 512, P1 i j * st.vb (key b j) l) } → Go Q k σ') :
    Go Q (accB A.arg9 A.arg10 A.arg11 sub b a0 a1 p0 p1 k) σ := by
  refine hk _ (h.set_a hinj _ _ fun a i l => (store_a A σ sub _ a i l).trans (if_congr Iff.rfl ?_ (h.a _ _ _)))
  refine (castA _ i l).trans ((nextA_at _ _ _ _ _ _ _ i l).trans (congrArg₂ (· + ·) (congrArg₂ (· * ·) (if_congr Iff.rfl (g0 _ _) (g1 _ _)) ((uncastA _ i l).trans (load_a h sub i l))) (congrArg₂ (· + ·) ?_ ?_)))
  · exact Finset.sum_congr rfl fun x _ => congrArg₂ (· * ·) (h0 _ _) (load_vt h b x l)
  · exact Finset.sum_congr rfl fun x _ => congrArg₂ (· * ·) (h1 _ _) (load_vb h b x l)

omit hinj
/-- A tile's rows: the sums over the sums of the weights. -/
def putO (o : Fin 2048 → Fin 128 → EReal) (sub : Fin 4) (a : Fin 512 → Fin 256 → EReal) : Fin 2048 → Fin 128 → EReal := fun r l =>
  if r.1 / 512 = sub.1 then
    Ideal.div (a ⟨r.1 % 512, Nat.mod_lt _ (by decide)⟩ ⟨l.1, by omega⟩)
      (if l.1 < 64 then a ⟨r.1 % 512, Nat.mod_lt _ (by decide)⟩ ⟨128, by decide⟩ else a ⟨r.1 % 512, Nat.mod_lt _ (by decide)⟩ ⟨129, by decide⟩)
  else o r l
include hinj

/-- A tile's rows written out. -/
theorem go_finB (h : Abs A σ st) (sub : Fin 4) (k : PR Ideal)
    (hk : ∀ σ', Abs A σ' { st with o := putO st.o sub (st.a sub) } → Go Q k σ') :
    Go Q (finB A.arg7 A.harg7 A.arg9 sub k) σ := by
  refine hk _ (h.set_o hinj _ _ fun r l => (store_o A σ sub _ r l).trans (if_congr Iff.rfl ?_ (h.o _ _)))
  have ha (i : Fin 512) (l : Fin 256) := (uncastA _ i l).trans (load_a h sub i l)
  exact (outOf_at _ _ l).trans (congrArg₂ Ideal.div (ha _ _) (if_congr Iff.rfl (ha _ _) (ha _ _)))

theorem abs_vt (h : Abs A σ st) (o : ℕ) (ho : o + 128 ≤ 256) (inb : ∀ a, (![0, o] : Fin 2 → Nat) a + S4096x128.size a ≤ S4096x256.size a) (w : Vec Ideal S4096x128 .bf16)
    (f : Fin 4096 → Fin 256 → EReal) (hw : ∀ (r : Fin 4096) (l : Fin 128), w (ix2 r l) = f r ⟨o + l.1, by omega⟩) :
    Abs A (Function.update σ A.arg10.view.ref ((A.arg10.access (Rect.unit (s := S4096x256) ![0, o] S4096x128.size inb)).write (Elt Ideal) (σ A.arg10.view.ref) w Finset.univ))
      { st with vt := fun r l => if o ≤ l.1 ∧ l.1 < o + 128 then f r l else st.vt r l } := by
  refine h.set_vt hinj _ _ fun r l => (store_v σ A.arg10 o ho inb _ r l).trans ?_
  split
  · next hc => exact (hw _ _).trans (ext2 f rfl (show o + (l.1 - o) = l.1 by omega))
  · exact h.vt _ _

theorem abs_vb (h : Abs A σ st) (o : ℕ) (ho : o + 128 ≤ 256) (inb : ∀ a, (![0, o] : Fin 2 → Nat) a + S4096x128.size a ≤ S4096x256.size a) (w : Vec Ideal S4096x128 .bf16)
    (f : Fin 4096 → Fin 256 → EReal) (hw : ∀ (r : Fin 4096) (l : Fin 128), w (ix2 r l) = f r ⟨o + l.1, by omega⟩) :
    Abs A (Function.update σ A.arg11.view.ref ((A.arg11.access (Rect.unit (s := S4096x256) ![0, o] S4096x128.size inb)).write (Elt Ideal) (σ A.arg11.view.ref) w Finset.univ))
      { st with vb := fun r l => if o ≤ l.1 ∧ l.1 < o + 128 then f r l else st.vb r l } := by
  refine h.set_vb hinj _ _ fun r l => (store_v σ A.arg11 o ho inb _ r l).trans ?_
  split
  · next hc => exact (hw _ _).trans (ext2 f rfl (show o + (l.1 - o) = l.1 by omega))
  · exact h.vb _ _

omit hinj

/-- The first head's value columns, and its column of ones; the second's. -/
def vT (v : Fin 4096 → Fin 128 → EReal) (r : Fin 4096) (l : Fin 256) : EReal :=
  if h : l.1 < 128 then (if l.1 < 64 then v r ⟨l.1, h⟩ else 0) else if l.1 = 128 then 1 else 0
def vB (v : Fin 4096 → Fin 128 → EReal) (r : Fin 4096) (l : Fin 256) : EReal :=
  if h : l.1 < 128 then (if 64 ≤ l.1 then v r ⟨l.1, h⟩ else 0) else if l.1 = 129 then 1 else 0

theorem load_v (h : Abs A σ st) (r : Fin 4096) (l : Fin 128) :
    A.arg6.view.readAt (Elt Ideal) (Rect.unit (s := S4096x128) ![0, 0] S4096x128.size inb_S4096x128_S4096x128_0_0).toLoadRect (σ A.arg6.view.ref) (ix2 r l) = st.v r l := by
  refine (congrArg (rd (c := (c : Thread nD τ)) A.arg6 σ) ?_).trans (h.v _ _)
  funext a
  match a with
  | ⟨0, _⟩ => exact Fin.ext (show 0 + 1 * r.1 = r.1 by omega)
  | ⟨1, _⟩ => exact Fin.ext (show 0 + 1 * l.1 = l.1 by omega)

include hinj

/-- The value columns laid out. -/
theorem go_buildV (h : Abs A σ st) (k : PR Ideal)
    (hk : ∀ σ', Abs A σ' { st with vt := vT st.v, vb := vB st.v } → Go Q k σ') :
    Go Q (buildV A.arg6 A.arg10 A.harg10 A.arg11 A.harg11 k) σ := by
  have both (f g : Fin 4096 → Fin 256 → EReal) : (fun r l => if 128 ≤ l.1 ∧ l.1 < 128 + 128 then f r l else (if 0 ≤ l.1 ∧ l.1 < 0 + 128 then f r l else g r l)) = f := by
    funext r l
    have hl := l.2
    by_cases h1 : l.1 < 128
    · rw [if_neg (by omega), if_pos (by omega)]
    · rw [if_pos (by omega)]
  refine hk _ (Eq.mp (congrArg₂ (fun a b => Abs A _ { st with vt := a, vb := b }) (both (vT st.v) st.vt) (both (vB st.v) st.vb))
    (abs_vb hinj (abs_vb hinj (abs_vt hinj (abs_vt hinj h 0 (by decide) _ _ (vT st.v) fun r l => ?_) 128 (by decide) _ _ (vT st.v) fun r l => ?_) 0 (by decide) _ _ (vB st.v) fun r l => ?_)
      128 (by decide) _ _ (vB st.v) fun r l => ?_))
  · have hl := l.2
    refine (cast_v _ r l).trans ((headT_at _ r l).trans ?_)
    unfold vT
    rw [dif_pos (show 0 + l.1 < 128 by omega)]
    exact if_congr (show l.1 < 64 ↔ 0 + l.1 < 64 by omega) ((load_v h r l).trans (ext2 st.v rfl (Nat.zero_add _).symm)) rfl
  · have hl := l.2
    refine (cast_v _ r l).trans ((oneT_at r l).trans ?_)
    unfold vT
    rw [dif_neg (show ¬ 128 + l.1 < 128 by omega)]
    exact if_congr (show l.1 = 0 ↔ 128 + l.1 = 128 by omega) rfl rfl
  · have hl := l.2
    refine (cast_v _ r l).trans ((headB_at _ r l).trans ?_)
    unfold vB
    rw [dif_pos (show 0 + l.1 < 128 by omega)]
    exact if_congr (show 64 ≤ l.1 ↔ 64 ≤ 0 + l.1 by omega) ((load_v h r l).trans (ext2 st.v rfl (Nat.zero_add _).symm)) rfl
  · have hl := l.2
    refine (cast_v _ r l).trans ((oneB_at r l).trans ?_)
    unfold vB
    rw [dif_neg (show ¬ 128 + l.1 < 128 by omega)]
    exact if_congr (show l.1 = 1 ↔ 128 + l.1 = 129 by omega) rfl rfl

end Eff

end Cert.AttnIdeal.Run

end
-- ==== Proof.AttnSum.lean ====
/- The running softmax, over the extended reals: weights taken against a running maximum, and sums brought on from
   one block of keys to the next. -/
module

public import proofs.«01_k».proof.Proof.AttnEff

@[expose] public section

set_option maxRecDepth 16384

noncomputable section

namespace Cert.AttnIdeal.Run

open Idealize.ShloMosaic

section Online

theorem exp2_nonneg (x : EReal) : 0 ≤ Ideal.exp2 x := by
  induction x with
  | bot => exact le_rfl
  | top => exact le_top
  | coe r => exact EReal.coe_nonneg.mpr (Real.rpow_nonneg (by norm_num) r)

/-- A power of a difference that is not above zero is finite. -/
theorem exp2_sub_ne_top {a b : EReal} (h : a ≤ b) : Ideal.exp2 (a - b) ≠ ⊤ := by
  induction a with
  | bot => rw [sub_eq_add_neg, EReal.bot_add]; exact EReal.zero_ne_top
  | top =>
    rw [top_le_iff.mp h, sub_eq_add_neg, EReal.neg_top, EReal.add_bot]; exact EReal.zero_ne_top
  | coe x =>
    induction b with
    | bot => exact absurd (le_bot_iff.mp h) (EReal.coe_ne_bot x)
    | top => rw [sub_eq_add_neg, EReal.neg_top, EReal.add_bot]; exact EReal.zero_ne_top
    | coe y => rw [← EReal.coe_sub]; exact EReal.coe_ne_top _

/-- A weight against one maximum, scaled to a later one. -/
theorem exp2_scale {s a b : EReal} (hs : s ≤ a) (h : a ≤ b) : Ideal.exp2 (a - b) * Ideal.exp2 (s - a) = Ideal.exp2 (s - b) := by
  induction s with
  | bot => simp [sub_eq_add_neg]
  | top =>
    obtain rfl := top_le_iff.mp hs
    obtain rfl := top_le_iff.mp h
    simp [sub_eq_add_neg]
  | coe z =>
    induction a with
    | bot => exact absurd (le_bot_iff.mp hs) (EReal.coe_ne_bot z)
    | top =>
      obtain rfl := top_le_iff.mp h
      simp [sub_eq_add_neg]
    | coe x =>
      induction b with
      | bot => exact absurd (le_bot_iff.mp h) (EReal.coe_ne_bot x)
      | top => simp [sub_eq_add_neg]
      | coe y =>
        rw [← EReal.coe_sub, ← EReal.coe_sub, ← EReal.coe_sub, Ideal.exp2_coe, Ideal.exp2_coe, Ideal.exp2_coe, ← EReal.coe_mul]
        congr 1
        refine (Real.rpow_add (by norm_num) _ _).symm.trans (congrArg (Real.rpow 2) (by ring))

variable {ι : Type}

theorem mul_sum_nonneg {a : EReal} (h0 : 0 ≤ a) (h1 : a ≠ ⊤) (S : Finset ι) (f : ι → EReal) : a * ∑ j ∈ S, f j = ∑ j ∈ S, a * f j := by
  classical
  induction S using Finset.induction_on with
  | empty => simp
  | insert j S hj ih => rw [Finset.sum_insert hj, Finset.sum_insert hj, EReal.left_distrib_of_nonneg_of_ne_top h0 h1, ih]

/-- A weighted sum against the maximum of its logits. -/
def wsum (S : Finset ι) (s w : ι → EReal) : EReal := ∑ j ∈ S, Ideal.exp2 (s j - S.sup s) * w j

/-- One block more. -/
theorem wsum_step [DecidableEq ι] (S B : Finset ι) (hd : Disjoint S B) (s w : ι → EReal) :
    Ideal.exp2 (S.sup s - max (S.sup s) (B.sup s)) * wsum S s w + ∑ j ∈ B, Ideal.exp2 (s j - max (S.sup s) (B.sup s)) * w j = wsum (S ∪ B) s w := by
  unfold wsum
  have e : (S ∪ B).sup s = max (S.sup s) (B.sup s) := Finset.sup_union
  rw [e, Finset.sum_union hd, mul_sum_nonneg (exp2_nonneg _) (exp2_sub_ne_top (le_max_left _ _))]
  congr 1
  refine Finset.sum_congr rfl fun j hj => ?_
  rw [← mul_assoc, exp2_scale (Finset.le_sup hj) (le_max_left _ _)]

end Online

/-- The keys from a block on, and one block's. -/
def from' (c : ℕ) : Finset (Fin 4096) := Finset.univ.filter fun j => 512 * c ≤ j.1
def keyEmb (b : Fin 8) : Fin 512 ↪ Fin 4096 := ⟨key b, fun x y h => by
  have h : 512 * b.1 + x.1 = 512 * b.1 + y.1 := congrArg Fin.val h
  exact Fin.ext (by omega)⟩
def block (b : Fin 8) : Finset (Fin 4096) := Finset.univ.map (keyEmb b)

theorem mem_block (b : Fin 8) (j : Fin 4096) : j ∈ block b ↔ 512 * b.1 ≤ j.1 ∧ j.1 < 512 * (b.1 + 1) := by
  unfold block
  rw [Finset.mem_map]
  constructor
  · rintro ⟨x, -, rfl⟩
    have hx := x.2
    exact ⟨(show 512 * b.1 ≤ 512 * b.1 + x.1 by omega), (show 512 * b.1 + x.1 < 512 * (b.1 + 1) by omega)⟩
  · rintro ⟨h1, h2⟩
    exact ⟨⟨j.1 - 512 * b.1, by omega⟩, Finset.mem_univ _, Fin.ext (show 512 * b.1 + (j.1 - 512 * b.1) = j.1 by omega)⟩

theorem from_step (b : Fin 8) : from' b.1 = from' (b.1 + 1) ∪ block b := by
  ext j
  rw [Finset.mem_union, mem_block]
  unfold from'
  rw [Finset.mem_filter, Finset.mem_filter]
  constructor
  · rintro ⟨-, h⟩
    by_cases h' : 512 * (b.1 + 1) ≤ j.1
    · exact Or.inl ⟨Finset.mem_univ _, h'⟩
    · exact Or.inr ⟨h, by omega⟩
  · rintro (⟨-, h⟩ | h)
    · exact ⟨Finset.mem_univ _, by omega⟩
    · exact ⟨Finset.mem_univ _, h.1⟩

theorem from_disj (b : Fin 8) : Disjoint (from' (b.1 + 1)) (block b) := by
  rw [Finset.disjoint_left]
  intro j h1 h2
  rw [mem_block] at h2
  unfold from' at h1
  have := (Finset.mem_filter.mp h1).2
  omega

theorem from_zero : from' 0 = Finset.univ := by
  unfold from'
  exact Finset.filter_true_of_mem fun j _ => Nat.zero_le _

theorem sup_two (S B : Finset (Fin 4096)) (s : Fin 4096 → EReal) : (S ∪ B).sup s = max (S.sup s) (B.sup s) := Finset.sup_union
theorem sup_block (b : Fin 8) (s : Fin 4096 → EReal) : (block b).sup s = Finset.univ.sup fun j : Fin 512 => s (key b j) := Finset.sup_map _ _ _
theorem sum_block (b : Fin 8) (f : Fin 4096 → EReal) : ∑ j ∈ block b, f j = ∑ j : Fin 512, f (key b j) := Finset.sum_map _ _ _

/-- The head of a lane, and the column of values it sums. -/
def hd (l : Fin 256) : Fin 2 := if even l then 0 else 1
def wv (v : Fin 4096 → Fin 128 → EReal) (l : Fin 256) (j : Fin 4096) : EReal := if even l then vT v j l else vB v j l

theorem vB_even (v : Fin 4096 → Fin 128 → EReal) (j : Fin 4096) (l : Fin 256) (h : even l) : vB v j l = 0 := by
  unfold vB
  unfold even at h
  split
  · exact if_neg (by omega)
  · exact if_neg (by omega)
theorem vT_odd (v : Fin 4096 → Fin 128 → EReal) (j : Fin 4096) (l : Fin 256) (h : ¬ even l) : vT v j l = 0 := by
  unfold vT
  unfold even at h
  split
  · exact if_neg (by omega)
  · exact if_neg (by omega)

/-- Both heads' products with the laid-out values: on a lane, its own head's alone. -/
theorem two_heads (v : Fin 4096 → Fin 128 → EReal) (b : Fin 8) (P : Fin 2 → Fin 512 → EReal) (l : Fin 256) :
    ∑ j : Fin 512, P 0 j * vT v (key b j) l + ∑ j : Fin 512, P 1 j * vB v (key b j) l = ∑ j : Fin 512, P (hd l) j * wv v l (key b j) := by
  unfold hd wv
  by_cases h : even l
  · simp only [if_pos h, vB_even v _ l h, mul_zero, Finset.sum_const_zero, add_zero]
  · simp only [if_neg h, vT_odd v _ l h, mul_zero, Finset.sum_const_zero, zero_add]

/-- A tile's maxima and weighted sums are those of the keys from block `c` on, the logits being `mk`. -/
structure HasAcc (v : Fin 4096 → Fin 128 → EReal) (m : Fin 2 → Fin 512 → Fin 128 → EReal) (a : Fin 512 → Fin 256 → EReal) (mk : Fin 2 → Fin 512 → Fin 4096 → EReal) (c : ℕ) : Prop where
  m : ∀ d i l, m d i l = (from' c).sup (mk d i)
  a : ∀ i l, a i l = wsum (from' c) (mk (hd l) i) (wv v l)

/-- One update. -/
theorem HasAcc.step {v : Fin 4096 → Fin 128 → EReal} {m : Fin 2 → Fin 512 → Fin 128 → EReal} {a : Fin 512 → Fin 256 → EReal} {mk : Fin 2 → Fin 512 → Fin 4096 → EReal} {b : Fin 8}
    (h : HasAcc v m a mk (b.1 + 1)) {m' : Fin 2 → Fin 512 → Fin 128 → EReal} {a' : Fin 512 → Fin 256 → EReal} {S : Fin 2 → Fin 512 → Fin 512 → EReal}
    (hS : ∀ d i j, S d i j = mk d i (key b j))
    (hm : ∀ d i l, m' d i l = max (m d i l) (Finset.univ.sup (S d i)))
    (ha : ∀ i l, a' i l = (if even l then Ideal.exp2 (m 0 i ⟨l.1 % 128, Nat.mod_lt _ (by decide)⟩ - max (m 0 i ⟨l.1 % 128, Nat.mod_lt _ (by decide)⟩) (Finset.univ.sup (S 0 i)))
        else Ideal.exp2 (m 1 i ⟨l.1 % 128, Nat.mod_lt _ (by decide)⟩ - max (m 1 i ⟨l.1 % 128, Nat.mod_lt _ (by decide)⟩) (Finset.univ.sup (S 1 i)))) * a i l
      + (∑ j : Fin 512, Ideal.exp2 (S 0 i j - max (m 0 i ⟨j.1 % 128, Nat.mod_lt _ (by decide)⟩) (Finset.univ.sup (S 0 i))) * vT v (key b j) l
        + ∑ j : Fin 512, Ideal.exp2 (S 1 i j - max (m 1 i ⟨j.1 % 128, Nat.mod_lt _ (by decide)⟩) (Finset.univ.sup (S 1 i))) * vB v (key b j) l)) :
    HasAcc v m' a' mk b.1 where
  m d i l := by
    have e : Finset.univ.sup (S d i) = (block b).sup (mk d i) := (congrArg Finset.univ.sup (funext fun j => hS d i j)).trans (sup_block b _).symm
    rw [hm, h.m, e, from_step b, sup_two]
  a i l := by
    have e (d : Fin 2) : Finset.univ.sup (S d i) = (block b).sup (mk d i) := (congrArg Finset.univ.sup (funext fun j => hS d i j)).trans (sup_block b _).symm
    have t := two_heads v b (fun d j => Ideal.exp2 (S d i j - max (m d i ⟨j.1 % 128, Nat.mod_lt _ (by decide)⟩) (Finset.univ.sup (S d i)))) l
    rw [ha, t, h.a, from_step b, ← wsum_step _ _ (from_disj b), sum_block]
    simp only [h.m, e, hS]
    unfold hd
    by_cases hl : even l
    · simp only [if_pos hl]
    · simp only [if_neg hl]

/-- The first block, no key after it counting. -/
theorem HasAcc.start {v : Fin 4096 → Fin 128 → EReal} {mk : Fin 2 → Fin 512 → Fin 4096 → EReal} {b : Fin 8}
    (late : ∀ d i, ∀ j ∈ from' (b.1 + 1), mk d i j = ⊥) {m' : Fin 2 → Fin 512 → Fin 128 → EReal} {a' : Fin 512 → Fin 256 → EReal} {S : Fin 2 → Fin 512 → Fin 512 → EReal}
    (hS : ∀ d i j, S d i j = mk d i (key b j)) (hm : ∀ d i l, m' d i l = Finset.univ.sup (S d i))
    (ha : ∀ i l, a' i l = ∑ j : Fin 512, Ideal.exp2 (S 0 i j - Finset.univ.sup (S 0 i)) * vT v (key b j) l + ∑ j : Fin 512, Ideal.exp2 (S 1 i j - Finset.univ.sup (S 1 i)) * vB v (key b j) l) :
    HasAcc v m' a' mk b.1 := by
  have bot (d : Fin 2) (i : Fin 512) : (from' (b.1 + 1)).sup (mk d i) = ⊥ := (Finset.sup_congr rfl (late d i)).trans (Finset.sup_bot _)
  refine HasAcc.step (m := fun _ _ _ => ⊥) (a := fun _ _ => 0) (S := S) ⟨fun d i l => (bot d i).symm, fun i l => ?_⟩ hS (fun d i l => ?_) (fun i l => ?_)
  · unfold wsum
    refine (Finset.sum_eq_zero fun j hj => ?_).symm
    rw [late _ _ j hj, sub_eq_add_neg, EReal.bot_add]
    exact zero_mul _
  · rw [hm, max_eq_right bot_le]
  · rw [ha]
    simp only [max_eq_right (bot_le (α := EReal)), mul_zero, zero_add]

/-- Softmax attention of one query over one pair of heads: a lane's values, weighted by its head's logits. -/
def attn (s : Fin 2 → Fin 4096 → EReal) (v : Fin 4096 → Fin 128 → EReal) (l : Fin 128) : EReal :=
  Ideal.div (wsum Finset.univ (s (if l.1 < 64 then 0 else 1)) fun j => v j l) (wsum Finset.univ (s (if l.1 < 64 then 0 else 1)) fun _ => 1)

theorem HasAcc.out {v : Fin 4096 → Fin 128 → EReal} {m : Fin 2 → Fin 512 → Fin 128 → EReal} {a : Fin 512 → Fin 256 → EReal} {mk : Fin 2 → Fin 512 → Fin 4096 → EReal}
    (h : HasAcc v m a mk 0) (i : Fin 512) (l : Fin 128) :
    Ideal.div (a i ⟨l.1, by omega⟩) (if l.1 < 64 then a i ⟨128, by decide⟩ else a i ⟨129, by decide⟩) = attn (fun d => mk d i) v l := by
  have hl := l.2
  unfold attn
  by_cases h' : l.1 < 64
  · have e : even ⟨l.1, by omega⟩ := Or.inl h'
    rw [if_pos h', if_pos h', h.a, h.a, from_zero]
    refine congrArg₂ Ideal.div (congrArg₂ (wsum Finset.univ) (congrArg (mk · i) (if_pos e)) (funext fun j => ?_)) (congrArg₂ (wsum Finset.univ) rfl (funext fun j => ?_))
    · exact (if_pos e).trans ((dif_pos hl).trans (if_pos h'))
    · rfl
  · have e : ¬ even ⟨l.1, by omega⟩ := fun e => e.elim h' (fun e' => by have e' : l.1 = 128 := e'; omega)
    rw [if_neg h', if_neg h', h.a, h.a, from_zero]
    refine congrArg₂ Ideal.div (congrArg₂ (wsum Finset.univ) (congrArg (mk · i) (if_neg e)) (funext fun j => ?_)) (congrArg₂ (wsum Finset.univ) rfl (funext fun j => ?_))
    · exact (if_neg e).trans ((dif_pos hl).trans (if_pos (show 64 ≤ l.1 by omega)))
    · rfl

end Cert.AttnIdeal.Run

end
-- ==== Proof.AttnTile.lean ====
/- A tile's blocks in turn, and a grid point's tiles: what the attention's kernel body leaves in its ten buffers. -/
module

public import proofs.«01_k».proof.Proof.AttnSum

@[expose] public section

set_option maxRecDepth 16384

noncomputable section

namespace Cert.AttnIdeal.Run

open Idealize.ShloMosaic Idealize.ShloMosaic.TcCoe Idealize.SL.Sem
open Cert.AttnIdeal Cert.AttnIdeal.Gen Cert.Walk

/-- The logits of a tile's rows, its own block of keys being number `T`: a key after the query at minus infinity. -/
def mk (q : Fin 2048 → Fin 256 → EReal) (k : Fin 4096 → Fin 256 → EReal) (T : ℕ) (sub : Fin 4) (d : Fin 2) (i : Fin 512) (j : Fin 4096) : EReal :=
  if j.1 ≤ 512 * T + i.1 then lgt q k d (row sub i) j else ⊥

theorem mk_early (q : Fin 2048 → Fin 256 → EReal) (k : Fin 4096 → Fin 256 → EReal) (T : ℕ) (sub : Fin 4) (d : Fin 2) (i : Fin 512) (b : Fin 8) (j : Fin 512) (h : b.1 < T) :
    mk q k T sub d i (key b j) = lgt q k d (row sub i) (key b j) :=
  if_pos (show 512 * b.1 + j.1 ≤ 512 * T + i.1 by omega)

theorem mk_late (q : Fin 2048 → Fin 256 → EReal) (k : Fin 4096 → Fin 256 → EReal) (T : ℕ) (sub : Fin 4) (d : Fin 2) (i : Fin 512) (j : Fin 4096) (h : j ∈ from' (T + 1)) :
    mk q k T sub d i j = ⊥ := by
  unfold from' at h
  have h := (Finset.mem_filter.mp h).2
  exact if_neg (by omega)

theorem causal_mk (q : Fin 2048 → Fin 256 → EReal) (k : Fin 4096 → Fin 256 → EReal) (T : Fin 8) (sub : Fin 4) (d : Fin 2) (S : Fin 512 → Fin 512 → EReal)
    (hS : ∀ i j : Fin 512, (i.1 < 256 → j.1 < 256) → S i j = lgt q k d (row sub i) (key T j)) (i j : Fin 512) : causal S i j = mk q k T.1 sub d i (key T j) := by
  unfold causal mk
  have e : (key T j).1 ≤ 512 * T.1 + i.1 ↔ j.1 ≤ i.1 := (show 512 * T.1 + j.1 ≤ 512 * T.1 + i.1 ↔ j.1 ≤ i.1 by omega)
  by_cases h : j.1 ≤ i.1
  · rw [if_pos h, if_pos (e.mpr h)]
    exact hS i j (fun h' => by omega)
  · rw [if_neg h, if_neg (fun h' => h (e.mp h'))]

section Tile
variable {c : Dev nD} {A : Args} (hinj : Function.Injective (refsOf A)) {Q : PUnit → Mem c → Prop} {σ : Mem c} {st : St}
include hinj

theorem go_logitsB (h : Abs A σ st) (sub : Fin 4) (slot : Fin 3) (b : Fin 8) (k : PR Ideal)
    (hk : ∀ σ' s, (∀ d i j, s sub slot d i j = lgt st.q st.k d (row sub i) (key b j)) → (∀ a b, ¬ (a = sub ∧ b = slot) → ∀ d i j, s a b d i j = st.s a b d i j) →
      Abs A σ' { st with s := s } → Go Q k σ') :
    Go Q (logitsB A.arg3 A.arg5 A.arg12 sub slot b k) σ := by
  refine go_logitsH hinj h sub slot b 0 _ fun σ1 h1 => go_logitsH hinj h1 sub slot b 1 k fun σ2 h2 => hk σ2 _ ?_ ?_ h2
  · intro d i j
    unfold putS
    match d with
    | ⟨0, _⟩ => exact (if_neg (fun h => absurd h.1.2.2 (show ¬ (0 : Fin 2) = 1 by decide))).trans (if_pos ⟨⟨rfl, rfl, rfl⟩, trivial⟩)
    | ⟨1, _⟩ => exact if_pos ⟨⟨rfl, rfl, rfl⟩, trivial⟩
  · intro a b' hne d i j
    unfold putS
    exact (if_neg (fun h => hne ⟨h.1.1, h.1.2.1⟩)).trans (if_neg (fun h => hne ⟨h.1.1, h.1.2.1⟩))

theorem go_diagB (h : Abs A σ st) (qsub sub : Fin 4) (b : Fin 8) (k : PR Ideal)
    (hk : ∀ σ' s, (∀ (d : Fin 2) (i j : Fin 512), (i.1 < 256 → j.1 < 256) → s sub 2 d i j = lgt st.q st.k d (row qsub i) (key b j)) → (∀ a b, ¬ (a = sub ∧ b = 2) → ∀ d i j, s a b d i j = st.s a b d i j) →
      Abs A σ' { st with s := s } → Go Q k σ') :
    Go Q (diagB A.arg3 A.arg5 A.arg12 qsub sub b k) σ := by
  refine go_diagH hinj h qsub sub b 0 _ fun σ1 h1 => go_diagH hinj h1 qsub sub b 1 k fun σ2 h2 => hk σ2 _ ?_ ?_ h2
  · intro d i j hP
    unfold putS
    match d with
    | ⟨0, _⟩ => exact (if_neg (fun h => absurd h.1.2.2 (show ¬ (0 : Fin 2) = 1 by decide))).trans (if_pos ⟨⟨rfl, rfl, rfl⟩, hP⟩)
    | ⟨1, _⟩ => exact if_pos ⟨⟨rfl, rfl, rfl⟩, hP⟩
  · intro a b' hne d i j
    unfold putS
    exact (if_neg (fun h => hne ⟨h.1.1, h.1.2.1⟩)).trans (if_neg (fun h => hne ⟨h.1.1, h.1.2.1⟩))

theorem go_diagNB (h : Abs A σ st) (qsub sub : Fin 4) (b : Fin 8) (k : PR Ideal)
    (hk : ∀ σ' s, (∀ (d : Fin 2) (i j : Fin 512), (i.1 < 256 → j.1 < 256) → s sub 2 d i j = lgt st.n st.k d (row qsub i) (key b j)) → (∀ a b, ¬ (a = sub ∧ b = 2) → ∀ d i j, s a b d i j = st.s a b d i j) →
      Abs A σ' { st with s := s } → Go Q k σ') :
    Go Q (diagB A.arg4 A.arg5 A.arg12 qsub sub b k) σ := by
  refine go_diagN hinj h qsub sub b 0 _ fun σ1 h1 => go_diagN hinj h1 qsub sub b 1 k fun σ2 h2 => hk σ2 _ ?_ ?_ h2
  · intro d i j hP
    unfold putS
    match d with
    | ⟨0, _⟩ => exact (if_neg (fun h => absurd h.1.2.2 (show ¬ (0 : Fin 2) = 1 by decide))).trans (if_pos ⟨⟨rfl, rfl, rfl⟩, hP⟩)
    | ⟨1, _⟩ => exact if_pos ⟨⟨rfl, rfl, rfl⟩, hP⟩
  · intro a b' hne d i j
    unfold putS
    exact (if_neg (fun h => hne ⟨h.1.1, h.1.2.1⟩)).trans (if_neg (fun h => hne ⟨h.1.1, h.1.2.1⟩))

/-- One update, both heads. -/
theorem go_upB {v : Fin 4096 → Fin 128 → EReal} {mk : Fin 2 → Fin 512 → Fin 4096 → EReal} (h : Abs A σ st) (sub : Fin 4) (slot : Fin 3) (b : Fin 8) (hvt : st.vt = vT v) (hvb : st.vb = vB v)
    (hs : ∀ d i j, st.s sub slot d i j = mk d i (key b j)) (hacc : HasAcc v (st.m sub) (st.a sub) mk (b.1 + 1)) (k : PR Ideal)
    (hk : ∀ σ' m a, HasAcc v (m sub) (a sub) mk b.1 → Abs A σ' { st with m := m, a := a } → Go Q k σ') :
    Go Q (upB A.arg8 A.arg9 A.arg10 A.arg11 A.arg12 sub slot b k) σ := by
  refine go_upH hinj h sub slot 0 _ fun a0 p0 σ1 ha0 hp0 h1 => go_upH hinj h1 sub slot 1 _ fun a1 p1 σ2 ha1 hp1 h2 =>
    go_accB hinj h2 sub b a0 a1 p0 p1 _ _ _ _ ha0 ha1 hp0 hp1 k fun σ3 h3 => hk σ3 _ _ ?_ h3
  have e1 (i : Fin 512) (l : Fin 128) : putM st.m sub 0 (fun i l => max (st.m sub 0 i l) (Finset.univ.sup (st.s sub slot 0 i))) sub 1 i l = st.m sub 1 i l :=
    if_neg (fun h => absurd h.2 (by decide))
  refine hacc.step (S := st.s sub slot) hs (fun d i l => ?_) (fun i l => ?_)
  · match d with
    | ⟨0, _⟩ => exact (if_neg (fun h => absurd h.2 (show ¬ (0 : Fin 2) = 1 by decide))).trans (if_pos ⟨rfl, rfl⟩)
    | ⟨1, _⟩ => exact (if_pos ⟨rfl, rfl⟩).trans (congrArg (fun z => max z _) (e1 i l))
  · refine (if_pos rfl).trans ?_
    simp only [e1, hvt, hvb]

/-- A tile's first update. -/
theorem go_upDiagB {v : Fin 4096 → Fin 128 → EReal} (q : Fin 2048 → Fin 256 → EReal) (kk : Fin 4096 → Fin 256 → EReal) (h : Abs A σ st) (sub : Fin 4) (b : Fin 8) (hvt : st.vt = vT v) (hvb : st.vb = vB v)
    (hs : ∀ (d : Fin 2) (i j : Fin 512), (i.1 < 256 → j.1 < 256) → st.s sub 2 d i j = lgt q kk d (row sub i) (key b j)) (k : PR Ideal)
    (hk : ∀ σ' m a, HasAcc v (m sub) (a sub) (mk q kk b.1 sub) b.1 → Abs A σ' { st with m := m, a := a } → Go Q k σ') :
    Go Q (upDiagB A.arg8 A.arg9 A.arg10 A.arg11 A.arg12 sub b k) σ := by
  have zero (d : Fin 2) (i j : Fin 512) (hij : i.1 < j.1) (x : EReal) : Ideal.exp2 (causal (st.s sub 2 d) i j - x) = 0 := by
    unfold causal
    rw [if_neg (by omega), sub_eq_add_neg, EReal.bot_add]
    rfl
  refine go_upDiagH hinj h sub 0 _ fun p0 σ1 hp0 h1 => go_upDiagH hinj h1 sub 1 _ fun p1 σ2 hp1 h2 =>
    go_accDiag hinj h2 sub b p0 p1 _ _ hp0 hp1 (fun i j hij => zero 0 i j hij _) (fun i j hij => zero 1 i j hij _) k fun σ3 h3 => hk σ3 _ _ ?_ h3
  refine HasAcc.start (fun d i j hj => mk_late q kk b.1 sub d i j hj) (S := fun d => causal (st.s sub 2 d)) (fun d i j => causal_mk q kk b sub d _ (hs d) i j) (fun d i l => ?_) (fun i l => ?_)
  · match d with
    | ⟨0, _⟩ => exact (if_neg (fun h => absurd h.2 (show ¬ (0 : Fin 2) = 1 by decide))).trans (if_pos ⟨rfl, rfl⟩)
    | ⟨1, _⟩ => exact if_pos ⟨rfl, rfl⟩
  · refine (if_pos rfl).trans ?_
    simp only [hvt, hvb]

/-- What a piece of the body put in the chain's place may do: nothing that the tile at hand reads, and something of which `D` holds. -/
def Harmless (Q : PUnit → Mem c → Prop) (A : Args) (q n : Fin 2048 → Fin 256 → EReal) (kk : Fin 4096 → Fin 256 → EReal) (sub : Fin 4)
    (D : (Fin 4 → Fin 3 → Fin 2 → Fin 512 → Fin 512 → EReal) → Prop) (d : PR Ideal → PR Ideal) : Prop :=
  ∀ (σ : Mem c) (st : St) (k : PR Ideal), st.q = q → st.n = n → st.k = kk → Abs A σ st →
    (∀ σ' s, (∀ b d i j, s sub b d i j = st.s sub b d i j) → D s → Abs A σ' { st with s := s } → Go Q k σ') → Go Q (d k) σ

/-- The key blocks before a tile's own. -/
theorem go_chain {v : Fin 4096 → Fin 128 → EReal} {q n : Fin 2048 → Fin 256 → EReal} {kk : Fin 4096 → Fin 256 → EReal} (sub : Fin 4) (T : ℕ)
    (D : (Fin 4 → Fin 3 → Fin 2 → Fin 512 → Fin 512 → EReal) → Prop) (d : PR Ideal → PR Ideal) (hd : Harmless Q A q n kk sub D d) (b : ℕ) :
    ∀ (hb : b < 8) (slot : Bool) (σ : Mem c) (st : St) (k : PR Ideal), b < T → st.q = q → st.n = n → st.k = kk → st.vt = vT v → st.vb = vB v → Abs A σ st →
      (∀ d i j, st.s sub (if slot then 1 else 0) d i j = lgt q kk d (row sub i) (key ⟨b, hb⟩ j)) → HasAcc v (st.m sub) (st.a sub) (mk q kk T sub) (b + 1) →
      (∀ σ' m a s, HasAcc v (m sub) (a sub) (mk q kk T sub) 0 → D s → Abs A σ' { st with m := m, a := a, s := s } → Go Q k σ') →
      Go Q (chain A.arg3 A.arg5 A.arg8 A.arg9 A.arg10 A.arg11 A.arg12 sub d b hb slot k) σ := by
  induction b with
  | zero =>
    intro hb slot σ st k hT hq hn hkk hvt hvb h hs hacc hk
    refine hd σ st _ hq hn hkk h fun σ1 s1 hs1 hD h1 => go_upB hinj h1 sub _ 0 hvt hvb (mk := mk q kk T sub) (fun d i j => ?_) hacc k fun σ2 m a h2 h3 => hk σ2 m a s1 h2 hD h3
    exact (hs1 _ _ _ _).trans ((hs d i j).trans (mk_early q kk T sub d i 0 j hT).symm)
  | succ b ih =>
    intro hb slot σ st k hT hq hn hkk hvt hvb h hs hacc hk
    refine go_logitsB hinj h sub _ _ _ fun σ1 s1 hs1 hs1' h1 => go_upB hinj h1 sub _ ⟨b + 1, hb⟩ hvt hvb (mk := mk q kk T sub) (fun d i j => ?_) hacc _ fun σ2 m a hacc2 h2 =>
      ih (Nat.lt_of_succ_lt hb) (!slot) σ2 { st with s := s1, m := m, a := a } k (Nat.lt_of_succ_lt hT) hq hn hkk hvt hvb h2 (fun d i j => ?_) hacc2 fun σ3 m3 a3 s3 hacc3 hD h3 => hk σ3 m3 a3 s3 hacc3 hD h3
    · refine (hs1' _ _ (fun e => ?_) _ _ _).trans ((hs d i j).trans (mk_early q kk T sub d i ⟨b + 1, hb⟩ j hT).symm)
      cases slot
      · exact absurd e.2 (by decide)
      · exact absurd e.2 (by decide)
    · rw [← hq, ← hkk]
      cases slot
      · exact hs1 d i j
      · exact hs1 d i j

/-- A tile's rows, written. -/
def putT (o : Fin 2048 → Fin 128 → EReal) (sub : Fin 4) (T : ℕ) (q : Fin 2048 → Fin 256 → EReal) (kk : Fin 4096 → Fin 256 → EReal) (v : Fin 4096 → Fin 128 → EReal) : Fin 2048 → Fin 128 → EReal :=
  fun r l => if r.1 / 512 = sub.1 then attn (fun d => mk q kk T sub d ⟨r.1 % 512, Nat.mod_lt _ (by decide)⟩) v l else o r l

omit hinj in
theorem putO_eq {v : Fin 4096 → Fin 128 → EReal} {m : Fin 2 → Fin 512 → Fin 128 → EReal} {a : Fin 512 → Fin 256 → EReal} {q : Fin 2048 → Fin 256 → EReal} {kk : Fin 4096 → Fin 256 → EReal} {T : ℕ} {sub : Fin 4}
    (h : HasAcc v m a (mk q kk T sub) 0) (o : Fin 2048 → Fin 128 → EReal) : putO o sub a = putT o sub T q kk v := by
  funext r l
  exact if_congr Iff.rfl (h.out _ l) rfl

/-- A tile, from its diagonal logits on. -/
theorem go_tile {v : Fin 4096 → Fin 128 → EReal} {q n : Fin 2048 → Fin 256 → EReal} {kk : Fin 4096 → Fin 256 → EReal} (h : Abs A σ st) (sub : Fin 4)
    (D : (Fin 4 → Fin 3 → Fin 2 → Fin 512 → Fin 512 → EReal) → Prop) (d : PR Ideal → PR Ideal) (hd : Harmless Q A q n kk sub D d) (b : ℕ) (hb : b + 1 < 8) (k : PR Ideal)
    (hq : st.q = q) (hn : st.n = n) (hkk : st.k = kk) (hvt : st.vt = vT v) (hvb : st.vb = vB v)
    (hs : ∀ (d : Fin 2) (i j : Fin 512), (i.1 < 256 → j.1 < 256) → st.s sub 2 d i j = lgt q kk d (row sub i) (key ⟨b + 1, hb⟩ j))
    (hk : ∀ σ' m a s, D s → Abs A σ' { st with m := m, a := a, s := s, o := putT st.o sub (b + 1) q kk v } → Go Q k σ') :
    Go Q (tileB A.arg3 A.arg5 A.arg7 A.harg7 A.arg8 A.arg9 A.arg10 A.arg11 A.arg12 sub d b hb k) σ := by
  refine go_logitsB hinj h sub 1 _ _ fun σ1 s1 hs1 hs1' h1 => go_upDiagB hinj q kk h1 sub ⟨b + 1, hb⟩ hvt hvb (fun d i j hP => ?_) _ fun σ2 m a hacc h2 =>
    go_chain hinj sub (b + 1) D d hd b (Nat.lt_of_succ_lt hb) true σ2 { st with s := s1, m := m, a := a } _ (Nat.lt_succ_self b) hq hn hkk hvt hvb h2 (fun d i j => ?_) hacc fun σ3 m3 a3 s3 hacc3 hD h3 =>
      go_finB hinj h3 sub k fun σ4 h4 => hk σ4 m3 a3 s3 hD (Eq.mp (congrArg (fun o => Abs A σ4 { st with m := m3, a := a3, s := s3, o := o }) (putO_eq hacc3 st.o)) h4)
  · exact (hs1' _ _ (fun e => absurd e.2 (by decide)) _ _ _).trans (hs d i j hP)
  · rw [← hq, ← hkk]; exact hs1 d i j

/-- Nothing put in. -/
theorem harmless_id (q n : Fin 2048 → Fin 256 → EReal) (kk : Fin 4096 → Fin 256 → EReal) (sub : Fin 4) : Harmless Q A q n kk sub (fun _ => True) id :=
  fun σ st k _ _ _ h hk => hk σ st.s (fun _ _ _ _ => rfl) trivial h

/-- The next grid point's first diagonal block put in. -/
def Next (n : Fin 2048 → Fin 256 → EReal) (kk : Fin 4096 → Fin 256 → EReal) (s : Fin 4 → Fin 3 → Fin 2 → Fin 512 → Fin 512 → EReal) : Prop :=
  ∀ (d : Fin 2) (i j : Fin 512), (i.1 < 256 → j.1 < 256) → s 0 2 d i j = lgt n kk d (row 0 i) (key 4 j)

theorem harmless_next (q n : Fin 2048 → Fin 256 → EReal) (kk : Fin 4096 → Fin 256 → EReal) (sub : Fin 4) (hsub : sub ≠ 0) :
    Harmless Q A q n kk sub (Next n kk) (diagB A.arg4 A.arg5 A.arg12 0 0 4) := by
  intro σ st k hq hn hkk h hk
  refine go_diagNB hinj h 0 0 4 k fun σ1 s1 hs1 hs1' h1 => hk σ1 s1 (fun b d i j => hs1' _ _ (fun e => hsub e.1) _ _ _) (fun d i j hP => ?_) h1
  rw [← hn, ← hkk]; exact hs1 d i j hP

/-- The rows of a grid point, the first of its four tiles being number `base`. -/
def rows (base : ℕ) (q : Fin 2048 → Fin 256 → EReal) (kk : Fin 4096 → Fin 256 → EReal) (v : Fin 4096 → Fin 128 → EReal) (r : Fin 2048) (l : Fin 128) : EReal :=
  attn (fun d => mk q kk (base + r.1 / 512) ⟨r.1 / 512, by omega⟩ d ⟨r.1 % 512, Nat.mod_lt _ (by decide)⟩) v l

omit hinj in
theorem rows_eq (base : ℕ) (q : Fin 2048 → Fin 256 → EReal) (kk : Fin 4096 → Fin 256 → EReal) (v : Fin 4096 → Fin 128 → EReal) (o : Fin 2048 → Fin 128 → EReal) :
    putT (putT (putT (putT o 0 (base + 0) q kk v) 1 (base + 1) q kk v) 2 (base + 2) q kk v) 3 (base + 3) q kk v = rows base q kk v := by
  funext r l
  have hr := r.2
  have pick (sub : Fin 4) (hs : r.1 / 512 = sub.1) : attn (fun d => mk q kk (base + sub.1) sub d ⟨r.1 % 512, Nat.mod_lt _ (by decide)⟩) v l = rows base q kk v r l := by
    have e : sub = ⟨r.1 / 512, by omega⟩ := Fin.ext hs.symm
    rw [e]
    rfl
  unfold putT
  rcases (by omega : r.1 / 512 = 0 ∨ r.1 / 512 = 1 ∨ r.1 / 512 = 2 ∨ r.1 / 512 = 3) with e | e | e | e
  · exact (if_neg (by rw [e]; decide)).trans ((if_neg (by rw [e]; decide)).trans ((if_neg (by rw [e]; decide)).trans ((if_pos e).trans (pick 0 e))))
  · exact (if_neg (by rw [e]; decide)).trans ((if_neg (by rw [e]; decide)).trans ((if_pos e).trans (pick 1 e)))
  · exact (if_neg (by rw [e]; decide)).trans ((if_pos e).trans (pick 2 e))
  · exact (if_pos e).trans (pick 3 e)

/-- The first grid point of a sequence and a pair of heads. -/
theorem go_stepA (h : Abs A σ st)
    (hQ : ∀ σ' m a s, Next st.n st.k s → Abs A σ' { st with m := m, a := a, s := s, vt := vT st.v, vb := vB st.v, o := rows 0 st.q st.k st.v } → Q ⟨⟩ σ') :
    Go Q (stepA A.arg3 A.arg4 A.arg5 A.arg6 A.arg7 A.harg7 A.arg8 A.arg9 A.arg10 A.harg10 A.arg11 A.harg11 A.arg12) σ := by
  refine go_buildV hinj h _ fun σ1 h1 => go_diagB hinj h1 0 0 0 _ fun σ2 s2 hs2 _ h2 => go_upDiagB hinj st.q st.k h2 0 0 rfl rfl hs2 _ fun σ3 m3 a3 hacc3 h3 =>
    go_finB hinj h3 0 _ fun σ4 h4 => ?_
  have h4 := Eq.mp (congrArg (fun o => Abs A σ4 { st with m := m3, a := a3, s := s2, vt := vT st.v, vb := vB st.v, o := o }) (putO_eq hacc3 st.o)) h4
  refine go_diagB hinj h4 1 1 1 _ fun σ5 s5 hs5 _ h5 => go_tile hinj (v := st.v) h5 1 _ id (harmless_id hinj st.q st.n st.k 1) 0 (by decide) _ rfl rfl rfl rfl rfl hs5 fun σ6 m6 a6 s6 _ h6 => ?_
  refine go_diagB hinj h6 2 2 2 _ fun σ5 s5 hs5 _ h5 => go_tile hinj (v := st.v) h5 2 _ id (harmless_id hinj st.q st.n st.k 2) 1 (by decide) _ rfl rfl rfl rfl rfl hs5 fun σ6 m6 a6 s6 _ h6 => ?_
  refine go_diagB hinj h6 3 3 3 _ fun σ5 s5 hs5 _ h5 => go_tile hinj (v := st.v) h5 3 _ _ (harmless_next hinj st.q st.n st.k 3 (by decide)) 2 (by decide) _ rfl rfl rfl rfl rfl hs5 fun σ6 m6 a6 s6 hD h6 => ?_
  refine hQ σ6 m6 a6 s6 hD (Eq.mp (congrArg (fun o => Abs A σ6 { st with m := m6, a := a6, s := s6, vt := vT st.v, vb := vB st.v, o := o }) ?_) h6)
  exact rows_eq 0 st.q st.k st.v st.o

/-- The second, the first having laid the values out and left the first diagonal block. -/
theorem go_stepB (h : Abs A σ st) (hvt : st.vt = vT st.v) (hvb : st.vb = vB st.v) (hs : Next st.q st.k st.s)
    (hQ : ∀ σ' m a s, Abs A σ' { st with m := m, a := a, s := s, o := rows 4 st.q st.k st.v } → Q ⟨⟩ σ') :
    Go Q (stepB A.arg3 A.arg5 A.arg7 A.harg7 A.arg8 A.arg9 A.arg10 A.arg11 A.arg12) σ := by
  refine go_tile hinj (v := st.v) h 0 _ id (harmless_id hinj st.q st.n st.k 0) 3 (by decide) _ rfl rfl rfl hvt hvb hs fun σ6 m6 a6 s6 _ h6 => ?_
  refine go_diagB hinj h6 1 1 5 _ fun σ5 s5 hs5 _ h5 => go_tile hinj (v := st.v) h5 1 _ id (harmless_id hinj st.q st.n st.k 1) 4 (by decide) _ rfl rfl rfl hvt hvb hs5 fun σ6 m6 a6 s6 _ h6 => ?_
  refine go_diagB hinj h6 2 2 6 _ fun σ5 s5 hs5 _ h5 => go_tile hinj (v := st.v) h5 2 _ id (harmless_id hinj st.q st.n st.k 2) 5 (by decide) _ rfl rfl rfl hvt hvb hs5 fun σ6 m6 a6 s6 _ h6 => ?_
  refine go_diagB hinj h6 3 3 7 _ fun σ5 s5 hs5 _ h5 => go_tile hinj (v := st.v) h5 3 _ id (harmless_id hinj st.q st.n st.k 3) 6 (by decide) _ rfl rfl rfl hvt hvb hs5 fun σ6 m6 a6 s6 hD h6 => ?_
  refine hQ σ6 m6 a6 s6 (Eq.mp (congrArg (fun o => Abs A σ6 { st with m := m6, a := a6, s := s6, o := o }) ?_) h6)
  exact rows_eq 4 st.q st.k st.v st.o

end Tile

end Cert.AttnIdeal.Run

end
-- ==== Proof.Cells.lean ====
/- A straight run over buffers whose contents are known each by a property of its own. -/
module

public import proofs.«01_k».proof.Proof.Runs

@[expose] public section

noncomputable section

namespace Cert.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]
  {defs : Defs nD τ sig Val Λ} (𝒱 : Variants) (c : Thread nD τ) (bd : Option 𝒱.V) {Γ : PendingWaitsCtx sig Ix} (E : Set Name)
  {α : Type} {I : Type} [Fintype I] [DecidableEq I]
local notation "𝕄" => MT nD τ sig Ix Val Name U Lvl

theorem sep_insert {i : I} {s : Finset I} (h : i ∉ s) {Φ : I → sProp 𝕄} : bigSep (insert i s) Φ = iprop(Φ i ∗ bigSep s Φ) := bigSep_insert h

/-- Cells of different buffers are held at one assignment of contents. -/
theorem cells_in (refs : I → Ref sig c.2.kind) (hinj : Function.Injective refs) (σ₀ : Contents Val c sig)
    (K : (j : I) → Buf Val (c.loc (refs j)) → Prop) (s : Finset I) :
    (bigSep s fun j => (cell c (refs j) (K j) : sProp 𝕄))
      ⊢ iprop(∃ σ : Contents Val c sig, ⌜∀ j ∈ s, K j (σ (refs j))⌝ ∗ bigSep s fun j => (c.loc (refs j) ↦[Finset.univ]{fullShare} σ (refs j))) := by
  induction s using Finset.induction_on with
  | empty =>
    iintro H
    iexists σ₀
    isplitr
    · ipureintro; exact fun j hj => absurd hj (Finset.notMem_empty j)
    rw [bigSep_empty, bigSep_empty]
    exact .rfl
  | insert i s hi ih =>
    rw [sep_insert hi]
    unfold cell
    unfold cell at ih
    iintro ⟨⟨%f, %hf, Hf⟩, Hs⟩
    ihave Hs := ih $$ Hs
    icases Hs with ⟨%σ, %hσ, Hs⟩
    have e : (bigSep s fun j => (c.loc (refs j) ↦[Finset.univ]{fullShare} Function.update σ (refs i) f (refs j)) : sProp 𝕄)
        = bigSep s fun j => (c.loc (refs j) ↦[Finset.univ]{fullShare} σ (refs j)) :=
      bigSep_congr fun j hj => by rw [Function.update_of_ne (fun h => hi ((hinj h : j = i) ▸ hj))]
    iexists (Function.update σ (refs i) f)
    isplitr
    · ipureintro
      intro j hj
      rcases Finset.mem_insert.mp hj with rfl | hj
      · rw [Function.update_self]; exact hf
      · rw [Function.update_of_ne (fun h => hi ((hinj h : j = i) ▸ hj))]; exact hσ j hj
    rw [sep_insert hi, e, Function.update_self]
    isplitl [Hf]
    · iexact Hf
    iexact Hs

theorem cells_out (refs : I → Ref sig c.2.kind) (K : (j : I) → Buf Val (c.loc (refs j)) → Prop) (σ : Contents Val c sig) (hσ : ∀ j, K j (σ (refs j))) :
    (held c refs σ : sProp 𝕄) ⊢ bigSep Finset.univ fun j => cell c (refs j) (K j) :=
  bigSep_mono fun j _ => (show ((c.loc (refs j) ↦[Finset.univ]{fullShare} σ (refs j)) : sProp 𝕄) ⊢ cell c (refs j) (K j) from by
    unfold cell
    iintro H
    iexists (σ (refs j))
    isplitr
    · ipureintro; exact hσ j
    iexact H)

/-- A straight run takes what is known of the buffers before to what is known of them after. -/
theorem wp_cells (refs : I → Ref sig c.2.kind) (hinj : Function.Injective refs) (σ₀ : Contents Val c sig) (R W : Ref sig c.2.kind → Prop)
    (hR : ∀ b, R b → ∃ j, refs j = b) (hW : ∀ b, W b → ∃ j, refs j = b) (K K' : (j : I) → Buf Val (c.loc (refs j)) → Prop)
    (p : Prog (TpuEff nD τ sig Val Λ c.2) α) (hp : Walks R W p)
    (h : ∀ σ : Contents Val c sig, (∀ j, K j (σ (refs j))) → Runs c (fun _ σ' => ∀ j, K' j (σ' (refs j))) p σ) :
    (bigSep Finset.univ fun j => (cell c (refs j) (K j) : sProp 𝕄))
      ⊢ wp frame (wpE' defs 𝒱 c bd Γ) E p (fun _ => bigSep Finset.univ fun j => cell c (refs j) (K' j)) := by
  refine BIBase.Entails.trans (cells_in c refs hinj σ₀ K Finset.univ) ?_
  iintro ⟨%σ, %hσ, H⟩
  have run := wp_run (Ix := Ix) (Name := Name) (U := U) (Lvl := Lvl) (defs := defs) (Γ := Γ) 𝒱 c bd E refs hinj R W hR hW
    (fun _ σ' => ∀ j, K' j (σ' (refs j))) p hp σ (h σ fun j => hσ j (Finset.mem_univ j))
  unfold held at run
  iapply (wp_wand_r _ _ _)
  isplitl [H]
  · iapply run
    iexact H
  iintro %_ ⟨%σ', %hσ', H⟩
  iapply (cells_out c refs K' σ' hσ')
  unfold held
  iexact H

end Cert.Walk

end
-- ==== Proof.AttnBlk.lean ====
/- The attention's blocks at a grid point, read off its three arrays. -/
module

public import proofs.«01_k».proof.Proof.AttnTile
public import proofs.«01_k».proof.Proof.AttnIdealFrame
public import proofs.«01_k».proof.Proof.Cells
public import Idealize.ShloMosaic.Lib.Pointwise
public import Idealize.ShloMosaic.Lib.Pipeline.ValueKit

@[expose] public section

set_option maxRecDepth 16384

noncomputable section

namespace Cert.AttnIdeal.Run

open Idealize.ShloMosaic Idealize.ShloMosaic.TcCoe Idealize.SL.Sem
open Cert.AttnIdeal Cert.AttnIdeal.Gen Cert.Walk

variable (m : (ℓ : Loc nD τ sig) → Buf (Elt Ideal) ℓ)

abbrev arQ (c : Dev nD) : FVec Ideal S16384x1536 .bf16 := m ((c : Thread nD τ).loc main_arg0)
abbrev arK (c : Dev nD) : FVec Ideal S16384x1536 .bf16 := m ((c : Thread nD τ).loc main_arg1)
abbrev arV (c : Dev nD) : FVec Ideal S16384x768 .bf16 := m ((c : Thread nD τ).loc main_arg2)

theorem idx : ∀ t : Fin cfg0.N, win0_0.index t = ![t.val / 12 * 2 + t.val % 2, t.val / 2 % 6]
    ∧ win0_1.index t = ![t.val / 12 * 2 + 1, t.val / 2 % 6]
    ∧ win0_2.index t = ![t.val / 12, t.val / 2 % 6] ∧ win0_3.index t = ![t.val / 12, t.val / 2 % 6]
    ∧ win0_4.index t = ![t.val / 12 * 2 + t.val % 2, t.val / 2 % 6] :=
  (by decide +kernel : ∀ t : Fin grid0.N, _)

theorem conds : ∀ t : Fin cfg0.N, (t.val % 2 = 0 → k0_cond1 (grid0.coords t) = 1#1 ∧ ¬ k0_cond2 (grid0.coords t) = 1#1)
    ∧ (t.val % 2 = 1 → ¬ k0_cond1 (grid0.coords t) = 1#1 ∧ k0_cond2 (grid0.coords t) = 1#1) :=
  (by decide +kernel : ∀ t : Fin grid0.N, _)

theorem lt48 (t : Fin cfg0.N) : t.val < 48 := lt_of_lt_of_eq t.isLt (by decide +kernel)

theorem q_at (c : Dev nD) (t : Fin cfg0.N) (r : Fin 2048) (l : Fin 256) (R : Fin 16384) (C : Fin 1536)
    (hR : (t.val / 12 * 2 + t.val % 2) * 2048 + r.val = R.val) (hC : t.val / 2 % 6 * 256 + l.val = C.val) :
    (iblk m c 0 t : FVec Ideal S2048x256 .bf16) (ix2 r l) = arQ m c (ix2 R C) := by
  blk_simp [iblk]
  entry_read
  pointwise []
  blk_ext [idx t]
theorem n_at (c : Dev nD) (t : Fin cfg0.N) (r : Fin 2048) (l : Fin 256) (R : Fin 16384) (C : Fin 1536)
    (hR : (t.val / 12 * 2 + 1) * 2048 + r.val = R.val) (hC : t.val / 2 % 6 * 256 + l.val = C.val) :
    (iblk m c 1 t : FVec Ideal S2048x256 .bf16) (ix2 r l) = arQ m c (ix2 R C) := by
  blk_simp [iblk]
  entry_read
  pointwise []
  blk_ext [idx t]
theorem k_at (c : Dev nD) (t : Fin cfg0.N) (r : Fin 4096) (l : Fin 256) (R : Fin 16384) (C : Fin 1536)
    (hR : t.val / 12 * 4096 + r.val = R.val) (hC : t.val / 2 % 6 * 256 + l.val = C.val) :
    (iblk m c 2 t : FVec Ideal S4096x256 .bf16) (ix2 r l) = arK m c (ix2 R C) := by
  blk_simp [iblk]
  entry_read
  pointwise []
  blk_ext [idx t]
theorem v_at (c : Dev nD) (t : Fin cfg0.N) (r : Fin 4096) (l : Fin 128) (R : Fin 16384) (C : Fin 768)
    (hR : t.val / 12 * 4096 + r.val = R.val) (hC : t.val / 2 % 6 * 128 + l.val = C.val) :
    (iblk m c 3 t : FVec Ideal S4096x128 .bf16) (ix2 r l) = arV m c (ix2 R C) := by
  blk_simp [iblk]
  entry_read
  pointwise []
  blk_ext [idx t]

/-- The blocks by row and column. -/
def bq (c : Dev nD) (t : Fin cfg0.N) : Fin 2048 → Fin 256 → EReal := fun r l => (iblk m c 0 t : FVec Ideal S2048x256 .bf16) (ix2 r l)
def bn (c : Dev nD) (t : Fin cfg0.N) : Fin 2048 → Fin 256 → EReal := fun r l => (iblk m c 1 t : FVec Ideal S2048x256 .bf16) (ix2 r l)
def bk (c : Dev nD) (t : Fin cfg0.N) : Fin 4096 → Fin 256 → EReal := fun r l => (iblk m c 2 t : FVec Ideal S4096x256 .bf16) (ix2 r l)
def bv (c : Dev nD) (t : Fin cfg0.N) : Fin 4096 → Fin 128 → EReal := fun r l => (iblk m c 3 t : FVec Ideal S4096x128 .bf16) (ix2 r l)

/-- The next point's queries are the next queries; its keys and values the same. -/
theorem bn_next (c : Dev nD) (t t' : Fin cfg0.N) (h : t'.val = t.val + 1) (he : t.val % 2 = 0) : bn m c t = bq m c t' := by
  have h1 := lt48 t
  have h2 := lt48 t'
  funext r l
  exact (n_at m c t r l ⟨(t.val / 12 * 2 + 1) * 2048 + r.val, by omega⟩ ⟨t.val / 2 % 6 * 256 + l.val, by omega⟩ rfl rfl).trans
    (q_at m c t' r l _ _ (by show (t'.val / 12 * 2 + t'.val % 2) * 2048 + r.val = (t.val / 12 * 2 + 1) * 2048 + r.val; omega)
      (by show t'.val / 2 % 6 * 256 + l.val = t.val / 2 % 6 * 256 + l.val; omega)).symm
theorem bk_next (c : Dev nD) (t t' : Fin cfg0.N) (h : t'.val = t.val + 1) (he : t.val % 2 = 0) : bk m c t = bk m c t' := by
  have h1 := lt48 t
  have h2 := lt48 t'
  funext r l
  exact (k_at m c t r l ⟨t.val / 12 * 4096 + r.val, by omega⟩ ⟨t.val / 2 % 6 * 256 + l.val, by omega⟩ rfl rfl).trans
    (k_at m c t' r l _ _ (by show t'.val / 12 * 4096 + r.val = t.val / 12 * 4096 + r.val; omega)
      (by show t'.val / 2 % 6 * 256 + l.val = t.val / 2 % 6 * 256 + l.val; omega)).symm
theorem bv_next (c : Dev nD) (t t' : Fin cfg0.N) (h : t'.val = t.val + 1) (he : t.val % 2 = 0) : bv m c t = bv m c t' := by
  have h1 := lt48 t
  have h2 := lt48 t'
  funext r l
  exact (v_at m c t r l ⟨t.val / 12 * 4096 + r.val, by omega⟩ ⟨t.val / 2 % 6 * 128 + l.val, by omega⟩ rfl rfl).trans
    (v_at m c t' r l _ _ (by show t'.val / 12 * 4096 + r.val = t.val / 12 * 4096 + r.val; omega)
      (by show t'.val / 2 % 6 * 128 + l.val = t.val / 2 % 6 * 128 + l.val; omega)).symm

/-- What a point leaves in the output's block. -/
def outAt (c : Dev nD) (t : Fin cfg0.N) : Vec Ideal S2048x128 .bf16 :=
  fun i => rows (4 * (t.val % 2)) (bq m c t) (bk m c t) (bv m c t) (i 0) (i 1)

/-- The ten buffers at a point. -/
def argsAt (t : Fin cfg0.N) : Args where
  arg3 := st0_0 t
  arg4 := st0_1 t
  arg5 := st0_2 t
  arg6 := st0_3 t
  arg7 := st0_4 t
  arg8 := Memref.whole cc0_scratch0
  arg9 := Memref.whole cc0_scratch1
  arg10 := Memref.whole cc0_scratch2
  arg11 := Memref.whole cc0_scratch3
  arg12 := Memref.whole cc0_scratch4
  harg7 := hstage0_4 ((cfg0.slots t 4).cast nbuf0_4)
  harg10 := Memref.isWhole_whole _
  harg11 := Memref.isWhole_whole _

theorem refs_inj : ∀ t : Fin cfg0.N, Function.Injective (refsOf (argsAt t)) := by
  have h : ∀ a b c d e : Fin 2, Function.Injective (fun j : Fin 10 => match j with
    | 0 => (win0_0.stage (a.cast nbuf0_0.symm)).view.ref | 1 => (win0_1.stage (b.cast nbuf0_1.symm)).view.ref | 2 => (win0_2.stage (c.cast nbuf0_2.symm)).view.ref
    | 3 => (win0_3.stage (d.cast nbuf0_3.symm)).view.ref | 4 => (win0_4.stage (e.cast nbuf0_4.symm)).view.ref
    | 5 => (Memref.whole cc0_scratch0).view.ref | 6 => (Memref.whole cc0_scratch1).view.ref | 7 => (Memref.whole cc0_scratch2).view.ref
    | 8 => (Memref.whole cc0_scratch3).view.ref | 9 => (Memref.whole cc0_scratch4).view.ref) := by
    decide +kernel
  intro t
  exact h ((cfg0.slots t 0).cast nbuf0_0) ((cfg0.slots t 1).cast nbuf0_1) ((cfg0.slots t 2).cast nbuf0_2) ((cfg0.slots t 3).cast nbuf0_3) ((cfg0.slots t 4).cast nbuf0_4)

end Cert.AttnIdeal.Run

end
-- ==== Proof.AttnValue.lean ====
/- The attention's run with its values: what every grid point leaves in the output's block, and what the first point
   of a pair leaves the second. -/
module

public import proofs.«01_k».proof.Proof.AttnBlk

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Walk Cert.AttnIdeal.Gen

local notation "𝕄" => MT nD τ sig Unit (Elt Ideal) ℕ (UR sig nD τ) ℕ

variable (m : (ℓ : Loc nD τ sig) → Buf (Elt Ideal) ℓ) (ρ : Dev nD → PrngReg)

/-- What is known before point `t` of the value columns of the first head, -/
def carT (c : Dev nD) (t : ℕ) (f : Buf (Elt Ideal) ((c : Thread nD τ).loc (Memref.whole cc0_scratch2).view.ref)) : Prop :=
  ∀ h : t < cfg0.N, t % 2 = 1 → ∀ r l, (Memref.whole cc0_scratch2).view.read (Elt Ideal) f (ix2 r l) = vT (bv m c ⟨t, h⟩) r l
/-- of the second's, -/
def carB (c : Dev nD) (t : ℕ) (f : Buf (Elt Ideal) ((c : Thread nD τ).loc (Memref.whole cc0_scratch3).view.ref)) : Prop :=
  ∀ h : t < cfg0.N, t % 2 = 1 → ∀ r l, (Memref.whole cc0_scratch3).view.read (Elt Ideal) f (ix2 r l) = vB (bv m c ⟨t, h⟩) r l
/-- and of the logits. -/
def carS (c : Dev nD) (t : ℕ) (f : Buf (Elt Ideal) ((c : Thread nD τ).loc (Memref.whole cc0_scratch4).view.ref)) : Prop :=
  ∀ h : t < cfg0.N, t % 2 = 1 → Next (bq m c ⟨t, h⟩) (bk m c ⟨t, h⟩) fun a b d i j => (Memref.whole cc0_scratch4).view.read (Elt Ideal) f (ix5 a b d i j)

/-- The invariant before point `t`. -/
def inv (c : Dev nD) (t : ℕ) : sProp 𝕄 :=
  iprop((cell (c : Thread nD τ) (Memref.whole cc0_scratch0).view.ref (fun _ => True) ∗ cell (c : Thread nD τ) (Memref.whole cc0_scratch1).view.ref (fun _ => True)
      ∗ cell (c : Thread nD τ) (Memref.whole cc0_scratch2).view.ref (carT m c t) ∗ cell (c : Thread nD τ) (Memref.whole cc0_scratch3).view.ref (carB m c t)
      ∗ cell (c : Thread nD τ) (Memref.whole cc0_scratch4).view.ref (carS m c t))
    ∗ (∃ r, prngReg c r))

/-- The proof data. -/
def vals (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q w := Pipeline.shareOf spec0 w
  owed _ := 0

theorem vals_A (c : Dev nD) (w : Fin cfg0.W) : (vals m 0 c).A w = V m c (Pipeline.arrRef spec0 w) := by
  dsimp only [vals]

/-- Known of the ten buffers before a point, -/
def pre (c : Dev nD) (t : Fin cfg0.N) : (j : Fin 10) → Buf (Elt Ideal) ((c : Thread nD τ).loc (refsOf (argsAt t) j)) → Prop
  | 0 => fun f => (st0_0 t).view.read (Elt Ideal) f = iblk m c 0 t
  | 1 => fun f => (st0_1 t).view.read (Elt Ideal) f = iblk m c 1 t
  | 2 => fun f => (st0_2 t).view.read (Elt Ideal) f = iblk m c 2 t
  | 3 => fun f => (st0_3 t).view.read (Elt Ideal) f = iblk m c 3 t
  | 4 => fun _ => True | 5 => fun _ => True | 6 => fun _ => True
  | 7 => carT m c t.val | 8 => carB m c t.val | 9 => carS m c t.val
/-- and after it. -/
def post (c : Dev nD) (t : Fin cfg0.N) : (j : Fin 10) → Buf (Elt Ideal) ((c : Thread nD τ).loc (refsOf (argsAt t) j)) → Prop
  | 0 => fun f => (st0_0 t).view.read (Elt Ideal) f = iblk m c 0 t
  | 1 => fun f => (st0_1 t).view.read (Elt Ideal) f = iblk m c 1 t
  | 2 => fun f => (st0_2 t).view.read (Elt Ideal) f = iblk m c 2 t
  | 3 => fun f => (st0_3 t).view.read (Elt Ideal) f = iblk m c 3 t
  | 4 => fun f => (st0_4 t).view.read (Elt Ideal) f = outAt m c t
  | 5 => fun _ => True | 6 => fun _ => True
  | 7 => carT m c (t.val + 1) | 8 => carB m c (t.val + 1) | 9 => carS m c (t.val + 1)

/-- The contents a point begins with. -/
def stOf (c : Dev nD) (t : Fin cfg0.N) (σ : Mem c) : St where
  q := bq m c t
  n := bn m c t
  k := bk m c t
  v := bv m c t
  o r l := rd (c := (c : Thread nD τ)) (argsAt t).arg7 σ (ix2 r l)
  m a d i l := rd (c := (c : Thread nD τ)) (argsAt t).arg8 σ (ix4 a d i l)
  a a i l := rd (c := (c : Thread nD τ)) (argsAt t).arg9 σ (ix3 a i l)
  vt r l := rd (c := (c : Thread nD τ)) (argsAt t).arg10 σ (ix2 r l)
  vb r l := rd (c := (c : Thread nD τ)) (argsAt t).arg11 σ (ix2 r l)
  s a b d i j := rd (c := (c : Thread nD τ)) (argsAt t).arg12 σ (ix5 a b d i j)

theorem abs_of (c : Dev nD) (t : Fin cfg0.N) (σ : Mem c) (h : ∀ j, pre m c t j (σ (refsOf (argsAt t) j))) : Abs (argsAt t) σ (stOf m c t σ) where
  q r l := congrFun (h 0) _
  n r l := congrFun (h 1) _
  k r l := congrFun (h 2) _
  v r l := congrFun (h 3) _
  o _ _ := rfl
  m _ _ _ _ := rfl
  a _ _ _ := rfl
  vt _ _ := rfl
  vb _ _ := rfl
  s _ _ _ _ _ := rfl

theorem at_ix {n₁ n₂ : ℕ} {α : Type} {f g : Shape.Idx ⟨2, ![n₁, n₂]⟩ → α} (i : Shape.Idx ⟨2, ![n₁, n₂]⟩) (h : ∀ r l, f (ix2 r l) = g (ix2 r l)) : f i = g i := by
  rw [eq_ix2 i]
  exact h _ _

theorem post_of (c : Dev nD) (t : Fin cfg0.N) (σ : Mem c) (st : St) (h : Abs (argsAt t) σ st) (hq : st.q = bq m c t) (hn : st.n = bn m c t) (hk : st.k = bk m c t) (hv : st.v = bv m c t)
    (ho : st.o = rows (4 * (t.val % 2)) (bq m c t) (bk m c t) (bv m c t))
    (hc : t.val % 2 = 0 → st.vt = vT (bv m c t) ∧ st.vb = vB (bv m c t) ∧ Next (bn m c t) (bk m c t) st.s) :
    ∀ j, post m c t j (σ (refsOf (argsAt t) j))
  | 0 => funext fun i => at_ix i fun r l => (h.q r l).trans (congrFun (congrFun hq r) l)
  | 1 => funext fun i => at_ix i fun r l => (h.n r l).trans (congrFun (congrFun hn r) l)
  | 2 => funext fun i => at_ix i fun r l => (h.k r l).trans (congrFun (congrFun hk r) l)
  | 3 => funext fun i => at_ix i fun r l => (h.v r l).trans (congrFun (congrFun hv r) l)
  | 4 => funext fun i => at_ix i fun r l => (h.o r l).trans (congrFun (congrFun ho r) l)
  | 5 => trivial
  | 6 => trivial
  | 7 => fun ht h1 r l => (h.vt r l).trans (by rw [(hc (by omega)).1, bv_next m c t ⟨t.val + 1, ht⟩ rfl (by omega)])
  | 8 => fun ht h1 r l => (h.vb r l).trans (by rw [(hc (by omega)).2.1, bv_next m c t ⟨t.val + 1, ht⟩ rfl (by omega)])
  | 9 => fun ht h1 d i j hP => (h.s 0 2 d i j).trans (by
      rw [(hc (by omega)).2.2 d i j hP, bn_next m c t ⟨t.val + 1, ht⟩ rfl (by omega), bk_next m c t ⟨t.val + 1, ht⟩ rfl (by omega)])

theorem runs_point (c : Dev nD) (t : Fin cfg0.N) (σ : Mem c) (h : ∀ j, pre m c t j (σ (refsOf (argsAt t) j))) :
    Runs (c : Thread nD τ) (fun _ σ' => ∀ j, post m c t j (σ' (refsOf (argsAt t) j))) (bodyAt0 (F := Ideal) t) σ := by
  have ha := abs_of m c t σ h
  rcases Nat.mod_two_eq_zero_or_one t.val with e | e
  · have hc := (conds t).1 e
    unfold bodyAt0
    rw [body_A (h1 := hc.1) (h2 := hc.2)]
    refine go_stepA (A := argsAt t) (refs_inj t) ha fun σ' m' a' s' hs h' => post_of m c t σ' _ h' rfl rfl rfl rfl ?_ fun _ => ⟨rfl, rfl, hs⟩
    rw [e]
    rfl
  · have hc := (conds t).2 e
    unfold bodyAt0
    rw [body_B (h1 := hc.1) (h2 := hc.2)]
    have hvt : (stOf m c t σ).vt = vT (stOf m c t σ).v := by funext r l; exact h 7 t.isLt e r l
    have hvb : (stOf m c t σ).vb = vB (stOf m c t σ).v := by funext r l; exact h 8 t.isLt e r l
    have hs : Next (stOf m c t σ).q (stOf m c t σ).k (stOf m c t σ).s := h 9 t.isLt e
    have he : rows 4 (bq m c t) (bk m c t) (bv m c t) = rows (4 * (t.val % 2)) (bq m c t) (bk m c t) (bv m c t) := by rw [e]
    have go := go_stepB (A := argsAt t) (st := stOf m c t σ) (Q := fun _ σ' => ∀ j, post m c t j (σ' (refsOf (argsAt t) j))) (refs_inj t) ha hvt hvb hs fun σ' m' a' s' h' =>
      post_of m c t σ' _ h' rfl rfl rfl rfl he fun h0 => absurd (h0.symm.trans e) Nat.zero_ne_one
    exact go

end Cert.AttnIdeal.Run

end
-- ==== Proof.AttnRun.lean ====
/- The attention's run with its values, whole, and the array it leaves. -/
module

public import proofs.«01_k».proof.Proof.AttnValue

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Walk Cert.AttnIdeal.Gen

local notation "𝕄" => MT nD τ sig Unit (Elt Ideal) ℕ (UR sig nD τ) ℕ

variable (m : (ℓ : Loc nD τ sig) → Buf (Elt Ideal) ℓ) (ρ : Dev nD → PrngReg)

theorem pre_eq (c : Dev nD) (t : Fin cfg0.N) : (bigSep Finset.univ (fun j => cell (c : Thread nD τ) (refsOf (argsAt t) j) (pre m c t j)) : sProp 𝕄)
    = iprop(cell (c : Thread nD τ) (st0_0 t).view.ref (fun f => (st0_0 t).view.read (Elt Ideal) f = iblk m c 0 t)
      ∗ cell (c : Thread nD τ) (st0_1 t).view.ref (fun f => (st0_1 t).view.read (Elt Ideal) f = iblk m c 1 t)
      ∗ cell (c : Thread nD τ) (st0_2 t).view.ref (fun f => (st0_2 t).view.read (Elt Ideal) f = iblk m c 2 t)
      ∗ cell (c : Thread nD τ) (st0_3 t).view.ref (fun f => (st0_3 t).view.read (Elt Ideal) f = iblk m c 3 t)
      ∗ cell (c : Thread nD τ) (st0_4 t).view.ref (fun _ => True)
      ∗ cell (c : Thread nD τ) (Memref.whole cc0_scratch0).view.ref (fun _ => True) ∗ cell (c : Thread nD τ) (Memref.whole cc0_scratch1).view.ref (fun _ => True)
      ∗ cell (c : Thread nD τ) (Memref.whole cc0_scratch2).view.ref (carT m c t.val) ∗ cell (c : Thread nD τ) (Memref.whole cc0_scratch3).view.ref (carB m c t.val)
      ∗ cell (c : Thread nD τ) (Memref.whole cc0_scratch4).view.ref (carS m c t.val)) :=
  bigSep_univ_eq_bigSepL [(0 : Fin 10), 1, 2, 3, 4, 5, 6, 7, 8, 9] (by decide) (by decide) _

theorem post_eq (c : Dev nD) (t : Fin cfg0.N) : (bigSep Finset.univ (fun j => cell (c : Thread nD τ) (refsOf (argsAt t) j) (post m c t j)) : sProp 𝕄)
    = iprop(cell (c : Thread nD τ) (st0_0 t).view.ref (fun f => (st0_0 t).view.read (Elt Ideal) f = iblk m c 0 t)
      ∗ cell (c : Thread nD τ) (st0_1 t).view.ref (fun f => (st0_1 t).view.read (Elt Ideal) f = iblk m c 1 t)
      ∗ cell (c : Thread nD τ) (st0_2 t).view.ref (fun f => (st0_2 t).view.read (Elt Ideal) f = iblk m c 2 t)
      ∗ cell (c : Thread nD τ) (st0_3 t).view.ref (fun f => (st0_3 t).view.read (Elt Ideal) f = iblk m c 3 t)
      ∗ cell (c : Thread nD τ) (st0_4 t).view.ref (fun f => (st0_4 t).view.read (Elt Ideal) f = outAt m c t)
      ∗ cell (c : Thread nD τ) (Memref.whole cc0_scratch0).view.ref (fun _ => True) ∗ cell (c : Thread nD τ) (Memref.whole cc0_scratch1).view.ref (fun _ => True)
      ∗ cell (c : Thread nD τ) (Memref.whole cc0_scratch2).view.ref (carT m c (t.val + 1)) ∗ cell (c : Thread nD τ) (Memref.whole cc0_scratch3).view.ref (carB m c (t.val + 1))
      ∗ cell (c : Thread nD τ) (Memref.whole cc0_scratch4).view.ref (carS m c (t.val + 1))) :=
  bigSep_univ_eq_bigSepL [(0 : Fin 10), 1, 2, 3, 4, 5, 6, 7, 8, 9] (by decide) (by decide) _

/-- The body, its ten buffers' contents known. -/
theorem body_value (c : Dev nD) (t : Fin cfg0.N) :
    (bigSep Finset.univ (fun j => cell (c : Thread nD τ) (refsOf (argsAt t) j) (pre m c t j)) : sProp 𝕄)
      ⊢ wp frame (wpE (defs₀ (F := Ideal)) Variants.none (c : Thread nD τ) none) Set.univ (bodyAt0 (F := Ideal) t)
          (fun _ => bigSep Finset.univ fun j => cell (c : Thread nD τ) (refsOf (argsAt t) j) (post m c t j)) :=
  wp_cells Variants.none (c : Thread nD τ) none Set.univ (refsOf (argsAt t)) (refs_inj t) (fun b => m ((c : Thread nD τ).loc b))
    (fun b => ∃ j, refsOf (argsAt t) j = b) (fun b => ∃ j, refsOf (argsAt t) j = b) (fun _ h => h) (fun _ h => h)
    (pre m c t) (post m c t) (bodyAt0 (F := Ideal) t)
    (walk ⟨⟨0, rfl⟩, ⟨1, rfl⟩, ⟨2, rfl⟩, ⟨3, rfl⟩, ⟨4, rfl⟩, ⟨5, rfl⟩, ⟨6, rfl⟩, ⟨7, rfl⟩, ⟨8, rfl⟩, ⟨9, rfl⟩,
      ⟨4, rfl⟩, ⟨5, rfl⟩, ⟨6, rfl⟩, ⟨7, rfl⟩, ⟨8, rfl⟩, ⟨9, rfl⟩⟩)
    (runs_point m c t)

/-- What the body is called with at point `t`, the windows one by one, -/
def valPre (c : Dev nD) (t : Fin cfg0.N) : sProp 𝕄 :=
  iprop((vals m 0 c).Φ t.castSucc ∗ (vals m 0 c).owesAt () t.castSucc
    ∗ (∃ d, owns (c : Thread nD τ) (st0_0 t) fullShare ((vals m 0 c).before 0 t d))
    ∗ (∃ d, owns (c : Thread nD τ) (st0_1 t) fullShare ((vals m 0 c).before 1 t d))
    ∗ (∃ d, owns (c : Thread nD τ) (st0_2 t) fullShare ((vals m 0 c).before 2 t d))
    ∗ (∃ d, owns (c : Thread nD τ) (st0_3 t) fullShare ((vals m 0 c).before 3 t d))
    ∗ (∃ d, owns (c : Thread nD τ) (st0_4 t) fullShare ((vals m 0 c).before 4 t d)))

/-- and what it returns. -/
def valPost (c : Dev nD) (t : Fin cfg0.N) : sProp 𝕄 :=
  iprop((vals m 0 c).Φ t.succ ∗ (vals m 0 c).owesAt () t.succ
    ∗ owns (c : Thread nD τ) (st0_0 t) fullShare ((vals m 0 c).after 0 t)
    ∗ owns (c : Thread nD τ) (st0_1 t) fullShare ((vals m 0 c).after 1 t)
    ∗ owns (c : Thread nD τ) (st0_2 t) fullShare ((vals m 0 c).after 2 t)
    ∗ owns (c : Thread nD τ) (st0_3 t) fullShare ((vals m 0 c).after 3 t)
    ∗ owns (c : Thread nD τ) (st0_4 t) fullShare ((vals m 0 c).after 4 t))

theorem val_body (c : Dev nD) (t : Fin cfg0.N) :
    valPre m c t ⊢ wp frame (wpE (defs₀ (F := Ideal)) Variants.none (c : Thread nD τ) none) Set.univ (bodyAt0 (F := Ideal) t) (fun _ => valPost m c t) := by
  have h := body_value m c t
  rw [pre_eq, post_eq] at h
  unfold valPre valPost
  rw [show (vals m 0 c).Φ t.castSucc = inv m c t.val from rfl, show (vals m 0 c).Φ t.succ = inv m c (t.val + 1) from rfl]
  rw [show (vals m 0 c).after 0 t = iblk m c 0 t from rfl, show (vals m 0 c).after 1 t = iblk m c 1 t from rfl,
    show (vals m 0 c).after 2 t = iblk m c 2 t from rfl, show (vals m 0 c).after 3 t = iblk m c 3 t from rfl,
    show (vals m 0 c).after 4 t = outAt m c t from rfl]
  simp only [before0_0_of m (vals m 0 c) (vals_A m c 0) (fun _ => rfl), before0_1_of m (vals m 0 c) (vals_A m c 1) (fun _ => rfl),
    before0_2_of m (vals m 0 c) (vals_A m c 2) (fun _ => rfl), before0_3_of m (vals m 0 c) (vals_A m c 3) (fun _ => rfl)]
  rw [owns_cell c (st0_0 t) (hstage0_0 ((cfg0.slots t 0).cast nbuf0_0)), owns_cell c (st0_1 t) (hstage0_1 ((cfg0.slots t 1).cast nbuf0_1)),
    owns_cell c (st0_2 t) (hstage0_2 ((cfg0.slots t 2).cast nbuf0_2)), owns_cell c (st0_3 t) (hstage0_3 ((cfg0.slots t 3).cast nbuf0_3)),
    owns_cell c (st0_4 t) (hstage0_4 ((cfg0.slots t 4).cast nbuf0_4)) (outAt m c t)]
  unfold inv
  iintro ⟨⟨⟨S0, S1, S2, S3, S4⟩, Hg⟩, Ho, ⟨%d0, H0⟩, ⟨%d1, H1⟩, ⟨%d2, H2⟩, ⟨%d3, H3⟩, ⟨%d4, H4⟩⟩
  ihave H4 := (some_in c (st0_4 t) (hstage0_4 ((cfg0.slots t 4).cast nbuf0_4))) $$ [H4]
  · iexists _
    iexact H4
  iapply (wp_wand_r _ _ _)
  isplitl [H0 H1 H2 H3 H4 S0 S1 S2 S3 S4]
  · iapply h
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iexact S4
  iintro %_ ⟨H0, H1, H2, H3, H4, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]
  · iexact Ho
  isplitl [H0]; · iexact H0
  isplitl [H1]; · iexact H1
  isplitl [H2]; · iexact H2
  isplitl [H3]; · iexact H3
  iexact H4

/-- Every point stores to the output's block. -/
theorem stored : ∀ t : Fin cfg0.N, cfg0.idle 4 (cfg0.grid.coords t) = false :=
  (by decide +kernel : ∀ t : Fin grid0.N, _)

theorem val_obligation (c : Dev nD) :
    BodyObligation (vals m 0 c) (defs₀ (F := Ideal)) Variants.none () Set.univ := fun t => by
  rw [bigSep_W0, bigSep_W0, body_row, stored t]
  exact triple_restated (val_body m c t) rfl .rfl fun _ => .rfl

/-- A buffer's known contents may be forgotten. -/
theorem cell_weak (c : Dev nD) (b : Ref sig .tc) (P P' : Buf (Elt Ideal) ((c : Thread nD τ).loc b) → Prop) (h : ∀ f, P f → P' f) :
    (cell (c : Thread nD τ) b P : sProp 𝕄) ⊢ cell (c : Thread nD τ) b P' := by
  unfold cell
  iintro ⟨%f, %hf, H⟩
  iexists f
  isplitr
  · ipureintro; exact h f hf
  iexact H

/-- Before the first point nothing need be known, -/
theorem inv_in (c : Dev nD) : (Pipeline.ΦA spec0 c : sProp 𝕄) ⊢ (vals m 0 c).Φ 0 := by
  rw [show (vals m 0 c).Φ 0 = inv m c 0 from rfl, inv_eq]
  unfold inv
  iintro ⟨⟨S0, S1, S2, S3, S4⟩, Hg⟩
  isplitr [Hg]
  · isplitl [S0]
    · iapply (scr_in c _); iexact S0
    isplitl [S1]
    · iapply (scr_in c _); iexact S1
    isplitl [S2]
    · iapply (cell_weak c _ _ _ fun f _ => (fun _ h1 => absurd h1 (by decide) : carT m c 0 f))
      iapply (scr_in c _); iexact S2
    isplitl [S3]
    · iapply (cell_weak c _ _ _ fun f _ => (fun _ h1 => absurd h1 (by decide) : carB m c 0 f))
      iapply (scr_in c _); iexact S3
    iapply (cell_weak c _ _ _ fun f _ => (fun _ h1 => absurd h1 (by decide) : carS m c 0 f))
    iapply (scr_in c _); iexact S4
  iexact Hg

/-- and after the last nothing is. -/
theorem inv_out (c : Dev nD) : (vals m 0 c).Φ (Fin.last cfg0.N) ⊢ (Pipeline.ΦA spec0 c : sProp 𝕄) := by
  rw [show (vals m 0 c).Φ (Fin.last cfg0.N) = inv m c cfg0.N from rfl, inv_eq]
  unfold inv
  iintro ⟨⟨S0, S1, S2, S3, S4⟩, Hg⟩
  isplitr [Hg]
  · isplitl [S0]
    · iapply (scr_out c _); iexact S0
    isplitl [S1]
    · iapply (scr_out c _); iexact S1
    isplitl [S2]
    · iapply (scr_out c _); iapply (cell_weak c _ _ _ fun f _ => trivial); iexact S2
    isplitl [S3]
    · iapply (scr_out c _); iapply (cell_weak c _ _ _ fun f _ => trivial); iexact S3
    iapply (scr_out c _); iapply (cell_weak c _ _ _ fun f _ => trivial); iexact S4
  iexact Hg

set_option backward.isDefEq.respectTransparency.types false in
theorem run_value : θ_run defs (onTc (τ := τ) (main (F := Ideal))) (s₀ m ρ) (Pipeline.FramePost cfgs (vals m) 0 (V m)) :=
  Pipeline.θ_run_frame_track_shared cfgs (vals m) (0 : Fin 1) launch₀0 defs₀ Variants.none m ρ main
    (hbody := fun c => (val_obligation m c).loose) (hq := fun _ _ _ => rfl)
    (howed := fun _ _ => rfl) (V := V m) (hmain := hmain m Variants.none) (hA := vals_A m) (hin := inv_in m) (hout := inv_out m)

/-- The logits of query row `R` for head `h`: its dot products with the keys of its sequence, minus infinity after itself. -/
def sco (Q K : Fin 16384 → Fin 1536 → EReal) (R : Fin 16384) (h : Fin 12) (j : Fin 4096) : EReal :=
  if j.1 ≤ R.1 % 4096 then ∑ l : Fin 128, Q R ⟨128 * h.1 + l.1, by omega⟩ * K ⟨R.1 / 4096 * 4096 + j.1, by omega⟩ ⟨128 * h.1 + l.1, by omega⟩ else ⊥

/-- The attention at row `R` and column `C`. -/
def att (Q K : Fin 16384 → Fin 1536 → EReal) (W : Fin 16384 → Fin 768 → EReal) (R : Fin 16384) (C : Fin 768) : EReal :=
  Ideal.div (wsum Finset.univ (sco Q K R ⟨C.1 / 64, by omega⟩) fun j => W ⟨R.1 / 4096 * 4096 + j.1, by omega⟩ C)
    (wsum Finset.univ (sco Q K R ⟨C.1 / 64, by omega⟩) fun _ => 1)

/-- A point's logits are those of its rows. -/
theorem sco_at (c : Dev nD) (t : Fin cfg0.N) (y : Fin 2048) (d : Fin 2) (R : Fin 16384) (h : Fin 12)
    (hR : (t.val / 12 * 2 + t.val % 2) * 2048 + y.val = R.val) (hh : h.val = t.val / 2 % 6 * 2 + d.val) (j : Fin 4096) :
    mk (bq m c t) (bk m c t) (4 * (t.val % 2) + y.val / 512) ⟨y.val / 512, by omega⟩ d ⟨y.val % 512, Nat.mod_lt _ (by decide)⟩ j
      = sco (fun r l => arQ m c (ix2 r l)) (fun r l => arK m c (ix2 r l)) R h j := by
  have ht := lt48 t
  unfold mk sco
  refine if_congr (show j.1 ≤ 512 * (4 * (t.val % 2) + y.val / 512) + y.val % 512 ↔ j.1 ≤ R.1 % 4096 by omega) (Finset.sum_congr rfl fun l _ => congrArg₂ (· * ·) ?_ ?_) rfl
  · exact q_at m c t _ _ _ _ (show (t.val / 12 * 2 + t.val % 2) * 2048 + (512 * (y.val / 512) + y.val % 512) = R.val by omega)
      (show t.val / 2 % 6 * 256 + (128 * d.val + l.val) = 128 * h.val + l.val by omega)
  · exact k_at m c t _ _ _ _ (show t.val / 12 * 4096 + j.val = R.val / 4096 * 4096 + j.val by omega)
      (show t.val / 2 % 6 * 256 + (128 * d.val + l.val) = 128 * h.val + l.val by omega)

theorem out_point (c : Dev nD) (t : Fin cfg0.N) (y : Fin 2048) (l : Fin 128) (R : Fin 16384) (C : Fin 768)
    (hR : (t.val / 12 * 2 + t.val % 2) * 2048 + y.val = R.val) (hC : t.val / 2 % 6 * 128 + l.val = C.val) :
    outAt m c t (ix2 y l) = att (fun r l => arQ m c (ix2 r l)) (fun r l => arK m c (ix2 r l)) (fun r l => arV m c (ix2 r l)) R C := by
  have ht := lt48 t
  have hv : (fun j => bv m c t j l) = fun j : Fin 4096 => arV m c (ix2 ⟨R.1 / 4096 * 4096 + j.1, by omega⟩ C) := by
    funext j
    exact v_at m c t j l _ _ (show t.val / 12 * 4096 + j.val = R.val / 4096 * 4096 + j.val by omega) hC
  show attn (fun d => mk (bq m c t) (bk m c t) (4 * (t.val % 2) + y.val / 512) ⟨y.val / 512, by omega⟩ d ⟨y.val % 512, Nat.mod_lt _ (by decide)⟩) (bv m c t) l = _
  unfold attn att
  rw [hv]
  by_cases h : l.1 < 64
  · rw [if_pos h]
    exact congrArg (fun s => Ideal.div (wsum Finset.univ s fun j : Fin 4096 => arV m c (ix2 ⟨R.1 / 4096 * 4096 + j.1, by omega⟩ C)) (wsum Finset.univ s fun _ => 1))
      (funext fun j => sco_at m c t y 0 R ⟨C.1 / 64, by omega⟩ hR (show C.1 / 64 = t.val / 2 % 6 * 2 + 0 by omega) j)
  · rw [if_neg h]
    exact congrArg (fun s => Ideal.div (wsum Finset.univ s fun j : Fin 4096 => arV m c (ix2 ⟨R.1 / 4096 * 4096 + j.1, by omega⟩ C)) (wsum Finset.univ s fun _ => 1))
      (funext fun j => sco_at m c t y 1 R ⟨C.1 / 64, by omega⟩ hR (show C.1 / 64 = t.val / 2 % 6 * 2 + 1 by omega) j)

/-- The array the run leaves, at a row and a column. -/
theorem final (c : Dev nD) : (vals m 0 c).arrAt 4 (cfgs 0).N
    = fun i : S16384x768.Idx => att (fun r l => arQ m c (ix2 r l)) (fun r l => arK m c (ix2 r l)) (fun r l => arV m c (ix2 r l)) (i 0) (i 1) := by
  refine (vals m 0 c).arrAt_eq_of_covers 4 _ (by decide +kernel) fun t _ y => ?_
  blk_simp [idx t]
  rw [show (vals m 0 c).after 4 t = outAt m c t from rfl]
  idx_vars y
  refine out_point m c t y0 y1 _ _ ?_ ?_
  all_goals blk_simp [idx t]

end Cert.AttnIdeal.Run

end
-- ==== Proof.Soft.lean ====
/- A softmax with the natural exponential of logits times the logarithm of two, summed against weights, is the quotient of the
   two weighted sums in base two, where the logits are real or minus infinity and one of them is real. -/
module

public import proofs.«01_k».proof.Proof.AttnSum

@[expose] public section

noncomputable section

namespace Cert.AttnIdeal.Run

open Idealize.ShloMosaic

variable {n : ℕ}

/-- A finite sum of reals is the real of the sum. -/
theorem coe_sum {ι : Type} (S : Finset ι) (f : ι → ℝ) : ∑ j ∈ S, ((f j : ℝ) : EReal) = ((∑ j ∈ S, f j : ℝ) : EReal) := by
  classical
  induction S using Finset.induction_on with
  | empty => simp
  | insert a S h ih => rw [Finset.sum_insert h, Finset.sum_insert h, ih, EReal.coe_add]

theorem exp_scaled (x : EReal) (r : ℝ) (hx : x ≠ ⊤) :
    Ideal.exp (x * ((Real.log 2 : ℝ) : EReal) - (r : EReal) * ((Real.log 2 : ℝ) : EReal)) = Ideal.exp2 (x - r) := by
  have h2 : (0 : ℝ) < Real.log 2 := Real.log_pos (by norm_num)
  induction x with
  | bot =>
    rw [EReal.bot_mul_coe_of_pos h2, ← EReal.coe_mul, EReal.bot_sub, EReal.bot_sub]
    rfl
  | top => exact absurd rfl hx
  | coe a =>
    rw [← EReal.coe_mul, ← EReal.coe_mul, ← EReal.coe_sub, ← EReal.coe_sub]
    show ((Real.exp (a * Real.log 2 - r * Real.log 2) : ℝ) : EReal) = ((Real.rpow 2 (a - r) : ℝ) : EReal)
    refine congrArg _ ?_
    show _ = (2 : ℝ) ^ (a - r)
    rw [Real.rpow_def_of_pos (by norm_num), show a * Real.log 2 - r * Real.log 2 = Real.log 2 * (a - r) by ring]

/-- The largest logit, scaled, is the largest of the scaled logits. -/
theorem sup_scaled (s : Fin n → EReal) (h : Fin n) :
    (Finset.univ.sup fun k => s k * ((Real.log 2 : ℝ) : EReal)) = Finset.univ.sup s * ((Real.log 2 : ℝ) : EReal) := by
  have h2 : (0 : EReal) ≤ ((Real.log 2 : ℝ) : EReal) := EReal.coe_nonneg.2 (Real.log_nonneg (by norm_num))
  obtain ⟨j, _, hj⟩ := Finset.exists_mem_eq_sup Finset.univ ⟨h, Finset.mem_univ _⟩ s
  refine le_antisymm (Finset.sup_le fun k hk => mul_le_mul_of_nonneg_right (Finset.le_sup (f := s) hk) h2) ?_
  rw [hj]
  exact Finset.le_sup (f := fun k => s k * ((Real.log 2 : ℝ) : EReal)) (Finset.mem_univ j)

/-- A softmax summed against weights. -/
def softSum (t w : Fin n → EReal) : EReal :=
  ∑ k, w k * Ideal.div (Ideal.exp (t k - Finset.univ.sup t)) (∑ j, Ideal.exp (t j - Finset.univ.sup t))

theorem soft (s w : Fin n → EReal) (hs : ∀ j, s j ≠ ⊤) (i : Fin n) (hi : s i ≠ ⊥) :
    softSum (fun k => s k * ((Real.log 2 : ℝ) : EReal)) w = Ideal.div (wsum Finset.univ s w) (wsum Finset.univ s fun _ => 1) := by
  obtain ⟨j, _, hj⟩ := Finset.exists_mem_eq_sup Finset.univ ⟨i, Finset.mem_univ _⟩ s
  have hb : Finset.univ.sup s ≠ ⊥ := fun h => hi (le_bot_iff.1 (h ▸ Finset.le_sup (f := s) (Finset.mem_univ i)))
  have ht : Finset.univ.sup s ≠ ⊤ := hj ▸ hs j
  obtain ⟨r, hr⟩ : ∃ r : ℝ, Finset.univ.sup s = r := ⟨_, (EReal.coe_toReal ht hb).symm⟩
  unfold softSum wsum
  rw [sup_scaled s i, hr]
  simp only [fun k => exp_scaled (s k) r (hs k), mul_one]
  have he : ∀ k, ∃ e : ℝ, 0 ≤ e ∧ Ideal.exp2 (s k - r) = e := fun k => by
    have h0 := exp2_nonneg (s k - r)
    have h1 : Ideal.exp2 (s k - r) ≠ ⊤ := exp2_sub_ne_top (hr ▸ Finset.le_sup (f := s) (Finset.mem_univ k))
    have h2 : Ideal.exp2 (s k - r) ≠ ⊥ := fun h => absurd (h ▸ h0) (by decide)
    refine ⟨_, EReal.toReal_nonneg h0, (EReal.coe_toReal h1 h2).symm⟩
  choose e e0 he using he
  simp only [he]
  rw [coe_sum]
  have hj1 : e j = 1 := by
    have h := he j
    rw [← hj, hr, ← EReal.coe_sub, sub_self] at h
    have h' : ((Real.rpow 2 0 : ℝ) : EReal) = e j := h
    have h'' := EReal.coe_injective h'
    rw [← h'']
    exact Real.rpow_zero 2
  have hpos : 0 < ∑ k, e k := lt_of_lt_of_le (by rw [hj1]; norm_num) (Finset.single_le_sum (f := e) (fun k _ => e0 k) (Finset.mem_univ j))
  have hne : ((∑ k, e k : ℝ) : EReal) ≠ 0 := fun h => hpos.ne' (EReal.coe_eq_zero.1 h)
  have hd : ∀ x : EReal, Ideal.div x ((∑ k, e k : ℝ) : EReal) = (((∑ k, e k)⁻¹ : ℝ) : EReal) * x := fun x => by
    unfold Ideal.div
    rw [if_neg hne, mul_comm, EReal.coe_inv]
  simp only [hd]
  rw [mul_sum_nonneg (EReal.coe_nonneg.2 (inv_nonneg.2 hpos.le)) (EReal.coe_ne_top _)]
  refine Finset.sum_congr rfl fun k _ => ?_
  rw [mul_left_comm, mul_comm (w k)]

/-- A sum of products of finite numbers is finite. -/
theorem dot_finite {ι : Type} (S : Finset ι) (f g : ι → EReal) (hf : ∀ l, f l ≠ ⊤ ∧ f l ≠ ⊥) (hg : ∀ l, g l ≠ ⊤ ∧ g l ≠ ⊥) :
    ∑ l ∈ S, f l * g l ≠ ⊤ ∧ ∑ l ∈ S, f l * g l ≠ ⊥ := by
  have h : ∑ l ∈ S, f l * g l = ((∑ l ∈ S, (f l).toReal * (g l).toReal : ℝ) : EReal) := by
    rw [← coe_sum]
    refine Finset.sum_congr rfl fun l _ => ?_
    rw [EReal.coe_mul, EReal.coe_toReal (hf l).1 (hf l).2, EReal.coe_toReal (hg l).1 (hg l).2]
  rw [h]
  exact ⟨EReal.coe_ne_top _, EReal.coe_ne_bot _⟩

end Cert.AttnIdeal.Run

end
-- ==== Proof.AttnRef.lean ====
/- The plain attention's result, read at a row and a column, is the attention of `AttnRun`. Its term is folded stage by stage. -/
module

public import proofs.«01_k».proof.Proof.Gen.AttnReferenceIdeal.Run
public import proofs.«01_k».proof.Proof.AttnRun
public import proofs.«01_k».proof.Proof.Soft
public import Idealize.ShloMosaic.Lib.Pointwise

@[expose] public section

set_option maxRecDepth 16384

noncomputable section

namespace Cert.AttnReferenceIdeal.Val

open Idealize.ShloMosaic Idealize.ShloMosaic.TcCoe Idealize.SL.Sem
open Cert.AttnReferenceIdeal Cert.AttnReferenceIdeal.Gen Cert.AttnIdeal.Run

/-- The logits, minus infinity at the keys after the query. -/
def LOGITS (Q K : FVec Ideal S16384x1536 .bf16) : FVec Ideal S4x12x4096x4096 .f32 :=
  select (broadcastInDim S4x12x4096x4096 ![2, 3] bcast_S4096x4096_S4x12x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
    (mulf (Host.dotGeneral dot_S4x4096x12x128_S4x4096x12x128_S4x12x4096x4096_3_3_1_1_02_02 none (shapeCast _ Q shapeCasts_S16384x1536_S4x4096x12x128) (shapeCast _ K shapeCasts_S16384x1536_S4x4096x12x128)) (broadcastInDim S4x12x4096x4096 ![] bcast_S_S4x12x4096x4096 (id (Host.log (constant S_ .f32 0x40000000#32)))))
    (broadcastInDim S4x12x4096x4096 ![] bcast_S_S4x12x4096x4096 (id (constant S_ .f32 0xFF800000#32)))

/-- The largest logit of each row. -/
def TOP (L : FVec Ideal S4x12x4096x4096 .f32) : FVec Ideal S4x12x4096 .f32 :=
  Host.reduce FloatOps.maximumf L (constant S_ .f32 0xFF800000#32) reducesTo_S4x12x4096x4096_S4x12x4096_d3 h_S_

/-- The exponentials of the logits less the largest of their row. -/
def EXPS (L : FVec Ideal S4x12x4096x4096 .f32) (T : FVec Ideal S4x12x4096 .f32) : FVec Ideal S4x12x4096x4096 .f32 :=
  Host.exp (subf L (broadcastInDim S4x12x4096x4096 ![0, 1, 2, 3] bcast_S4x12x4096x1_S4x12x4096x4096_0_1_2_3 (broadcastInDim S4x12x4096x1 ![0, 1, 2] bcast_S4x12x4096_S4x12x4096x1_0_1_2 (maximumf (broadcastInDim S4x12x4096 ![] bcast_S_S4x12x4096 (constant S_ .f32 0xFF800000#32)) T))))

/-- The shares of a row's exponentials in their sum. -/
def PROBS (E : FVec Ideal S4x12x4096x4096 .f32) : FVec Ideal S4x12x4096x4096 .bf16 :=
  truncf .bf16 (Host.divf E (broadcastInDim S4x12x4096x4096 ![0, 1, 2, 3] bcast_S4x12x4096x1_S4x12x4096x4096_0_1_2_3 (broadcastInDim S4x12x4096x1 ![0, 1, 2] bcast_S4x12x4096_S4x12x4096x1_0_1_2 (Host.reduceAdd E (constant S_ .f32 0x00000000#32) reducesTo_S4x12x4096x4096_S4x12x4096_d3 h_S_)))) bitsLt_bf16_f32

/-- The values weighted, as whole rows. -/
def MIX (P : FVec Ideal S4x12x4096x4096 .bf16) (W : FVec Ideal S16384x768 .bf16) : FVec Ideal S16384x768 .bf16 :=
  truncf .bf16 (shapeCast _ (transpose S4x4096x12x64 [0, 3, 1, 2] (Host.dotGeneral dot_S4x4096x12x64_S4x12x4096x4096_S4x12x64x4096_1_3_3_2_02_01 none (shapeCast _ W shapeCasts_S16384x768_S4x4096x12x64) P) transposes_S4x12x64x4096_S4x4096x12x64_0_3_1_2) shapeCasts_S4x4096x12x64_S16384x768) bitsLt_bf16_f32

/-- The whole result. -/
def OUT (Q K : FVec Ideal S16384x1536 .bf16) (W : FVec Ideal S16384x768 .bf16) : FVec Ideal S16384x768 .bf16 :=
  MIX (PROBS (EXPS (LOGITS Q K) (TOP (LOGITS Q K)))) W

theorem top_at (L : FVec Ideal S4x12x4096x4096 .f32) (b : Fin 4) (h : Fin 12) (q : Fin 4096) :
    TOP L (ix3 b h q) = Finset.univ.sup fun j : Fin 4096 => L (ix4 b h q j) := by
  unfold TOP
  simp only [pointwise]
  exact congrArg (fun z => Finset.univ.fold max z fun j : Fin 4096 => L (ix4 b h q j)) word_bot

theorem exps_top (L : FVec Ideal S4x12x4096x4096 .f32) (T : FVec Ideal S4x12x4096 .f32) (b : Fin 4) (h : Fin 12) (q k : Fin 4096) :
    EXPS L T (ix4 b h q k) = Ideal.exp (L (ix4 b h q k) - max (Ideal.ofBits FTy.f32 0xFF800000#32) (T (ix3 b h q))) := by
  pointwise [EXPS]

theorem exps_at (L : FVec Ideal S4x12x4096x4096 .f32) (b : Fin 4) (h : Fin 12) (q k : Fin 4096) :
    EXPS L (TOP L) (ix4 b h q k) = Ideal.exp (L (ix4 b h q k) - Finset.univ.sup fun j : Fin 4096 => L (ix4 b h q j)) :=
  (exps_top L (TOP L) b h q k).trans
    (congrArg (fun z => Ideal.exp (L (ix4 b h q k) - z)) ((congrArg₂ max word_bot (top_at L b h q)).trans (bot_sup_eq _)))

theorem probs_at (E : FVec Ideal S4x12x4096x4096 .f32) (b : Fin 4) (h : Fin 12) (q k : Fin 4096) :
    PROBS E (ix4 b h q k) = Ideal.div (E (ix4 b h q k)) (∑ j : Fin 4096, E (ix4 b h q j)) := by
  pointwise [PROBS]

theorem mix_at (P : FVec Ideal S4x12x4096x4096 .bf16) (W : FVec Ideal S16384x768 .bf16) (R : Fin 16384) (C : Fin 768) :
    MIX P W (ix2 R C) = ∑ k : Fin 4096, W (ix2 ⟨R.1 / 4096 * 4096 + k.1, by omega⟩ C)
      * P (ix4 ⟨R.1 / 4096, by omega⟩ ⟨C.1 / 64, by omega⟩ ⟨R.1 % 4096, by omega⟩ k) := by
  pointwise [MIX]

theorem out_soft (Q K : FVec Ideal S16384x1536 .bf16) (W : FVec Ideal S16384x768 .bf16) (R : Fin 16384) (C : Fin 768) :
    OUT Q K W (ix2 R C) = softSum (fun k : Fin 4096 => LOGITS Q K (ix4 ⟨R.1 / 4096, by omega⟩ ⟨C.1 / 64, by omega⟩ ⟨R.1 % 4096, by omega⟩ k))
      fun k => W (ix2 ⟨R.1 / 4096 * 4096 + k.1, by omega⟩ C) := by
  unfold OUT softSum
  generalize hL : LOGITS Q K = L
  rw [mix_at]
  refine Finset.sum_congr rfl fun k _ => congrArg (W _ * ·) ?_
  rw [probs_at, exps_at]
  exact congrArg (Ideal.div _) (Finset.sum_congr rfl fun j _ => exps_at L _ _ _ j)

theorem sge_4096 (q k : Fin 4096) : IntOp.cmpi CmpIPredicate.sge (BitVec.ofNat 32 q.1) (BitVec.ofNat 32 k.1) = 1 ↔ k.1 ≤ q.1 := by
  have hq : (BitVec.ofNat 32 q.1).toInt = q.1 := by
    rw [BitVec.toInt_ofNat']
    have := q.2
    simp [Int.bmod]
    omega
  have hk : (BitVec.ofNat 32 k.1).toInt = k.1 := by
    rw [BitVec.toInt_ofNat']
    have := k.2
    simp [Int.bmod]
    omega
  simp [IntOp.cmpi, BitVec.sle, hq, hk]
  by_cases h : k ≤ q <;> simp [h]

theorem two_log : (id (Host.log (constant (F := Ideal) S_ FTy.f32 0x40000000#32)) : FVec Ideal S_ .f32) ix0 = ((Real.log 2 : ℝ) : EReal) := by
  have h : Ideal.ofBits FTy.f32 0x40000000#32 = ((2 : ℝ) : EReal) := by
    simp [Ideal.ofBits, Ideal.ieee]
    rw [← EReal.coe_mul]
    norm_num
  show Ideal.log (Ideal.ofBits FTy.f32 0x40000000#32) = _
  rw [h]
  show (if (2 : ℝ) ≤ 0 then (⊥ : EReal) else ((Real.log 2 : ℝ) : EReal)) = _
  rw [if_neg (by norm_num)]

theorem logits_at (Q K : FVec Ideal S16384x1536 .bf16) (R : Fin 16384) (h : Fin 12) (k : Fin 4096) :
    LOGITS Q K (ix4 ⟨R.1 / 4096, by omega⟩ h ⟨R.1 % 4096, by omega⟩ k)
      = sco (fun r l => Q (ix2 r l)) (fun r l => K (ix2 r l)) R h k * ((Real.log 2 : ℝ) : EReal) := by
  have h2 : (0 : ℝ) < Real.log 2 := Real.log_pos (by norm_num)
  pointwise [LOGITS]
  refine (select_iff (sge_4096 ⟨R.1 % 4096, by omega⟩ k) _ _).trans ?_
  unfold sco
  by_cases hk : k.1 ≤ R.1 % 4096
  · refine (if_pos hk).trans (congrArg₂ (· * ·) ?_ two_log)
    rw [if_pos hk]
    refine Finset.sum_congr rfl fun l _ => congrArg₂ (fun x y => Q x * K y) ?_ ?_
    · exact congrArg₂ ix2 rfl (Fin.ext (show h.1 * 128 + l.1 = 128 * h.1 + l.1 by omega))
    · exact congrArg₂ ix2 rfl (Fin.ext (show h.1 * 128 + l.1 = 128 * h.1 + l.1 by omega))
  · refine (if_neg hk).trans ?_
    rw [if_neg hk, EReal.bot_mul_coe_of_pos h2]
    exact word_bot

/-- The plain program's result, where every query and key is finite. -/
theorem out_at (Q K : FVec Ideal S16384x1536 .bf16) (W : FVec Ideal S16384x768 .bf16)
    (hQ : ∀ r l, Q (ix2 r l) ≠ ⊤ ∧ Q (ix2 r l) ≠ ⊥) (hK : ∀ r l, K (ix2 r l) ≠ ⊤ ∧ K (ix2 r l) ≠ ⊥) (R : Fin 16384) (C : Fin 768) :
    OUT Q K W (ix2 R C) = att (fun r l => Q (ix2 r l)) (fun r l => K (ix2 r l)) (fun r l => W (ix2 r l)) R C := by
  rw [out_soft]
  have e : (fun k : Fin 4096 => LOGITS Q K (ix4 ⟨R.1 / 4096, by omega⟩ ⟨C.1 / 64, by omega⟩ ⟨R.1 % 4096, by omega⟩ k))
      = fun k => sco (fun r l => Q (ix2 r l)) (fun r l => K (ix2 r l)) R ⟨C.1 / 64, by omega⟩ k * ((Real.log 2 : ℝ) : EReal) :=
    funext fun k => logits_at Q K R _ k
  rw [e]
  refine soft _ _ (fun j => ?_) (⟨0, by omega⟩ : Fin 4096) ?_
  · unfold sco
    split
    · exact (dot_finite _ _ _ (fun l => hQ _ _) fun l => hK _ _).1
    · decide
  · unfold sco
    rw [if_pos (Nat.zero_le _)]
    exact (dot_finite _ _ _ (fun l => hQ _ _) fun l => hK _ _).2

set_option maxHeartbeats 2000000 in
theorem res_eq (m : (ℓ : Loc nD τ sig) → Buf (Elt Ideal) ℓ) (c : Dev nD) : Cert.AttnReferenceIdeal.Value.res_out0 m c
    = OUT (m ((c.tc : Thread nD τ).loc main_arg0)) (m ((c.tc : Thread nD τ).loc main_arg1)) (m ((c.tc : Thread nD τ).loc main_arg2)) := by
  unfold Cert.AttnReferenceIdeal.Value.res_out0 Cert.AttnReferenceIdeal.Value.res_main_v31 OUT MIX PROBS EXPS TOP LOGITS
  rfl

end Cert.AttnReferenceIdeal.Val

end
-- ==== Proof.AttnPre.lean ====
/- What the precondition of the attention says: every query and every key is a real number. -/
module

public import proofs.«01_k».proof.Pre_finite
public import Idealize.ShloMosaic.Lib.Pointwise

@[expose] public section

noncomputable section

namespace Cert.Pre_finite

open Idealize.ShloMosaic

theorem facts : Cert.Pre_finite.Facts where
  bcast_S_S16384x1536 := by decide

theorem top_word : Ideal.ofBits FTy.bf16 32640#16 = ⊤ := by
  simp [Ideal.ofBits, Ideal.ieee]

theorem lt_of_bit {x : EReal} (h : BitVec.ofBool (decide (x < Ideal.ofBits FTy.bf16 32640#16)) = 1#1) : x < ⊤ := by
  rw [top_word] at h
  by_contra hx
  rw [decide_eq_false hx] at h
  exact absurd h (by decide)

theorem of_abs {x : EReal} (h : max x (-x) < ⊤) : x ≠ ⊤ ∧ x ≠ ⊥ := by
  obtain ⟨h1, h2⟩ := max_lt_iff.1 h
  refine ⟨h1.ne, fun hb => ?_⟩
  rw [hb, EReal.neg_bot] at h2
  exact absurd h2 (lt_irrefl _)

theorem finite_at [Cert.Pre_finite.Facts] (Q K : FVec Ideal S16384x1536 .bf16) (W : FVec Ideal S16384x768 .bf16)
    (h : Cert.Pre_finite.fn Q K W = fun _ => 1#1) (r : Fin 16384) (l : Fin 1536) :
    (Q (ix2 r l) ≠ ⊤ ∧ Q (ix2 r l) ≠ ⊥) ∧ K (ix2 r l) ≠ ⊤ ∧ K (ix2 r l) ≠ ⊥ := by
  have e := congrFun h (ix2 r l)
  unfold Cert.Pre_finite.fn at e
  simp only [pointwise] at e
  have hand : ∀ a b : BitVec 1, IntOp.andi a b = 1#1 → a = 1#1 ∧ b = 1#1 := by decide
  obtain ⟨e1, e2⟩ := hand _ _ e
  exact ⟨of_abs (lt_of_bit e1), of_abs (lt_of_bit e2)⟩

end Cert.Pre_finite

end
-- ==== Proof.FfnSpec.lean ====
/- The gated MLP's mathematics at one row and one column, over the extended reals: what both programs are compared with. -/
module

public import proofs.«01_k».proof.FfnIdeal
public import Idealize.ShloMosaic.Lib.Pointwise

@[expose] public section

set_option maxRecDepth 16384

noncomputable section

namespace Cert.FfnSpec

open Idealize.ShloMosaic Cert.FfnIdeal

/-- RMS normalisation of the row `s` with gain `g`, at lane `k`. -/
def rms (s g : Fin 1024 → EReal) (k : Fin 1024) : EReal :=
  s k * Ideal.rsqrt (Ideal.div (∑ l : Fin 1024, s l * s l) (Ideal.ofBits .f32 0x44800000#32)
    + Ideal.ofBits .f32 0x358637BD#32) * g k

/-- The up-projection of the normalised row `r` of batch `b`, at column `c`. -/
def hid (X : FVec Ideal S4x4096x1024 .f32) (G : FVec Ideal S1x1024 .f32) (W : FVec Ideal S1x1024x8192 .f32)
    (b : Fin 4) (r : Fin 4096) (c : Fin 8192) : EReal :=
  ∑ k : Fin 1024, rms (fun l => X (ix3 b r l)) (fun l => G (ix2 0 l)) k * W (ix3 0 k c)

/-- The row `d` before `r`, zero before the sequence begins. -/
def tap (h : Fin 4096 → EReal) (d : ℕ) (r : Fin 4096) : EReal :=
  if hd : d ≤ r.val then h ⟨r.val - d, by omega⟩ else 0

/-- The causal convolution of width three down the rows. -/
def conv (h : Fin 4096 → EReal) (w0 w1 w2 b : EReal) (r : Fin 4096) : EReal :=
  h r * w2 + tap h 1 r * w1 + tap h 2 r * w0 + b

/-- The gate: jax's tanh approximation of gelu, times the other half. -/
def gelu (g u : EReal) : EReal :=
  g * (Ideal.ofBits .f32 0x3F000000#32 * (1 + Ideal.tanh (Ideal.ofBits .f32 0x3F4C422A#32
    * (g + Ideal.ofBits .f32 0x3D372713#32 * (g * g * g))))) * u

/-- The convolved column `c` at row `r`. -/
def col (X : FVec Ideal S4x4096x1024 .f32) (G : FVec Ideal S1x1024 .f32) (W : FVec Ideal S1x1024x8192 .f32)
    (CW : FVec Ideal S1x3x1x8192 .f32) (CB : FVec Ideal S1x8192 .f32) (b : Fin 4) (r : Fin 4096) (c : Fin 8192) : EReal :=
  conv (fun r => hid X G W b r c) (CW (ix4 0 0 0 c)) (CW (ix4 0 1 0 c)) (CW (ix4 0 2 0 c)) (CB (ix2 0 c)) r

/-- The down-projection at column `j`. -/
def down (X : FVec Ideal S4x4096x1024 .f32) (G : FVec Ideal S1x1024 .f32) (W : FVec Ideal S1x1024x8192 .f32)
    (CW : FVec Ideal S1x3x1x8192 .f32) (CB : FVec Ideal S1x8192 .f32) (WD : FVec Ideal S1x4096x1024 .f32)
    (b : Fin 4) (r : Fin 4096) (j : Fin 1024) : EReal :=
  ∑ c : Fin 4096, gelu (col X G W CW CB b r ⟨c.val, by omega⟩) (col X G W CW CB b r ⟨4096 + c.val, by omega⟩)
    * WD (ix3 0 c j)

/-- The block's output: the residual stream plus the normalised down-projection. -/
def out (X : FVec Ideal S4x4096x1024 .f32) (G G2 : FVec Ideal S1x1024 .f32) (W : FVec Ideal S1x1024x8192 .f32)
    (CW : FVec Ideal S1x3x1x8192 .f32) (CB : FVec Ideal S1x8192 .f32) (WD : FVec Ideal S1x4096x1024 .f32)
    (b : Fin 4) (r : Fin 4096) (j : Fin 1024) : EReal :=
  X (ix3 b r j) + rms (fun j => down X G W CW CB WD b r j) (fun l => G2 (ix2 0 l)) j

end Cert.FfnSpec

end
-- ==== Proof.Gelu.lean ====
/- The gate's two spellings: the quotient by one plus a power of two, and half of one plus a hyperbolic tangent, agree at
   every extended real when the constants are exact. -/
module

public import proofs.«01_k».proof.FfnIdeal
public import Idealize.ShloMosaic.PureOps.IdealRules
public import Mathlib.Analysis.SpecialFunctions.Pow.Real

@[expose] public section

noncomputable section

namespace Cert.Gelu

open Idealize.ShloMosaic

/-- The constant in front of the cube. -/
abbrev q : ℝ := 12003091 / 268435456
/-- The constant under the tangent. -/
abbrev k : ℝ := 6693141 / 8388608
/-- The linear coefficient in the exponent. -/
abbrev a : ℝ := (-2) * ((Real.log 2)⁻¹ * (6693141 / 8388608))
/-- The cubic coefficient in the exponent. -/
abbrev a3 : ℝ := ((-2) * ((Real.log 2)⁻¹ * (6693141 / 8388608))) * (12003091 / 268435456)

theorem half_eq : Ideal.ofBits .f32 0x3F000000#32 = ((1 / 2 : ℝ) : EReal) := by
  simp [Ideal.ofBits, Ideal.ieee, -EReal.coe_mul]; norm_num

theorem root_eq : Ideal.ofBits .f32 0x3F4C422A#32 = (k : EReal) := by
  simp [Ideal.ofBits, Ideal.ieee, -EReal.coe_mul]; norm_num

theorem cube_eq : Ideal.ofBits .f32 0x3D372713#32 = (q : EReal) := by
  simp [Ideal.ofBits, Ideal.ieee, -EReal.coe_mul]; norm_num

theorem a_eq : Named.named (F := Ideal) Cert.FfnIdeal.κ "gelu_a" (φ := .f32) 0xC0135761#32 = (a : EReal) :=
  IdealRules.named_const.ideal_named_scalar _ _ _ _ rfl

theorem a3_eq : Named.named (F := Ideal) Cert.FfnIdeal.κ "gelu_a_cube" (φ := .f32) 0xBDD2D3E8#32 = (a3 : EReal) :=
  IdealRules.named_const.ideal_named_scalar _ _ _ _ rfl

theorem a_neg : a < 0 := by
  have h : 0 < Real.log 2 := Real.log_pos (by norm_num)
  unfold a; have := inv_pos.mpr h; nlinarith

theorem a3_neg : a3 < 0 := by
  have := a_neg; unfold a at this; unfold a3; nlinarith

/-- The sigmoid of `2z` both ways. -/
theorem sigmoid (z : ℝ) : 1 / 2 * (1 + Real.tanh z) = 1 / (1 + Real.exp (-(2 * z))) := by
  have hp := Real.exp_pos z
  have hm := Real.exp_pos (-z)
  have e2 : Real.exp (-(2 * z)) = Real.exp (-z) / Real.exp z := by
    rw [← Real.exp_sub]; congr 1; ring
  rw [Real.tanh_eq_sinh_div_cosh, Real.sinh_eq, Real.cosh_eq, e2]
  field_simp
  ring

theorem power (x : ℝ) : Real.rpow 2 (x * (a + a3 * (x * x))) = Real.exp (-(2 * (k * (x + q * (x * x * x))))) := by
  have h : Real.log 2 ≠ 0 := (Real.log_pos (by norm_num)).ne'
  change (2 : ℝ) ^ (x * (a + a3 * (x * x))) = _
  rw [Real.rpow_def_of_pos (by norm_num)]
  congr 1
  unfold a a3 k q
  field_simp
  ring

theorem gate_eq (g u : EReal) :
    Ideal.div (g * u) (1 + Ideal.exp2 (g * ((a : EReal) + (a3 : EReal) * (g * g))))
      = g * (((1 / 2 : ℝ) : EReal) * (1 + Ideal.tanh ((k : EReal) * (g + (q : EReal) * (g * g * g))))) * u := by
  have ha3 : ((a3 : ℝ) : EReal) < 0 := by exact_mod_cast a3_neg
  have hk : (0 : EReal) < ((k : ℝ) : EReal) := by exact_mod_cast (by norm_num [k] : (0 : ℝ) < k)
  have hq : (0 : EReal) < ((q : ℝ) : EReal) := by exact_mod_cast (by norm_num [q] : (0 : ℝ) < q)
  induction g using EReal.rec with
  | bot =>
    rw [EReal.bot_mul_bot, EReal.mul_top_of_neg ha3, EReal.add_bot, EReal.bot_mul_bot, Ideal.exp2_top,
      EReal.top_mul_bot, EReal.mul_bot_of_pos hq, EReal.add_bot, EReal.mul_bot_of_pos hk, Ideal.tanh_bot]
    have h0 : (1 : EReal) + -1 = 0 := by
      have : (1 : EReal) + -1 = ((1 + -1 : ℝ) : EReal) := by push_cast; rfl
      rw [this]; norm_num
    have ht : (1 : EReal) + ⊤ = ⊤ := EReal.coe_add_top 1
    rw [h0, ht, mul_zero, mul_zero, zero_mul]
    simp [Ideal.div]
  | top =>
    rw [EReal.top_mul_top, EReal.mul_top_of_neg ha3, EReal.add_bot, EReal.top_mul_bot, Ideal.exp2_bot,
      EReal.top_mul_top, EReal.mul_top_of_pos hq, EReal.top_add_top, EReal.mul_top_of_pos hk, Ideal.tanh_top]
    have h1 : ((1 / 2 : ℝ) : EReal) * (1 + 1) = 1 := by
      have : ((1 : EReal) + 1) = ((2 : ℝ) : EReal) := by
        rw [show (2 : ℝ) = 1 + 1 by norm_num, EReal.coe_add, EReal.coe_one]
      rw [this, ← EReal.coe_mul]; norm_num
    have hd := Ideal.div_coe (y := 1) one_ne_zero (⊤ * u)
    rw [h1, mul_one, add_zero]
    rw [EReal.coe_one] at hd
    rw [hd]; norm_num
  | coe x =>
    have e1 : (x : EReal) * ((a : EReal) + (a3 : EReal) * ((x : EReal) * x)) = ((x * (a + a3 * (x * x)) : ℝ) : EReal) := by
      push_cast; rfl
    have e2 : (k : EReal) * ((x : EReal) + (q : EReal) * ((x : EReal) * x * x)) = ((k * (x + q * (x * x * x)) : ℝ) : EReal) := by
      push_cast; rfl
    rw [e1, e2, Ideal.exp2_coe, power, Ideal.tanh_coe]
    have e3 : (1 : EReal) + ((Real.exp (-(2 * (k * (x + q * (x * x * x))))) : ℝ) : EReal)
        = ((1 + Real.exp (-(2 * (k * (x + q * (x * x * x))))) : ℝ) : EReal) := by push_cast; rfl
    have e4 : ((1 / 2 : ℝ) : EReal) * (1 + ((Real.tanh (k * (x + q * (x * x * x))) : ℝ) : EReal))
        = ((1 / 2 * (1 + Real.tanh (k * (x + q * (x * x * x)))) : ℝ) : EReal) := by push_cast; rfl
    rw [e3, e4, sigmoid, Ideal.div_coe (by positivity)]
    rw [mul_right_comm]

end Cert.Gelu

end
-- ==== Proof.FfnBlock.lean ====
/- What one grid point of the gated MLP computes from its blocks, at a row and a column. -/
module

public import proofs.«01_k».proof.Proof.Gen.FfnIdeal.Skeleton
public import proofs.«01_k».proof.Proof.FfnSpec
public import proofs.«01_k».proof.Proof.Gelu
public import Idealize.ShloMosaic.Lib.Pointwise

@[expose] public section

set_option maxRecDepth 16384

noncomputable section

namespace Cert.FfnIdeal.Val

open Idealize.ShloMosaic Idealize.ShloMosaic.TcCoe Idealize.SL.Sem
open Cert.FfnIdeal Cert.FfnIdeal.Gen

/-- The normalised rows. -/
theorem pay3_at (x : FVec Ideal S512x1024 .f32) (g : FVec Ideal S1x1024 .f32) (y : Fin 512) (k : Fin 1024) :
    k0_pay3 (F := Ideal) x g (ix2 y k) = FfnSpec.rms (fun l => x (ix2 y l)) (fun l => g (ix2 0 l)) k := by
  pointwise [k0_pay3, FfnSpec.rms]

/-- The up-projection of a tile, first half of the columns. -/
theorem pay5_at (x : FVec Ideal S512x1024 .f32) (g : FVec Ideal S1x1024 .f32) (w : FVec Ideal S1024x4096 .bf16) (y : Fin 512) (c : Fin 4096) :
    k0_pay5 (F := Ideal) x g w (ix2 y c)
      = ∑ k : Fin 1024, FfnSpec.rms (fun l => x (ix2 y l)) (fun l => g (ix2 0 l)) k * w (ix2 k c) := by
  pointwise [k0_pay5, pay3_at]

/-- And the second half. -/
theorem pay11_at (x : FVec Ideal S512x1024 .f32) (g : FVec Ideal S1x1024 .f32) (w : FVec Ideal S1024x4096 .bf16) (y : Fin 512) (c : Fin 4096) :
    k0_pay11 (F := Ideal) (k0_pay3 x g) w (ix2 y c)
      = ∑ k : Fin 1024, FfnSpec.rms (fun l => x (ix2 y l)) (fun l => g (ix2 0 l)) k * w (ix2 k c) := by
  pointwise [k0_pay11, pay3_at]

/-- The row `d` before row `y` of a tile, from the tile or from the eight rows carried over. -/
def back (v : FVec Ideal S512x4096 .f32) (p : FVec Ideal S1x1x8x4096 .f32) (d : ℕ) (y : Fin 512) (c : Fin 4096) : EReal :=
  if h : d ≤ y.val then v (ix2 ⟨y.val - d, by omega⟩ c) else p (ix4 0 0 ⟨(8 + y.val - d) % 8, Nat.mod_lt _ (by omega)⟩ c)

/-- The tile's convolution at a row and a column. -/
def convT (v : FVec Ideal S512x4096 .f32) (p : FVec Ideal S1x1x8x4096 .f32) (w2 w1 w0 b : FVec Ideal S1x4096 .f32) (y : Fin 512) (c : Fin 4096) : EReal :=
  v (ix2 y c) * w2 (ix2 0 c) + back v p 1 y c * w1 (ix2 0 c) + back v p 2 y c * w0 (ix2 0 c) + b (ix2 0 c)

/-- In a tile's first eight rows the row `d` before is found in the rolled concatenation of the carried rows and these. -/
theorem back_head (v : FVec Ideal S512x4096 .f32) (p : FVec Ideal S1x1x8x4096 .f32) (d : ℕ) (hd : d ≤ 8) (y : Fin 512) (c : Fin 4096)
    (hy : y.val < 8) (h1 : (8 + y.val + 16 - d) % 16 < 8 → (8 + y.val + 16 - d) % 16 < 8)
    (h2 : ¬ (8 + y.val + 16 - d) % 16 < 8 → (8 + y.val + 16 - d) % 16 - 8 < 512) :
    (if h : (8 + y.val + 16 - d) % 16 < 8 then p (ix4 0 0 ⟨(8 + y.val + 16 - d) % 16, h1 h⟩ c)
      else v (ix2 ⟨(8 + y.val + 16 - d) % 16 - 8, h2 h⟩ c)) = back v p d y c := by
  unfold back
  by_cases h : d ≤ y.val
  · rw [dif_pos h, dif_neg (by omega)]
    exact congrArg (fun z => v (ix2 z c)) (Fin.ext (show (8 + y.val + 16 - d) % 16 - 8 = y.val - d by omega))
  · rw [dif_neg h, dif_pos (by omega)]
    exact congrArg (fun z => p (ix4 0 0 z c)) (Fin.ext (show (8 + y.val + 16 - d) % 16 = (8 + y.val - d) % 8 by omega))

/-- In its other rows, in the rolled tile. -/
theorem back_body (v : FVec Ideal S512x4096 .f32) (p : FVec Ideal S1x1x8x4096 .f32) (d : ℕ) (hd : d ≤ 8) (y : Fin 512) (c : Fin 4096)
    (hy : ¬ y.val < 8) (h2 : (8 + (y.val - 8) + 512 - d) % 512 < 512) :
    v (ix2 ⟨(8 + (y.val - 8) + 512 - d) % 512, h2⟩ c) = back v p d y c := by
  unfold back
  rw [dif_pos (by omega)]
  exact congrArg (fun z => v (ix2 z c)) (Fin.ext (show (8 + (y.val - 8) + 512 - d) % 512 = y.val - d by omega))

/-- And the row itself. -/
theorem back_zero (v : FVec Ideal S512x4096 .f32) (y : Fin 512) (c : Fin 4096) (hy : ¬ y.val < 8) (h : 8 + (y.val - 8) < 512) :
    v (ix2 ⟨8 + (y.val - 8), h⟩ c) = v (ix2 y c) :=
  congrArg (fun z => v (ix2 z c)) (Fin.ext (show 8 + (y.val - 8) = y.val by omega))

/-- The sum of the three taps, as the printed program leaves it. -/
theorem taps (v : FVec Ideal S512x4096 .f32) (p : FVec Ideal S1x1x8x4096 .f32) (a2 a1 a0 : EReal) (y : Fin 512) (c : Fin 4096) :
    (if h : y.val < 8 then v (ix2 y c) * a2 + (if h' : (8 + y.val + 16 - 1) % 16 < 8 then p (ix4 0 0 ⟨(8 + y.val + 16 - 1) % 16, by omega⟩ c)
        else v (ix2 ⟨(8 + y.val + 16 - 1) % 16 - 8, by omega⟩ c)) * a1
      + (if h' : (8 + y.val + 16 - 2) % 16 < 8 then p (ix4 0 0 ⟨(8 + y.val + 16 - 2) % 16, by omega⟩ c)
        else v (ix2 ⟨(8 + y.val + 16 - 2) % 16 - 8, by omega⟩ c)) * a0
     else v (ix2 ⟨8 + (y.val - 8), by omega⟩ c) * a2 + v (ix2 ⟨(8 + (y.val - 8) + 512 - 1) % 512, by omega⟩ c) * a1
      + v (ix2 ⟨(8 + (y.val - 8) + 512 - 2) % 512, by omega⟩ c) * a0)
    = v (ix2 y c) * a2 + back v p 1 y c * a1 + back v p 2 y c * a0 := by
  by_cases hy : y.val < 8
  · rw [dif_pos hy]
    exact congrArg₂ (· + ·) (congrArg₂ (· + ·) rfl (congrArg (· * a1) (back_head v p 1 (by omega) y c hy (fun h => h) (by omega))))
      (congrArg (· * a0) (back_head v p 2 (by omega) y c hy (fun h => h) (by omega)))
  · rw [dif_neg hy]
    exact congrArg₂ (· + ·) (congrArg₂ (· + ·) (congrArg (· * a2) (back_zero v y c hy (by omega)))
      (congrArg (· * a1) (back_body v p 1 (by omega) y c hy (by omega)))) (congrArg (· * a0) (back_body v p 2 (by omega) y c hy (by omega)))

/-- The first half's convolution. -/
theorem convG_at (v : FVec Ideal S512x4096 .f32) (p : FVec Ideal S1x1x8x4096 .f32) (w2 w1 w0 b : FVec Ideal S1x4096 .f32) (y : Fin 512) (c : Fin 4096) :
    k0_pay10 (F := Ideal) (k0_pay7 v p w2 w1 w0) (k0_pay8 v w2 w1) (k0_pay9 v w0) b (ix2 y c) = convT v p w2 w1 w0 b y c := by
  pointwise [k0_pay10, k0_pay7, k0_pay8, k0_pay9, convT]
  exact congrArg (· + b (ix2 0 c)) (taps v p _ _ _ y c)

/-- The carried rows after a point, first half. -/
theorem pay6_at (v : FVec Ideal S512x4096 .f32) (q : Fin 8) (c : Fin 4096) :
    k0_pay6 (F := Ideal) v (ix4 0 0 q c) = v (ix2 ⟨504 + q.val, by omega⟩ c) := by
  pointwise [k0_pay6]

/-- And second half. -/
theorem pay12_at (h : FVec Ideal S512x1024 .bf16) (w : FVec Ideal S1024x4096 .bf16) (q : Fin 8) (c : Fin 4096) :
    k0_pay12 (F := Ideal) h w (ix4 0 0 q c) = k0_pay11 (F := Ideal) h w (ix2 ⟨504 + q.val, by omega⟩ c) := by
  pointwise [k0_pay12, k0_pay11]

theorem pay2_at (a : Fin 2) (q : Fin 8) (c : Fin 4096) : k0_pay2 (F := Ideal) (ix4 0 a q c) = 0 := by
  pointwise [k0_pay2]

/-- The gate as the program writes it, over the taps' sum. -/
theorem gate_at (g u u' : EReal) (hu : u = u') :
    Ideal.div (g * u) (1 + Ideal.exp2 (g * (Named.named (F := Ideal) κ "gelu_a" (φ := .f32) 0xC0135761#32
      + Named.named (F := Ideal) κ "gelu_a_cube" (φ := .f32) 0xBDD2D3E8#32 * (g * g)))) = FfnSpec.gelu g u' := by
  rw [hu, Gelu.a_eq, Gelu.a3_eq, Gelu.gate_eq]
  unfold FfnSpec.gelu
  rw [Gelu.half_eq, Gelu.root_eq, Gelu.cube_eq]

/-- The gated rows of a tile times the down-projection. -/
theorem pay14_at (g : FVec Ideal S512x4096 .f32) (h : FVec Ideal S512x1024 .bf16) (w : FVec Ideal S1024x4096 .bf16)
    (p : FVec Ideal S1x1x8x4096 .f32) (w2 w1 w0 b : FVec Ideal S1x4096 .f32) (wd : FVec Ideal S4096x1024 .bf16) (y : Fin 512) (j : Fin 1024) :
    k0_pay14 (F := Ideal) k0_pay4 g (k0_pay11 h w) (k0_pay13 h w p w2 w1 w0) w2 w1 w0 b wd (ix2 y j)
      = ∑ c : Fin 4096, FfnSpec.gelu (g (ix2 y c)) (convT (k0_pay11 h w) p w2 w1 w0 b y c) * wd (ix2 c j) := by
  pointwise [k0_pay14, k0_pay13, k0_pay4]
  refine Finset.sum_congr rfl fun c _ => congrArg (· * wd (ix2 c j)) ?_
  exact gate_at (g (ix2 y c)) _ (convT (k0_pay11 h w) p w2 w1 w0 b y c)
    (congrArg (· + b (ix2 0 c)) (taps (k0_pay11 h w) p _ _ _ y c))

/-- The point's output, from the gated product. -/
theorem pay1_at (v : FVec Ideal S512x1024 .f32) (x : FVec Ideal S512x1024 .f32) (g : FVec Ideal S1x1024 .f32) (y : Fin 512) (j : Fin 1024) :
    k0_pay1 (F := Ideal) v (k0_pay15 x) (k0_pay16 g) (mulf v v) (ix2 y j)
      = x (ix2 y j) + FfnSpec.rms (fun l => v (ix2 y l)) (fun l => g (ix2 0 l)) j := by
  pointwise [k0_pay1, k0_pay15, k0_pay16, FfnSpec.rms]

end Cert.FfnIdeal.Val

end
-- ==== Proof.FfnFinal.lean ====
/- The array the gated MLP's kernel leaves, read at a row and a column. -/
module

public import proofs.«01_k».proof.Proof.Gen.FfnIdeal.Value
public import proofs.«01_k».proof.Proof.FfnBlock
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

abbrev aX (c : Dev nD) : FVec Ideal S4x4096x1024 .f32 := m ((c : Thread nD τ).loc main_arg0)
abbrev aG (c : Dev nD) : FVec Ideal S1x1024 .f32 := m ((c : Thread nD τ).loc main_arg1)
abbrev aG2 (c : Dev nD) : FVec Ideal S1x1024 .f32 := m ((c : Thread nD τ).loc main_arg2)
abbrev aW (c : Dev nD) : FVec Ideal S1x1024x8192 .f32 := m ((c : Thread nD τ).loc main_arg3)
abbrev aCW (c : Dev nD) : FVec Ideal S1x3x1x8192 .f32 := m ((c : Thread nD τ).loc main_arg4)
abbrev aCB (c : Dev nD) : FVec Ideal S1x8192 .f32 := m ((c : Thread nD τ).loc main_arg5)
abbrev aWD (c : Dev nD) : FVec Ideal S1x4096x1024 .f32 := m ((c : Thread nD τ).loc main_arg6)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The tile's rows. -/
theorem x_at (c : Dev nD) (t : Fin cfg0.N) (y : Fin 512) (k : Fin 1024) (b : Fin 4) (r : Fin 4096) (h : 512 * t.val + y.val = 4096 * b.val + r.val) :
    (iblk m c 0 t : FVec Ideal S512x1024 .f32) (ix2 y k) = aX m c (ix3 b r k) := by
  blk_simp [iblk]
  entry_read
  pointwise []
  blk_ext [idx t]

theorem g_at (c : Dev nD) (t : Fin cfg0.N) (k : Fin 1024) :
    (iblk m c 1 t : FVec Ideal S1x1024 .f32) (ix2 0 k) = aG m c (ix2 0 k) := by
  blk_simp [iblk]
  entry_read
  pointwise []
  blk_ext [idx t]

theorem g2_at (c : Dev nD) (t : Fin cfg0.N) (k : Fin 1024) :
    (iblk m c 6 t : FVec Ideal S1x1024 .f32) (ix2 0 k) = aG2 m c (ix2 0 k) := by
  blk_simp [iblk]
  entry_read
  pointwise []
  blk_ext [idx t]

theorem w_at (c : Dev nD) (t : Fin cfg0.N) (k : Fin 1024) (q : Fin 8192) :
    (iblk m c 2 t : FVec Ideal S1024x8192 .bf16) (ix2 k q) = aW m c (ix3 0 k q) := by
  blk_simp [iblk]
  entry_read
  pointwise []
  blk_ext [idx t]

theorem cw_at (c : Dev nD) (t : Fin cfg0.N) (a : Fin 3) (q : Fin 8192) :
    (iblk m c 3 t : FVec Ideal S3x8192 .f32) (ix2 a q) = aCW m c (ix4 0 a 0 q) := by
  blk_simp [iblk]
  entry_read
  pointwise []
  blk_ext [idx t]

theorem cb_at (c : Dev nD) (t : Fin cfg0.N) (q : Fin 8192) :
    (iblk m c 4 t : FVec Ideal S1x8192 .f32) (ix2 0 q) = aCB m c (ix2 0 q) := by
  blk_simp [iblk]
  entry_read
  pointwise []
  blk_ext [idx t]

theorem wd_at (c : Dev nD) (t : Fin cfg0.N) (k : Fin 4096) (j : Fin 1024) :
    (iblk m c 5 t : FVec Ideal S4096x1024 .bf16) (ix2 k j) = aWD m c (ix3 0 k j) := by
  blk_simp [iblk]
  entry_read
  pointwise []
  blk_ext [idx t]

/-- A normalised row of the tile times a column of the up-projection. -/
theorem hid_at (c : Dev nD) (t : Fin cfg0.N) (y : Fin 512) (q : Fin 8192) (b : Fin 4) (r : Fin 4096) (tie : 512 * t.val + y.val = 4096 * b.val + r.val)
    (w : Fin 1024 → EReal) (hw : ∀ k, w k = aW m c (ix3 0 k q)) :
    ∑ k : Fin 1024, FfnSpec.rms (fun l => (iblk m c 0 t : FVec Ideal S512x1024 .f32) (ix2 y l)) (fun l => (iblk m c 1 t : FVec Ideal S1x1024 .f32) (ix2 0 l)) k * w k
      = FfnSpec.hid (aX m c) (aG m c) (aW m c) b r q := by
  unfold FfnSpec.hid
  rw [show (fun l => (iblk m c 0 t : FVec Ideal S512x1024 .f32) (ix2 y l)) = fun l => aX m c (ix3 b r l) from funext fun l => x_at m c t y l b r tie,
    show (fun l => (iblk m c 1 t : FVec Ideal S1x1024 .f32) (ix2 0 l)) = fun l => aG m c (ix2 0 l) from funext fun l => g_at m c t l]
  exact Finset.sum_congr rfl fun k _ => by rw [hw k]

abbrev rG : Rect S1024x8192 := Rect.unit (s := S1024x8192) ![0, 0] ![1024, 4096] inb_S1024x8192_S1024x4096_0_0
abbrev rU : Rect S1024x8192 := Rect.unit (s := S1024x8192) ![0, 4096] ![1024, 4096] inb_S1024x8192_S1024x4096_0_4096

theorem ldG (w : Vec Ideal S1024x8192 .bf16) (k : Fin 1024) (q : Fin 4096) :
    (View.ld (Val := Elt Ideal) (e' := .bf16) w rG : Vec Ideal S1024x4096 .bf16) (ix2 k q) = w (ix2 k ⟨q.val, by omega⟩) := by
  refine (View.ld_apply _ _ _).trans (congrArg w ?_)
  blk_ext <;> simp [rG, Rect.idx_unit_val]
theorem ldU (w : Vec Ideal S1024x8192 .bf16) (k : Fin 1024) (q : Fin 4096) :
    (View.ld (Val := Elt Ideal) (e' := .bf16) w rU : Vec Ideal S1024x4096 .bf16) (ix2 k q) = w (ix2 k ⟨4096 + q.val, by omega⟩) := by
  refine (View.ld_apply _ _ _).trans (congrArg w ?_)
  blk_ext <;> simp [rU, Rect.idx_unit_val]

/-- The two halves of the up-projection's block. -/
def wG (c : Dev nD) (t : Fin cfg0.N) : FVec Ideal S1024x4096 .bf16 :=
  View.ld (Val := Elt Ideal) (e' := .bf16) (show Vec Ideal S1024x8192 .bf16 from iblk m c 2 t) rG
def wU (c : Dev nD) (t : Fin cfg0.N) : FVec Ideal S1024x4096 .bf16 :=
  View.ld (Val := Elt Ideal) (e' := .bf16) (show Vec Ideal S1024x8192 .bf16 from iblk m c 2 t) rU

theorem wG_at (c : Dev nD) (t : Fin cfg0.N) (k : Fin 1024) (q : Fin 4096) : wG m c t (ix2 k q) = aW m c (ix3 0 k ⟨q.val, by omega⟩) :=
  (ldG _ k q).trans (w_at m c t k ⟨q.val, by omega⟩)
theorem wU_at (c : Dev nD) (t : Fin cfg0.N) (k : Fin 1024) (q : Fin 4096) : wU m c t (ix2 k q) = aW m c (ix3 0 k ⟨4096 + q.val, by omega⟩) :=
  (ldU _ k q).trans (w_at m c t k ⟨4096 + q.val, by omega⟩)

/-- The tile's two halves of the up-projection. -/
def hG (c : Dev nD) (t : Fin cfg0.N) : FVec Ideal S512x4096 .f32 := k0_pay5 (F := Ideal) (iblk m c 0 t) (iblk m c 1 t) (wG m c t)
def hU (c : Dev nD) (t : Fin cfg0.N) : FVec Ideal S512x4096 .f32 := k0_pay11 (F := Ideal) (k0_pay3 (F := Ideal) (iblk m c 0 t) (iblk m c 1 t)) (wU m c t)

theorem hG_at (c : Dev nD) (t : Fin cfg0.N) (y : Fin 512) (q : Fin 4096) (b : Fin 4) (r : Fin 4096) (tie : 512 * t.val + y.val = 4096 * b.val + r.val) :
    hG m c t (ix2 y q) = FfnSpec.hid (aX m c) (aG m c) (aW m c) b r ⟨q.val, by omega⟩ :=
  (pay5_at (iblk m c 0 t) (iblk m c 1 t) (wG m c t) y q).trans (hid_at m c t y _ b r tie (fun k => wG m c t (ix2 k q)) fun k => wG_at m c t k q)

theorem hU_at (c : Dev nD) (t : Fin cfg0.N) (y : Fin 512) (q : Fin 4096) (b : Fin 4) (r : Fin 4096) (tie : 512 * t.val + y.val = 4096 * b.val + r.val) :
    hU m c t (ix2 y q) = FfnSpec.hid (aX m c) (aG m c) (aW m c) b r ⟨4096 + q.val, by omega⟩ :=
  (pay11_at (iblk m c 0 t) (iblk m c 1 t) (wU m c t) y q).trans (hid_at m c t y _ b r tie (fun k => wU m c t (ix2 k q)) fun k => wU_at m c t k q)

abbrev r0 : Rect S1x2x8x4096 := Rect.unit (s := S1x2x8x4096) ![0, 0, 0, 0] ![1, 1, 8, 4096] inb_S1x2x8x4096_S1x1x8x4096_0_0_0_0
abbrev r1 : Rect S1x2x8x4096 := Rect.unit (s := S1x2x8x4096) ![0, 1, 0, 0] ![1, 1, 8, 4096] inb_S1x2x8x4096_S1x1x8x4096_0_1_0_0

theorem at0 (q : Fin 8) (k : Fin 4096) : (ix4 0 0 q k : S1x2x8x4096.Idx) = r0.emb (ix4 0 0 q k) := by blk_ext
theorem at1 (q : Fin 8) (k : Fin 4096) : (ix4 0 1 q k : S1x2x8x4096.Idx) = r1.emb (ix4 0 0 q k) := by blk_ext
theorem off1 (q : Fin 8) (k : Fin 4096) : (ix4 0 0 q k : S1x2x8x4096.Idx) ∉ r1.set := by
  intro hy
  mem_blk at hy
  exact absurd (hy 1).1 (by show ¬ 1 ≤ 0; omega)

/-- What is left in the scratch by the two stores, first half -/
theorem canon0 (p1 p0 : Vec Ideal S1x1x8x4096 .f32) (L : List (View.Piece (Elt Ideal) S1x2x8x4096 .f32)) (q : Fin 8) (k : Fin 4096) :
    View.canon (Val := Elt Ideal) (⟨r1, p1⟩ :: ⟨r0, p0⟩ :: L) (ix4 0 0 q k) = p0 (ix4 0 0 q k) := by
  refine (View.canon_cons_of_not_mem (⟨r1, p1⟩ : View.Piece (Elt Ideal) S1x2x8x4096 .f32) (⟨r0, p0⟩ :: L) (y := ix4 0 0 q k) (off1 q k)).trans ?_
  exact (congrArg _ (at0 q k)).trans (View.canon_cons_emb r0 p0 L _)

/-- and second half. -/
theorem canon1 (p1 : Vec Ideal S1x1x8x4096 .f32) (L : List (View.Piece (Elt Ideal) S1x2x8x4096 .f32)) (q : Fin 8) (k : Fin 4096) :
    View.canon (Val := Elt Ideal) (⟨r1, p1⟩ :: L) (ix4 0 1 q k) = p1 (ix4 0 0 q k) := by
  exact (congrArg _ (at1 q k)).trans (View.canon_cons_emb r1 p1 L _)

theorem carryG (c : Dev nD) (t : Fin cfg0.N) (q : Fin 8) (k : Fin 4096) :
    (outsAt0 m c t.val t.isLt).2 (ix4 0 0 q k) = hG m c t (ix2 ⟨504 + q.val, by omega⟩ k) := by
  by_cases h0 : t.val % 8 = 0
  · rw [outsAt0_A m c t h0]; frame_out
    exact (canon0 _ _ _ q k).trans (pay6_at (hG m c t) q k)
  · rw [outsAt0_B m c t h0]; frame_out
    exact (canon0 _ _ _ q k).trans (pay6_at (hG m c t) q k)

theorem carryU (c : Dev nD) (t : Fin cfg0.N) (q : Fin 8) (k : Fin 4096) :
    (outsAt0 m c t.val t.isLt).2 (ix4 0 1 q k) = hU m c t (ix2 ⟨504 + q.val, by omega⟩ k) := by
  by_cases h0 : t.val % 8 = 0
  · rw [outsAt0_A m c t h0]; frame_out
    exact (canon1 _ _ q k).trans (pay12_at _ (wU m c t) q k)
  · rw [outsAt0_B m c t h0]; frame_out
    exact (canon1 _ _ q k).trans (pay12_at _ (wU m c t) q k)

end Cert.FfnIdeal.Val

end
-- ==== Proof.FfnPoint.lean ====
/- One grid point of the gated MLP, from its blocks and the rows carried over, and the array after the run. -/
module

public import proofs.«01_k».proof.Proof.FfnFinal
public import Idealize.ShloMosaic.Lib.Pipeline.ReadBack

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- The eight rows before the tile at the columns from `o`: zero where a sequence begins, otherwise the hidden rows. -/
def Before (c : Dev nD) (t : Fin cfg0.N) (o : ℕ) (ho : o ≤ 4096) (p : FVec Ideal S1x1x8x4096 .f32) : Prop :=
  ∀ (q : Fin 8) (k : Fin 4096), (t.val % 8 = 0 → p (ix4 0 0 q k) = 0)
    ∧ (¬ t.val % 8 = 0 → ∀ (b : Fin 4) (r : Fin 4096), 512 * t.val + q.val = 4096 * b.val + r.val + 8 →
        p (ix4 0 0 q k) = FfnSpec.hid (aX m c) (aG m c) (aW m c) b r ⟨o + k.val, by omega⟩)

/-- The row `d` before is the reference's. -/
theorem back_at (c : Dev nD) (t : Fin cfg0.N) (o : ℕ) (ho : o ≤ 4096) (v : FVec Ideal S512x4096 .f32) (p : FVec Ideal S1x1x8x4096 .f32) (hp : Before m c t o ho p)
    (hv : ∀ (y : Fin 512) (k : Fin 4096) (b : Fin 4) (r : Fin 4096), 512 * t.val + y.val = 4096 * b.val + r.val →
      v (ix2 y k) = FfnSpec.hid (aX m c) (aG m c) (aW m c) b r ⟨o + k.val, by omega⟩)
    (d : ℕ) (hd : d ≤ 8) (y : Fin 512) (k : Fin 4096) (b : Fin 4) (r : Fin 4096) (tie : 512 * t.val + y.val = 4096 * b.val + r.val) :
    back v p d y k = FfnSpec.tap (fun r => FfnSpec.hid (aX m c) (aG m c) (aW m c) b r ⟨o + k.val, by omega⟩) d r := by
  unfold back FfnSpec.tap
  by_cases h : d ≤ y.val
  · rw [dif_pos h, dif_pos (by omega)]
    exact hv ⟨y.val - d, by omega⟩ k b ⟨r.val - d, by omega⟩ (by show 512 * t.val + (y.val - d) = 4096 * b.val + (r.val - d); omega)
  · rw [dif_neg h]
    by_cases h0 : t.val % 8 = 0
    · rw [dif_neg (by omega)]
      exact (hp _ k).1 h0
    · rw [dif_pos (by omega)]
      exact (hp _ k).2 h0 b ⟨r.val - d, by omega⟩ (by show 512 * t.val + (8 + y.val - d) % 8 = 4096 * b.val + (r.val - d) + 8; omega)

/-- The convolved column is the reference's. -/
theorem conv_at (c : Dev nD) (t : Fin cfg0.N) (o : ℕ) (ho : o ≤ 4096) (v : FVec Ideal S512x4096 .f32) (p : FVec Ideal S1x1x8x4096 .f32) (hp : Before m c t o ho p)
    (hv : ∀ (y : Fin 512) (k : Fin 4096) (b : Fin 4) (r : Fin 4096), 512 * t.val + y.val = 4096 * b.val + r.val →
      v (ix2 y k) = FfnSpec.hid (aX m c) (aG m c) (aW m c) b r ⟨o + k.val, by omega⟩)
    (w2 w1 w0 cb : FVec Ideal S1x4096 .f32)
    (e2 : ∀ k : Fin 4096, w2 (ix2 0 k) = aCW m c (ix4 0 2 0 ⟨o + k.val, by omega⟩))
    (e1 : ∀ k : Fin 4096, w1 (ix2 0 k) = aCW m c (ix4 0 1 0 ⟨o + k.val, by omega⟩))
    (e0 : ∀ k : Fin 4096, w0 (ix2 0 k) = aCW m c (ix4 0 0 0 ⟨o + k.val, by omega⟩))
    (eb : ∀ k : Fin 4096, cb (ix2 0 k) = aCB m c (ix2 0 ⟨o + k.val, by omega⟩))
    (y : Fin 512) (k : Fin 4096) (b : Fin 4) (r : Fin 4096) (tie : 512 * t.val + y.val = 4096 * b.val + r.val) :
    convT v p w2 w1 w0 cb y k = FfnSpec.col (aX m c) (aG m c) (aW m c) (aCW m c) (aCB m c) b r ⟨o + k.val, by omega⟩ := by
  unfold convT FfnSpec.col FfnSpec.conv
  rw [back_at m c t o ho v p hp hv 1 (by omega) y k b r tie, back_at m c t o ho v p hp hv 2 (by omega) y k b r tie, hv y k b r tie, e2, e1, e0, eb]

/-- The point's output, over any rows carried over that are the rows before. -/
theorem point (c : Dev nD) (t : Fin cfg0.N) (p0 p1 : FVec Ideal S1x1x8x4096 .f32) (hp0 : Before m c t 0 (by omega) p0) (hp1 : Before m c t 4096 (by omega) p1)
    (w2 w1 w0 cb w2' w1' w0' cb' : FVec Ideal S1x4096 .f32)
    (e2 : ∀ k : Fin 4096, w2 (ix2 0 k) = aCW m c (ix4 0 2 0 ⟨0 + k.val, by omega⟩))
    (e1 : ∀ k : Fin 4096, w1 (ix2 0 k) = aCW m c (ix4 0 1 0 ⟨0 + k.val, by omega⟩))
    (e0 : ∀ k : Fin 4096, w0 (ix2 0 k) = aCW m c (ix4 0 0 0 ⟨0 + k.val, by omega⟩))
    (eb : ∀ k : Fin 4096, cb (ix2 0 k) = aCB m c (ix2 0 ⟨0 + k.val, by omega⟩))
    (e2' : ∀ k : Fin 4096, w2' (ix2 0 k) = aCW m c (ix4 0 2 0 ⟨4096 + k.val, by omega⟩))
    (e1' : ∀ k : Fin 4096, w1' (ix2 0 k) = aCW m c (ix4 0 1 0 ⟨4096 + k.val, by omega⟩))
    (e0' : ∀ k : Fin 4096, w0' (ix2 0 k) = aCW m c (ix4 0 0 0 ⟨4096 + k.val, by omega⟩))
    (eb' : ∀ k : Fin 4096, cb' (ix2 0 k) = aCB m c (ix2 0 ⟨4096 + k.val, by omega⟩))
    (y : Fin 512) (j : Fin 1024) (b : Fin 4) (r : Fin 4096) (tie : 512 * t.val + y.val = 4096 * b.val + r.val)
    (v : FVec Ideal S512x1024 .f32)
    (ev : v = k0_pay14 (F := Ideal) k0_pay4 (k0_pay10 (k0_pay7 (hG m c t) p0 w2 w1 w0) (k0_pay8 (hG m c t) w2 w1) (k0_pay9 (hG m c t) w0) cb) (hU m c t)
      (k0_pay13 (k0_pay3 (F := Ideal) (iblk m c 0 t) (iblk m c 1 t)) (wU m c t) p1 w2' w1' w0') w2' w1' w0' cb' (iblk m c 5 t)) :
    k0_pay1 (F := Ideal) v (k0_pay15 (iblk m c 0 t)) (k0_pay16 (iblk m c 6 t)) (mulf v v) (ix2 y j)
      = FfnSpec.out (aX m c) (aG m c) (aG2 m c) (aW m c) (aCW m c) (aCB m c) (aWD m c) b r j := by
  have hd : (fun l : Fin 1024 => v (ix2 y l)) = fun l => FfnSpec.down (aX m c) (aG m c) (aW m c) (aCW m c) (aCB m c) (aWD m c) b r l := by
    funext l
    rw [ev]
    refine (pay14_at _ _ (wU m c t) p1 w2' w1' w0' cb' _ y l).trans ?_
    unfold FfnSpec.down
    refine Finset.sum_congr rfl fun k _ => ?_
    rw [convG_at (hG m c t) p0 w2 w1 w0 cb y k,
      conv_at m c t 0 (by omega) (hG m c t) p0 hp0 (fun y k b r tie => (hG_at m c t y k b r tie).trans (congrArg _ (Fin.ext (Nat.zero_add _).symm))) w2 w1 w0 cb e2 e1 e0 eb y k b r tie]
    refine congrArg₂ (· * ·) (congrArg₂ FfnSpec.gelu (congrArg _ (Fin.ext (Nat.zero_add _))) ?_) (wd_at m c t k l)
    exact conv_at m c t 4096 (by omega) (hU m c t) p1 hp1 (fun y k b r tie => hU_at m c t y k b r tie) w2' w1' w0' cb' e2' e1' e0' eb' y k b r tie
  refine (pay1_at v (iblk m c 0 t) (iblk m c 6 t) y j).trans ?_
  unfold FfnSpec.out
  rw [hd, show (fun l => (iblk m c 6 t : FVec Ideal S1x1024 .f32) (ix2 0 l)) = fun l => aG2 m c (ix2 0 l) from funext fun l => g2_at m c t l]
  exact congrArg (· + _) (x_at m c t y j b r tie)

/-- The rows of a load of the convolution's weights. -/
theorem ldCW (w : Vec Ideal S3x8192 .f32) (i o : ℕ) (inb) (hi : i < 3) (k : Fin 4096) (ho : o + k.val < 8192) :
    (View.ld (Val := Elt Ideal) (e' := .f32) w (Rect.unit (s := S3x8192) ![i, o] ![1, 4096] inb) : Vec Ideal S1x4096 .f32) (ix2 0 k) = w (ix2 ⟨i, hi⟩ ⟨o + k.val, ho⟩) := by
  refine (View.ld_apply _ _ _).trans (congrArg w ?_)
  blk_ext <;> simp [Rect.idx_unit_val]
theorem ldCB (w : Vec Ideal S1x8192 .f32) (o : ℕ) (inb) (k : Fin 4096) (ho : o + k.val < 8192) :
    (View.ld (Val := Elt Ideal) (e' := .f32) w (Rect.unit (s := S1x8192) ![0, o] ![1, 4096] inb) : Vec Ideal S1x4096 .f32) (ix2 0 k) = w (ix2 0 ⟨o + k.val, ho⟩) := by
  refine (View.ld_apply _ _ _).trans (congrArg w ?_)
  blk_ext <;> simp [Rect.idx_unit_val]
theorem ldC (w : Vec Ideal S1x2x8x4096 .f32) (i : ℕ) (inb) (hi : i < 2) (q : Fin 8) (k : Fin 4096) :
    (View.ld (Val := Elt Ideal) (e' := .f32) w (Rect.unit (s := S1x2x8x4096) ![0, i, 0, 0] ![1, 1, 8, 4096] inb) : Vec Ideal S1x1x8x4096 .f32) (ix4 0 0 q k) = w (ix4 0 ⟨i, hi⟩ q k) := by
  refine (View.ld_apply _ _ _).trans (congrArg w ?_)
  blk_ext <;> simp [Rect.idx_unit_val]

end Cert.FfnIdeal.Val

end
-- ==== Proof.FfnOut.lean ====
/- The array the gated MLP's kernel leaves. -/
module

public import proofs.«01_k».proof.Proof.FfnPoint

@[expose] public section

set_option maxRecDepth 16384

noncomputable section

namespace Cert.FfnIdeal.Val

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

abbrev rW : Rect S1x2x8x4096 := Rect.unit (s := S1x2x8x4096) ![0, 0, 0, 0] ![1, 2, 8, 4096] inb_S1x2x8x4096_S1x2x8x4096_0_0_0_0

/-- A sequence begins with zeros: the first half's rows -/
theorem zero0 (q : Fin 8) (k : Fin 4096) (V : View sig .tc .vmem S1x2x8x4096 .f32) :
    (V.readCov (Val := Elt Ideal) [⟨rW, k0_pay2 (F := Ideal)⟩] r0.toLoadRect : Vec Ideal S1x1x8x4096 .f32) (ix4 0 0 q k) = 0 := by
  rw [View.readCov_fill V _ _ _ r0 (by decide)]
  exact (ldC _ 0 _ (by omega) q k).trans (pay2_at _ q k)

/-- and the second half's. -/
theorem zero1 (q : Fin 8) (k : Fin 4096) (V : View sig .tc .vmem S1x2x8x4096 .f32) (p : Vec Ideal S1x1x8x4096 .f32) :
    (V.readCov (Val := Elt Ideal) [⟨r0, p⟩, ⟨rW, k0_pay2 (F := Ideal)⟩] r1.toLoadRect : Vec Ideal S1x1x8x4096 .f32) (ix4 0 0 q k) = 0 := by
  rw [View.readCov_skip V r0 p _ _ (by decide), View.readCov_fill V _ _ _ r1 (by decide)]
  exact (ldC _ 1 _ (by omega) q k).trans (pay2_at _ q k)

theorem before0 (c : Dev nD) (t : Fin cfg0.N) (h0 : ¬ t.val % 8 = 0) (inb) :
    Before m c t 0 (by omega) (View.ld (Val := Elt Ideal) (e' := .f32) (show Vec Ideal S1x2x8x4096 .f32 from (outsAt0 m c (t.val - 1) (Nat.lt_of_le_of_lt (Nat.sub_le _ _) t.isLt)).2)
      (Rect.unit (s := S1x2x8x4096) ![0, 0, 0, 0] ![1, 1, 8, 4096] inb)) := fun q k =>
  ⟨fun h => absurd h h0, fun _ b r tie => (ldC _ 0 _ (by omega) q k).trans <|
    (carryG m c ⟨t.val - 1, Nat.lt_of_le_of_lt (Nat.sub_le _ _) t.isLt⟩ q k).trans <|
      (hG_at m c _ ⟨504 + q.val, by omega⟩ k b r (by show 512 * (t.val - 1) + (504 + q.val) = _; omega)).trans (congrArg _ (Fin.ext (Nat.zero_add _).symm))⟩

theorem before1 (c : Dev nD) (t : Fin cfg0.N) (h0 : ¬ t.val % 8 = 0) (inb) :
    Before m c t 4096 (by omega) (View.ld (Val := Elt Ideal) (e' := .f32) (show Vec Ideal S1x2x8x4096 .f32 from (outsAt0 m c (t.val - 1) (Nat.lt_of_le_of_lt (Nat.sub_le _ _) t.isLt)).2)
      (Rect.unit (s := S1x2x8x4096) ![0, 1, 0, 0] ![1, 1, 8, 4096] inb)) := fun q k =>
  ⟨fun h => absurd h h0, fun _ b r tie => (ldC _ 1 _ (by omega) q k).trans <|
    (carryU m c ⟨t.val - 1, Nat.lt_of_le_of_lt (Nat.sub_le _ _) t.isLt⟩ q k).trans <|
      hU_at m c _ ⟨504 + q.val, by omega⟩ k b r (by show 512 * (t.val - 1) + (504 + q.val) = _; omega)⟩

theorem ecw (c : Dev nD) (t : Fin cfg0.N) (i o : ℕ) (inb) (hi : i < 3) (ho : o ≤ 4096) (k : Fin 4096) :
    (View.ld (Val := Elt Ideal) (e' := .f32) (show Vec Ideal S3x8192 .f32 from iblk m c 3 t) (Rect.unit (s := S3x8192) ![i, o] ![1, 4096] inb) : Vec Ideal S1x4096 .f32) (ix2 0 k)
      = aCW m c (ix4 0 ⟨i, hi⟩ 0 ⟨o + k.val, by omega⟩) :=
  (ldCW _ i o inb hi k (by omega)).trans (cw_at m c t ⟨i, hi⟩ ⟨o + k.val, by omega⟩)

theorem ecb (c : Dev nD) (t : Fin cfg0.N) (o : ℕ) (inb) (ho : o ≤ 4096) (k : Fin 4096) :
    (View.ld (Val := Elt Ideal) (e' := .f32) (show Vec Ideal S1x8192 .f32 from iblk m c 4 t) (Rect.unit (s := S1x8192) ![0, o] ![1, 4096] inb) : Vec Ideal S1x4096 .f32) (ix2 0 k)
      = aCB m c (ix2 0 ⟨o + k.val, by omega⟩) :=
  (ldCB _ o inb k (by omega)).trans (cb_at m c t ⟨o + k.val, by omega⟩)

/-- What a point leaves in its block. -/
theorem out_point (c : Dev nD) (t : Fin cfg0.N) (y : Fin 512) (j : Fin 1024) (b : Fin 4) (r : Fin 4096) (tie : 512 * t.val + y.val = 4096 * b.val + r.val) :
    (outsAt0 m c t.val t.isLt).1 (ix2 y j) = FfnSpec.out (aX m c) (aG m c) (aG2 m c) (aW m c) (aCW m c) (aCB m c) (aWD m c) b r j := by
  by_cases h0 : t.val % 8 = 0
  · rw [outsAt0_A m c t h0]; frame_out
    refine point m c t _ _ ?_ ?_ _ _ _ _ _ _ _ _
      (ecw m c t 2 0 _ (by omega) (by omega)) (ecw m c t 1 0 _ (by omega) (by omega)) (ecw m c t 0 0 _ (by omega) (by omega)) (ecb m c t 0 _ (by omega))
      (ecw m c t 2 4096 _ (by omega) (by omega)) (ecw m c t 1 4096 _ (by omega) (by omega)) (ecw m c t 0 4096 _ (by omega) (by omega)) (ecb m c t 4096 _ (by omega))
      y j b r tie _ rfl
    · exact fun q k => ⟨fun _ => zero0 q k _, fun h => absurd h0 h⟩
    · exact fun q k => ⟨fun _ => zero1 q k _ _, fun h => absurd h0 h⟩
  · rw [outsAt0_B m c t h0]; frame_out
    rw [read_unread_whole]
    exact point m c t _ _ (before0 m c t h0 _) (before1 m c t h0 _) _ _ _ _ _ _ _ _
      (ecw m c t 2 0 _ (by omega) (by omega)) (ecw m c t 1 0 _ (by omega) (by omega)) (ecw m c t 0 0 _ (by omega) (by omega)) (ecb m c t 0 _ (by omega))
      (ecw m c t 2 4096 _ (by omega) (by omega)) (ecw m c t 1 4096 _ (by omega) (by omega)) (ecw m c t 0 4096 _ (by omega) (by omega)) (ecb m c t 4096 _ (by omega))
      y j b r tie _ rfl

/-- The array after the run, at every flat row and column. -/
theorem final (c : Dev nD) : (dats m 0 c).arrAt 7 (cfgs 0).N
    = fun i : S16384x1024.Idx => FfnSpec.out (aX m c) (aG m c) (aG2 m c) (aW m c) (aCW m c) (aCB m c) (aWD m c)
        ⟨(i 0).val / 4096, Nat.div_lt_of_lt_mul (show (i 0).val < 4096 * 4 from (i 0).isLt)⟩ ⟨(i 0).val % 4096, Nat.mod_lt _ (by omega)⟩ (i 1) := by
  refine (dats m 0 c).arrAt_eq_of_covers 7 _ (by decide +kernel) fun t _ y => ?_
  blk_simp [idx t]
  rw [after0_7]
  idx_vars y
  have ht : t.val < 32 := lt_of_lt_of_eq t.isLt (by decide +kernel)
  refine (out_point m c t y0 y1 ⟨(t.val * 512 + y0.val) / 4096, by omega⟩ ⟨(t.val * 512 + y0.val) % 4096, by omega⟩
    (by show 512 * t.val + y0.val = 4096 * ((t.val * 512 + y0.val) / 4096) + (t.val * 512 + y0.val) % 4096; omega)).trans (congrArg _ (Fin.ext ?_))
  blk_simp [idx t]

end Cert.FfnIdeal.Val

end
-- ==== Proof.FfnRef.lean ====
/- The plain program's result, read at a row and a column, is the mathematics of FfnSpec. Its term is folded stage by stage. -/
module

public import proofs.«01_k».proof.Proof.Gen.FfnReferenceIdeal.Run
public import proofs.«01_k».proof.Proof.FfnSpec

@[expose] public section

set_option maxRecDepth 16384

noncomputable section

namespace Cert.FfnReferenceIdeal.Val

open Idealize.ShloMosaic Idealize.ShloMosaic.TcCoe Idealize.SL.Sem
open Cert.FfnReferenceIdeal Cert.FfnReferenceIdeal.Gen

/-- RMS normalisation of whole arrays. -/
def RMS (Y : FVec Ideal S4x4096x1024 .f32) (G : FVec Ideal S1x1024 .f32) : FVec Ideal S4x4096x1024 .f32 :=
  mulf (mulf Y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf Y Y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ G shapeCasts_S1x1024_S1024)))

/-- The up-projection. -/
def HID (X : FVec Ideal S4x4096x1024 .f32) (G : FVec Ideal S1x1024 .f32) (W : FVec Ideal S1x1024x8192 .f32) : FVec Ideal S4x4096x8192 .f32 :=
  Host.dotGeneral dot_S4x4096x1024_S1024x8192_S4x4096x8192_2_0_01_1_n_n none (RMS X G) (shapeCast _ W shapeCasts_S1x1024x8192_S1024x8192)

/-- The up-projection behind two rows of zeros. -/
def PAD (H : FVec Ideal S4x4096x8192 .f32) : FVec Ideal S4x4098x8192 .f32 :=
  pad S4x4098x8192 ![0, 2, 0] ![0, 0, 0] ![0, 0, 0] H (sitofp .f32 (constantI S_ 32 0#32)) pads_S4x4096x8192_S4x4098x8192_000_200_000 h_S_

/-- The convolution, from the padded rows. -/
def CONV (P : FVec Ideal S4x4098x8192 .f32) (CW : FVec Ideal S1x3x1x8192 .f32) (CB : FVec Ideal S1x8192 .f32) : FVec Ideal S4x4096x8192 .f32 :=
  addf (addf (addf (broadcastInDim S4x4096x8192 ![0, 1, 2] bcast_S1x1x8192_S4x4096x8192_0_1_2 (broadcastInDim S1x1x8192 ![2] bcast_S8192_S1x1x8192_2 (shapeCast _ CB shapeCasts_S1x8192_S8192)))
    (mulf (extractStridedSlice S4x4096x8192 ![0, 0, 0] P slices_S4x4098x8192_S4x4096x8192_0_0_0) (broadcastInDim S4x4096x8192 ![0, 1, 2] bcast_S1x1x8192_S4x4096x8192_0_1_2 (broadcastInDim S1x1x8192 ![2] bcast_S8192_S1x1x8192_2 (shapeCast _ (extractStridedSlice S1x1x1x8192 ![0, 0, 0, 0] CW slices_S1x3x1x8192_S1x1x1x8192_0_0_0_0) shapeCasts_S1x1x1x8192_S8192)))))
    (mulf (extractStridedSlice S4x4096x8192 ![0, 1, 0] P slices_S4x4098x8192_S4x4096x8192_0_1_0) (broadcastInDim S4x4096x8192 ![0, 1, 2] bcast_S1x1x8192_S4x4096x8192_0_1_2 (broadcastInDim S1x1x8192 ![2] bcast_S8192_S1x1x8192_2 (shapeCast _ (extractStridedSlice S1x1x1x8192 ![0, 1, 0, 0] CW slices_S1x3x1x8192_S1x1x1x8192_0_1_0_0) shapeCasts_S1x1x1x8192_S8192)))))
    (mulf (extractStridedSlice S4x4096x8192 ![0, 2, 0] P slices_S4x4098x8192_S4x4096x8192_0_2_0) (broadcastInDim S4x4096x8192 ![0, 1, 2] bcast_S1x1x8192_S4x4096x8192_0_1_2 (broadcastInDim S1x1x8192 ![2] bcast_S8192_S1x1x8192_2 (shapeCast _ (extractStridedSlice S1x1x1x8192 ![0, 2, 0, 0] CW slices_S1x3x1x8192_S1x1x1x8192_0_2_0_0) shapeCasts_S1x1x1x8192_S8192))))

/-- The gate. -/
def GATE (C : FVec Ideal S4x4096x8192 .f32) : FVec Ideal S4x4096x4096 .f32 :=
  mulf (mulf (extractStridedSlice S4x4096x4096 ![0, 0, 0] C slices_S4x4096x8192_S4x4096x4096_0_0_0)
    (mulf (broadcastInDim S4x4096x4096 ![] bcast_S_S4x4096x4096 (constant S_ .f32 0x3F000000#32))
      (addf (broadcastInDim S4x4096x4096 ![] bcast_S_S4x4096x4096 (constant S_ .f32 0x3F800000#32))
        (Host.tanh (mulf (broadcastInDim S4x4096x4096 ![] bcast_S_S4x4096x4096 (constant S_ .f32 0x3F4C422A#32))
          (addf (extractStridedSlice S4x4096x4096 ![0, 0, 0] C slices_S4x4096x8192_S4x4096x4096_0_0_0)
            (mulf (broadcastInDim S4x4096x4096 ![] bcast_S_S4x4096x4096 (constant S_ .f32 0x3D372713#32))
              (mulf (mulf (extractStridedSlice S4x4096x4096 ![0, 0, 0] C slices_S4x4096x8192_S4x4096x4096_0_0_0)
                (extractStridedSlice S4x4096x4096 ![0, 0, 0] C slices_S4x4096x8192_S4x4096x4096_0_0_0))
                (extractStridedSlice S4x4096x4096 ![0, 0, 0] C slices_S4x4096x8192_S4x4096x4096_0_0_0)))))))))
    (extractStridedSlice S4x4096x4096 ![0, 0, 4096] C slices_S4x4096x8192_S4x4096x4096_0_0_4096)

/-- The down-projection. -/
def DOWN (A : FVec Ideal S4x4096x4096 .f32) (WD : FVec Ideal S1x4096x1024 .f32) : FVec Ideal S4x4096x1024 .f32 :=
  Host.dotGeneral dot_S4x4096x4096_S4096x1024_S4x4096x1024_2_0_01_1_n_n none A (shapeCast _ WD shapeCasts_S1x4096x1024_S4096x1024)

/-- The whole result. -/
def OUT (X : FVec Ideal S4x4096x1024 .f32) (G G2 : FVec Ideal S1x1024 .f32) (W : FVec Ideal S1x1024x8192 .f32)
    (CW : FVec Ideal S1x3x1x8192 .f32) (CB : FVec Ideal S1x8192 .f32) (WD : FVec Ideal S1x4096x1024 .f32) : FVec Ideal S16384x1024 .f32 :=
  shapeCast _ (addf X (RMS (DOWN (GATE (CONV (PAD (HID X G W)) CW CB)) WD) G2)) shapeCasts_S4x4096x1024_S16384x1024

theorem rms_at (Y : FVec Ideal S4x4096x1024 .f32) (G : FVec Ideal S1x1024 .f32) (b : Fin 4) (r : Fin 4096) (k : Fin 1024) :
    RMS Y G (ix3 b r k) = FfnSpec.rms (fun l => Y (ix3 b r l)) (fun l => G (ix2 0 l)) k := by
  pointwise [RMS, FfnSpec.rms]

theorem hid_at (X : FVec Ideal S4x4096x1024 .f32) (G : FVec Ideal S1x1024 .f32) (W : FVec Ideal S1x1024x8192 .f32)
    (b : Fin 4) (r : Fin 4096) (c : Fin 8192) : HID X G W (ix3 b r c) = FfnSpec.hid X G W b r c := by
  pointwise [HID, FfnSpec.hid, rms_at]

/-- Four summands the other way round. -/
theorem sum_reorder (b x y z w u v : EReal) : b + x * y + z * w + u * v = u * v + z * w + x * y + b := by ac_rfl

theorem conv_at (H : FVec Ideal S4x4096x8192 .f32) (CW : FVec Ideal S1x3x1x8192 .f32) (CB : FVec Ideal S1x8192 .f32)
    (b : Fin 4) (r : Fin 4096) (c : Fin 8192) : CONV (PAD H) CW CB (ix3 b r c)
    = FfnSpec.conv (fun r => H (ix3 b r c)) (CW (ix4 0 0 0 c)) (CW (ix4 0 1 0 c)) (CW (ix4 0 2 0 c)) (CB (ix2 0 c)) r := by
  have hz : (FloatOps.sitofp FTy.f32 0#32 : Ideal .f32) = (0 : EReal) := by
    show (((0#32 : BitVec 32).toInt : ℝ) : EReal) = 0
    simp
  pointwise [CONV, PAD, FfnSpec.conv, FfnSpec.tap]
  have e1 : ∀ h : 2 ≤ 1 + r.val ∧ 1 + r.val - 2 < 4096, H (ix3 b ⟨1 + r.val - 2, h.2⟩ c) = H (ix3 b ⟨r.val - 1, by omega⟩ c) :=
    fun h => congrArg (fun q => H (ix3 b q c)) (Fin.ext (show 1 + r.val - 2 = r.val - 1 by omega))
  have d1 : (if h : 2 ≤ 1 + r.val ∧ 1 + r.val - 2 < 4096 then H (ix3 b ⟨1 + r.val - 2, h.2⟩ c) else (FloatOps.sitofp FTy.f32 0#32 : Ideal .f32))
      = if h : 1 ≤ r.val then H (ix3 b ⟨r.val - 1, by omega⟩ c) else (0 : EReal) := by
    by_cases h : 1 ≤ r.val
    · rw [dif_pos h, dif_pos (by omega), e1 (by omega)]
    · rw [dif_neg h, dif_neg (by omega), hz]
  have d2 : (if h : 2 ≤ r.val ∧ r.val - 2 < 4096 then H (ix3 b ⟨r.val - 2, h.2⟩ c) else (FloatOps.sitofp FTy.f32 0#32 : Ideal .f32))
      = if h : 2 ≤ r.val then H (ix3 b ⟨r.val - 2, by omega⟩ c) else (0 : EReal) := by
    by_cases h : 2 ≤ r.val
    · rw [dif_pos h, dif_pos (by omega)]
    · rw [dif_neg h, dif_neg (by omega), hz]
  erw [d1, d2]
  exact sum_reorder _ _ _ _ _ _ _

theorem gate_at (C : FVec Ideal S4x4096x8192 .f32) (b : Fin 4) (r : Fin 4096) (c : Fin 4096) :
    GATE C (ix3 b r c) = FfnSpec.gelu (C (ix3 b r ⟨c.val, by omega⟩)) (C (ix3 b r ⟨4096 + c.val, by omega⟩)) := by
  pointwise [GATE, FfnSpec.gelu]

theorem out_at (X : FVec Ideal S4x4096x1024 .f32) (G G2 : FVec Ideal S1x1024 .f32) (W : FVec Ideal S1x1024x8192 .f32)
    (CW : FVec Ideal S1x3x1x8192 .f32) (CB : FVec Ideal S1x8192 .f32) (WD : FVec Ideal S1x4096x1024 .f32) (R : Fin 16384) (j : Fin 1024) :
    OUT X G G2 W CW CB WD (ix2 R j) = FfnSpec.out X G G2 W CW CB WD ⟨R.val / 4096, by omega⟩ ⟨R.val % 4096, by omega⟩ j := by
  pointwise [OUT, DOWN, rms_at, gate_at, conv_at, hid_at, FfnSpec.out, FfnSpec.down, FfnSpec.col]

set_option maxHeartbeats 2000000 in
theorem res_eq (m : (ℓ : Loc nD τ sig) → Buf (Elt Ideal) ℓ) (c : Dev nD) : Cert.FfnReferenceIdeal.Value.res_main_v74 m c
    = OUT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.FfnReferenceIdeal.Value.res_main_v74 OUT DOWN GATE CONV PAD HID RMS
  rfl

end Cert.FfnReferenceIdeal.Val

end
-- ==== Proof.MemKvOut.lean ====
/- The memory's keys and values that the kernel leaves, read at a row and a column. -/
module

public import proofs.«01_k».proof.Proof.Gen.MemKvIdeal.Value
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.MemKvIdeal.Val

open Idealize.ShloMosaic Idealize.ShloMosaic.TcCoe Idealize.SL.Sem
open Idealize.ShloMosaic.Pipeline (Dat)
open Cert.MemKvIdeal Cert.MemKvIdeal.Gen

/-- A row of the normalised memory times a column of the weights. -/
def spec (X : FVec Ideal S4x256x1024 .f32) (G : FVec Ideal S1x1024 .f32) (W : FVec Ideal S1x1024x2048 .f32)
    (b : Fin 4) (r : Fin 256) (j : Fin 2048) : EReal :=
  ∑ k : Fin 1024, FfnSpec.rms (fun l => X (ix3 b r l)) (fun l => G (ix2 0 l)) k * W (ix3 0 k j)

/-- What one block computes. -/
theorem pay1_at (x : FVec Ideal S256x1024 .f32) (g : FVec Ideal S1x1024 .f32) (w : FVec Ideal S1x1024x2048 .f32) (y : Fin 256) (j : Fin 2048) :
    k0_pay1 (F := Ideal) x g w (ix2 y j)
      = ∑ k : Fin 1024, FfnSpec.rms (fun l => x (ix2 y l)) (fun l => g (ix2 0 l)) k * w (ix3 0 k j) := by
  pointwise [k0_pay1, FfnSpec.rms]

variable (m : (ℓ : Loc nD τ sig) → Buf (Elt Ideal) ℓ)

abbrev aX (c : Dev nD) : FVec Ideal S4x256x1024 .f32 := m ((c : Thread nD τ).loc main_arg0)
abbrev aG (c : Dev nD) : FVec Ideal S1x1024 .f32 := m ((c : Thread nD τ).loc main_arg1)
abbrev aW (c : Dev nD) : FVec Ideal S1x1024x2048 .f32 := m ((c : Thread nD τ).loc main_arg2)

theorem idx : ∀ t : Fin cfg0.N, win0_0.index t = ![t.val, 0] ∧ win0_1.index t = ![0, 0] ∧ win0_2.index t = ![0, 0, 0]
    ∧ win0_3.index t = ![t.val, 0] :=
  (by decide +kernel : ∀ t : Fin grid0.N, _)

theorem x_at (c : Dev nD) (t : Fin cfg0.N) (y : Fin 256) (k : Fin 1024) (b : Fin 4) (h : t.val = b.val) :
    (iblk m c 0 t : FVec Ideal S256x1024 .f32) (ix2 y k) = aX m c (ix3 b y k) := by
  blk_simp [iblk]
  entry_read
  pointwise []
  blk_ext [idx t]

theorem g_at (c : Dev nD) (t : Fin cfg0.N) (k : Fin 1024) :
    (iblk m c 1 t : FVec Ideal S1x1024 .f32) (ix2 0 k) = aG m c (ix2 0 k) := by
  blk_simp [iblk]
  entry_read
  pointwise []
  blk_ext [idx t]

theorem w_at (c : Dev nD) (t : Fin cfg0.N) (k : Fin 1024) (q : Fin 2048) :
    (iblk m c 2 t : FVec Ideal S1x1024x2048 .f32) (ix3 0 k q) = aW m c (ix3 0 k q) := by
  blk_simp [iblk]
  entry_read
  blk_ext [idx t]

/-- What a point leaves in its block. -/
theorem out_point (c : Dev nD) (t : Fin cfg0.N) (y : Fin 256) (j : Fin 2048) (b : Fin 4) (h : t.val = b.val) :
    (out0_3 (iblk m c 0 t) (iblk m c 1 t) (iblk m c 2 t) : FVec Ideal S256x2048 .bf16) (ix2 y j) = spec (aX m c) (aG m c) (aW m c) b y j := by
  unfold out0_3
  frame_out
  refine (pay1_at (iblk m c 0 t) (iblk m c 1 t) (iblk m c 2 t) y j).trans ?_
  unfold spec
  rw [show (fun l => (iblk m c 0 t : FVec Ideal S256x1024 .f32) (ix2 y l)) = fun l => aX m c (ix3 b y l) from funext fun l => x_at m c t y l b h,
    show (fun l => (iblk m c 1 t : FVec Ideal S1x1024 .f32) (ix2 0 l)) = fun l => aG m c (ix2 0 l) from funext fun l => g_at m c t l]
  exact Finset.sum_congr rfl fun k _ => by rw [w_at m c t k j]

/-- The array after the run. -/
theorem final (c : Dev nD) : (dats m 0 c).arrAt 3 (cfgs 0).N
    = fun i : S1024x2048.Idx => spec (aX m c) (aG m c) (aW m c)
        ⟨(i 0).val / 256, Nat.div_lt_of_lt_mul (show (i 0).val < 256 * 4 from (i 0).isLt)⟩ ⟨(i 0).val % 256, Nat.mod_lt _ (by omega)⟩ (i 1) := by
  refine (dats m 0 c).arrAt_eq_of_covers 3 _ (by decide +kernel) fun t _ y => ?_
  blk_simp [idx t]
  rw [after0_3]
  idx_vars y
  have ht : t.val < 4 := lt_of_lt_of_eq t.isLt (by decide +kernel)
  refine (out_point m c t y0 y1 ⟨t.val, ht⟩ rfl).trans ?_
  have e0 : (⟨(t.val * 256 + y0.val) / 256, by omega⟩ : Fin 4) = ⟨t.val, ht⟩ := Fin.ext (by show (t.val * 256 + y0.val) / 256 = t.val; omega)
  have e1 : (⟨(t.val * 256 + y0.val) % 256, by omega⟩ : Fin 256) = y0 := Fin.ext (by show (t.val * 256 + y0.val) % 256 = y0.val; omega)
  refine (show _ = spec (aX m c) (aG m c) (aW m c) ⟨(t.val * 256 + y0.val) / 256, by omega⟩ ⟨(t.val * 256 + y0.val) % 256, by omega⟩ y1 by rw [e0, e1]).trans ?_
  refine congrArg _ (Fin.ext ?_)
  blk_simp [idx t]

end Cert.MemKvIdeal.Val

end
-- ==== Proof.MemKvRef.lean ====
/- The plain keys and values of the memory, read at a row and a column. -/
module

public import proofs.«01_k».proof.Proof.Gen.MemKvReferenceIdeal.Run
public import proofs.«01_k».proof.Proof.MemKvOut
public import Idealize.ShloMosaic.Lib.Pointwise

@[expose] public section

set_option maxRecDepth 16384

noncomputable section

namespace Cert.MemKvReferenceIdeal.Val

open Idealize.ShloMosaic Idealize.ShloMosaic.TcCoe Idealize.SL.Sem
open Cert.MemKvReferenceIdeal Cert.MemKvReferenceIdeal.Gen

/-- The normalised rows. -/
def RMS (Y : FVec Ideal S4x256x1024 .f32) (G : FVec Ideal S1x1024 .f32) : FVec Ideal S4x256x1024 .f32 :=
  mulf (mulf Y (broadcastInDim S4x256x1024 ![0, 1, 2] bcast_S4x256x1_S4x256x1024_0_1_2 (Host.rsqrt (addf
    (Host.divf (broadcastInDim S4x256x1 ![0, 1] bcast_S4x256_S4x256x1_0_1 (Host.reduceAdd (mulf Y Y) (constant S_ .f32 0x00000000#32) reducesTo_S4x256x1024_S4x256_d2 h_S_))
      (broadcastInDim S4x256x1 ![] bcast_S_S4x256x1 (constant S_ .f32 0x44800000#32)))
    (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 (shapeCast _ G shapeCasts_S1x1024_S1024)))

/-- The whole result. -/
def OUT (X : FVec Ideal S4x256x1024 .f32) (G : FVec Ideal S1x1024 .f32) (W : FVec Ideal S1x1024x2048 .f32) : FVec Ideal S1024x2048 .bf16 :=
  truncf .bf16 (shapeCast _ (Host.dotGeneral dot_S4x256x1024_S1024x2048_S4x256x2048_2_0_01_1_n_n none (RMS X G)
    (shapeCast _ W shapeCasts_S1x1024x2048_S1024x2048)) shapeCasts_S4x256x2048_S1024x2048) bitsLt_bf16_f32

theorem rms_at (Y : FVec Ideal S4x256x1024 .f32) (G : FVec Ideal S1x1024 .f32) (b : Fin 4) (r : Fin 256) (k : Fin 1024) :
    RMS Y G (ix3 b r k) = FfnSpec.rms (fun l => Y (ix3 b r l)) (fun l => G (ix2 0 l)) k := by
  pointwise [RMS, FfnSpec.rms]

theorem out_at (X : FVec Ideal S4x256x1024 .f32) (G : FVec Ideal S1x1024 .f32) (W : FVec Ideal S1x1024x2048 .f32) (R : Fin 1024) (j : Fin 2048) :
    OUT X G W (ix2 R j) = Cert.MemKvIdeal.Val.spec X G W ⟨R.val / 256, by omega⟩ ⟨R.val % 256, by omega⟩ j := by
  pointwise [OUT, rms_at, Cert.MemKvIdeal.Val.spec]

end Cert.MemKvReferenceIdeal.Val

end
-- ==== Proof.InProjSpec.lean ====
/- The combined projection's mathematics at one row and one column. -/
module

public import proofs.«01_k».proof.InProjIdeal
public import proofs.«01_k».proof.Proof.FfnSpec

@[expose] public section

set_option maxRecDepth 16384

noncomputable section

namespace Cert.InProjSpec

open Idealize.ShloMosaic Cert.InProjIdeal

/-- A normalised row times a column of the combined projection's weights. -/
def proj (X : FVec Ideal S4x4096x1024 .f32) (G : FVec Ideal S1x1024 .f32) (W : FVec Ideal S1x1024x2572 .f32) (b : Fin 4) (r : Fin 4096) (j : Fin 2572) : EReal :=
  ∑ k : Fin 1024, FfnSpec.rms (fun l => X (ix3 b r l)) (fun l => G (ix2 0 l)) k * W (ix3 0 k j)

end Cert.InProjSpec

end
-- ==== Proof.InProjBlock.lean ====
/- What one grid point of the combined projection computes from its blocks, at a row and a column. -/
module

public import proofs.«01_k».proof.Proof.Gen.InProjIdeal.Skeleton
public import proofs.«01_k».proof.Proof.InProjSpec
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen

theorem pay3_at (w : FVec Ideal S1x256x1024 .f32) (k : Fin 1024) (q : Fin 256) : k0_pay3 (F := Ideal) w (ix2 k q) = w (ix3 0 q k) := by
  pointwise [k0_pay3]

theorem pay4_at (w : FVec Ideal S1x256x1024 .f32) (k : Fin 1024) (q : Fin 256) : k0_pay4 (F := Ideal) w (ix2 k q) = w (ix3 0 q k) := by
  pointwise [k0_pay4]

theorem pay5_at (w : FVec Ideal S1x256x1024 .f32) (k : Fin 1024) (q : Fin 256) : k0_pay5 (F := Ideal) w (ix2 k q) = w (ix3 0 q k) := by
  pointwise [k0_pay5]

theorem pay6_at (w : FVec Ideal S1x256x1024 .f32) (k : Fin 1024) (q : Fin 256) : k0_pay6 (F := Ideal) w (ix2 k q) = w (ix3 0 q k) := by
  pointwise [k0_pay6]

theorem pay7_at (w : FVec Ideal S1x256x1024 .f32) (k : Fin 1024) (q : Fin 256) : k0_pay7 (F := Ideal) w (ix2 k q) = w (ix3 0 q k) := by
  pointwise [k0_pay7]

theorem pay9_at (w : FVec Ideal S1x256x1024 .f32) (k : Fin 1024) (q : Fin 256) : k0_pay9 (F := Ideal) w (ix2 k q) = w (ix3 0 q k) := by
  pointwise [k0_pay9]

theorem pay10_at (w : FVec Ideal S1x256x1024 .f32) (k : Fin 1024) (q : Fin 256) : k0_pay10 (F := Ideal) w (ix2 k q) = w (ix3 0 q k) := by
  pointwise [k0_pay10]

theorem pay11_at (w : FVec Ideal S1x256x1024 .f32) (k : Fin 1024) (q : Fin 256) : k0_pay11 (F := Ideal) w (ix2 k q) = w (ix3 0 q k) := by
  pointwise [k0_pay11]

theorem pay12_at (w : FVec Ideal S1x256x1024 .f32) (k : Fin 1024) (q : Fin 256) : k0_pay12 (F := Ideal) w (ix2 k q) = w (ix3 0 q k) := by
  pointwise [k0_pay12]

theorem pay13_at (w : FVec Ideal S1x256x1024 .f32) (k : Fin 1024) (q : Fin 256) : k0_pay13 (F := Ideal) w (ix2 k q) = w (ix3 0 q k) := by
  pointwise [k0_pay13]

theorem pay8_at (w : FVec Ideal S1024x256 .bf16) (k : Fin 1024) (q : Fin 256) : k0_pay8 (F := Ideal) w (ix2 k q) = w (ix2 k q) := by
  pointwise [k0_pay8]

/-- The normalised rows. -/
theorem pay17_at (x : FVec Ideal S1024x1024 .f32) (g : FVec Ideal S1x1024 .f32) (y : Fin 1024) (k : Fin 1024) :
    k0_pay17 (F := Ideal) x g (ix2 y k) = FfnSpec.rms (fun l => x (ix2 y l)) (fun l => g (ix2 0 l)) k := by
  pointwise [k0_pay17, FfnSpec.rms]

theorem pay26_at (h : FVec Ideal S1024x1024 .bf16) (w : FVec Ideal S1024x2560 .bf16) (y : Fin 1024) (q : Fin 2560) :
    k0_pay26 (F := Ideal) h w (ix2 y q) = ∑ k : Fin 1024, h (ix2 y k) * w (ix2 k q) := by
  pointwise [k0_pay26]

/-- The pooling channels of a tile. -/
theorem pay27_at (x : FVec Ideal S1024x1024 .f32) (g : FVec Ideal S1x1024 .f32) (w : FVec Ideal S1024x2560 .bf16) (y : Fin 1024) (q : Fin 256) :
    k0_pay27 (F := Ideal) (k0_pay17 x g) w (ix2 y q)
      = ∑ k : Fin 1024, FfnSpec.rms (fun l => x (ix2 y l)) (fun l => g (ix2 0 l)) k * w (ix2 k ⟨q.val, by omega⟩) := by
  pointwise [k0_pay27, pay26_at, pay17_at]

/-- The values of a tile. -/
theorem pay30_at (x : FVec Ideal S1024x1024 .f32) (g : FVec Ideal S1x1024 .f32) (w : FVec Ideal S1024x2560 .bf16) (y : Fin 1024) (q : Fin 768) :
    k0_pay30 (F := Ideal) (k0_pay17 x g) w (ix2 y q)
      = ∑ k : Fin 1024, FfnSpec.rms (fun l => x (ix2 y l)) (fun l => g (ix2 0 l)) k * w (ix2 k ⟨1792 + q.val, by omega⟩) := by
  pointwise [k0_pay30, pay26_at, pay17_at]

/-- The stores so far hold `f` in their first `n` columns. -/
def Fits (f : Fin 1024 → Fin 2560 → EReal) (L : List (View.Piece (Elt Ideal) S1024x2560 .bf16)) (n : ℕ) : Prop :=
  ∀ (k : Fin 1024) (q : Fin 2560), q.val < n → View.canon (Val := Elt Ideal) L (ix2 k q) = f k q

theorem fits_nil (f : Fin 1024 → Fin 2560 → EReal) : Fits f [] 0 := fun _ _ h => absurd h (Nat.not_lt_zero _)

/-- One more store. -/
theorem fits_cons (f : Fin 1024 → Fin 2560 → EReal) (L : List (View.Piece (Elt Ideal) S1024x2560 .bf16)) (n : ℕ) (inb)
    (p : Vec Ideal S1024x256 .bf16) (hn : n + 256 ≤ 2560) (hL : Fits f L n)
    (hp : ∀ (k : Fin 1024) (z : Fin 256), p (ix2 k z) = f k ⟨n + z.val, by omega⟩) :
    Fits f (⟨(Rect.unit (s := S1024x2560) ![0, n] ![1024, 256] inb), p⟩ :: L) (n + 256) := fun k q hq => by
  by_cases h : q.val < n
  · refine (View.canon_cons_of_not_mem (⟨(Rect.unit (s := S1024x2560) ![0, n] ![1024, 256] inb), p⟩ : View.Piece (Elt Ideal) S1024x2560 .bf16) L (y := ix2 k q) ?_).trans (hL k q h)
    intro hy
    mem_blk at hy
    exact absurd (hy 1).1 (by show ¬ n ≤ q.val; omega)
  · have e : (ix2 k q : S1024x2560.Idx) = (Rect.unit (s := S1024x2560) ![0, n] ![1024, 256] inb).emb (ix2 k (⟨q.val - n, by omega⟩ : Fin 256)) := by
      blk_ext
    refine (congrArg _ e).trans ((View.canon_cons_emb (Rect.unit (s := S1024x2560) ![0, n] ![1024, 256] inb) p L _).trans ((hp k ⟨q.val - n, by omega⟩).trans (congrArg (f k) (Fin.ext ?_))))
    show n + (q.val - n) = q.val
    omega

end Cert.InProjIdeal.Val

end
-- ==== Proof.InProjFinal.lean ====
/- The blocks of the combined projection's arguments, and the weights' scratch. -/
module

public import proofs.«01_k».proof.Proof.Gen.InProjIdeal.Value
public import proofs.«01_k».proof.Proof.InProjBlock
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

abbrev aX (c : Dev nD) : FVec Ideal S4x4096x1024 .f32 := m ((c : Thread nD τ).loc main_arg0)
abbrev aG (c : Dev nD) : FVec Ideal S1x1024 .f32 := m ((c : Thread nD τ).loc main_arg1)
abbrev aW (c : Dev nD) : FVec Ideal S1x1024x2572 .f32 := m ((c : Thread nD τ).loc main_arg2)

theorem idx : ∀ t : Fin cfg0.N, win0_0.index t = ![t.val, 0] ∧ win0_1.index t = ![0, 0] ∧ win0_2.index t = ![0, 0, 0]
    ∧ win0_6.index t = ![t.val, 0] ∧ win0_9.index t = ![t.val, 0] :=
  (by decide +kernel : ∀ t : Fin grid0.N, _)

theorem V_v3 (c : Dev nD) : V m c main_v3 = shapeCast S16384x1024 (aX m c) shapeCasts_S4x4096x1024_S16384x1024 := by
  show StableHlo.after (hostOps0 ++ (hostOps0_1 ++ (hostOps0_2 ++ []))) (fun b => m (c, b)) _ = _
  simp only [hostOps0, hostOps0_1, hostOps0_2, List.append_nil, List.cons_append, List.nil_append]
  entry_read
  rfl

theorem V_v5 (c : Dev nD) : V m c main_v5 = shapeCast S1x1024 (shapeCast S1024 (aG m c) shapeCasts_S1x1024_S1024) shapeCasts_S1024_S1x1024 := by
  show StableHlo.after (hostOps0 ++ (hostOps0_1 ++ (hostOps0_2 ++ []))) (fun b => m (c, b)) _ = _
  simp only [hostOps0, hostOps0_1, hostOps0_2, List.append_nil, List.cons_append, List.nil_append]
  entry_read
  rfl

theorem V_v6 (c : Dev nD) : V m c main_v6 = transpose S1x2572x1024 [0, 2, 1] (aW m c) transposes_S1x1024x2572_S1x2572x1024_0_2_1 := by
  show StableHlo.after (hostOps0 ++ (hostOps0_1 ++ (hostOps0_2 ++ []))) (fun b => m (c, b)) _ = _
  simp only [hostOps0, hostOps0_1, hostOps0_2, List.append_nil, List.cons_append, List.nil_append]
  entry_read
  rfl

theorem x_at (c : Dev nD) (t : Fin cfg0.N) (y : Fin 1024) (k : Fin 1024) (b : Fin 4) (r : Fin 4096) (h : 1024 * t.val + y.val = 4096 * b.val + r.val) :
    (iblk m c 0 t : FVec Ideal S1024x1024 .f32) (ix2 y k) = aX m c (ix3 b r k) := by
  blk_simp [iblk]
  rw [V_v3 m c]
  pointwise []
  blk_ext [idx t]

theorem g_at (c : Dev nD) (t : Fin cfg0.N) (k : Fin 1024) :
    (iblk m c 1 t : FVec Ideal S1x1024 .f32) (ix2 0 k) = aG m c (ix2 0 k) := by
  blk_simp [iblk]
  rw [V_v5 m c]
  pointwise []
  blk_ext [idx t]

theorem w_at (c : Dev nD) (t : Fin cfg0.N) (q : Fin 2572) (k : Fin 1024) :
    (iblk m c 2 t : FVec Ideal S1x2572x1024 .f32) (ix3 0 q k) = aW m c (ix3 0 k q) := by
  blk_simp [iblk]
  rw [V_v6 m c]
  pointwise []
  blk_ext [idx t]

/-- Rows of the transposed weights. -/
theorem ldW (w : Vec Ideal S1x2572x1024 .f32) (n : ℕ) (inb) (q : Fin 256) (k : Fin 1024) (h : n + q.val < 2572) :
    (View.ld (Val := Elt Ideal) (e' := .f32) w (Rect.unit (s := S1x2572x1024) ![0, n, 0] ![1, 256, 1024] inb) : Vec Ideal S1x256x1024 .f32) (ix3 0 q k)
      = w (ix3 0 ⟨n + q.val, h⟩ k) := by
  refine (View.ld_apply _ _ _).trans (congrArg w ?_)
  blk_ext <;> simp [Rect.idx_unit_val]

/-- The weights as the scratch holds them. -/
def wS (c : Dev nD) (k : Fin 1024) (q : Fin 2560) : EReal := aW m c (ix3 0 k ⟨q.val, by omega⟩)

theorem piece (c : Dev nD) (t : Fin cfg0.N) (n : ℕ) (inb) (hn : n + 256 ≤ 2560) (p : Vec Ideal S1x256x1024 .f32 → Vec Ideal S1024x256 .bf16)
    (hp : ∀ w k q, p w (ix2 k q) = w (ix3 0 q k)) (k : Fin 1024) (z : Fin 256) :
    p (View.ld (Val := Elt Ideal) (e' := .f32) (show Vec Ideal S1x2572x1024 .f32 from iblk m c 2 t) (Rect.unit (s := S1x2572x1024) ![0, n, 0] ![1, 256, 1024] inb)) (ix2 k z)
      = wS m c k ⟨n + z.val, by omega⟩ :=
  (hp _ k z).trans ((ldW _ n inb z k (by omega)).trans (w_at m c t ⟨n + z.val, by omega⟩ k))

/-- A normalised row of the tile times a column of the weights. -/
theorem row_dot (c : Dev nD) (t : Fin cfg0.N) (y : Fin 1024) (q : Fin 2572) (b : Fin 4) (r : Fin 4096) (tie : 1024 * t.val + y.val = 4096 * b.val + r.val)
    (w : Fin 1024 → EReal) (hw : ∀ k, w k = aW m c (ix3 0 k q)) :
    ∑ k : Fin 1024, FfnSpec.rms (fun l => (iblk m c 0 t : FVec Ideal S1024x1024 .f32) (ix2 y l)) (fun l => (iblk m c 1 t : FVec Ideal S1x1024 .f32) (ix2 0 l)) k * w k
      = InProjSpec.proj (aX m c) (aG m c) (aW m c) b r q := by
  unfold InProjSpec.proj
  rw [show (fun l => (iblk m c 0 t : FVec Ideal S1024x1024 .f32) (ix2 y l)) = fun l => aX m c (ix3 b r l) from funext fun l => x_at m c t y l b r tie,
    show (fun l => (iblk m c 1 t : FVec Ideal S1x1024 .f32) (ix2 0 l)) = fun l => aG m c (ix2 0 l) from funext fun l => g_at m c t l]
  exact Finset.sum_congr rfl fun k _ => by rw [hw k]

/-- The weights' scratch holds the weights. -/
def Holds (c : Dev nD) (s : FVec Ideal S1024x2560 .bf16) : Prop := ∀ k q, s (ix2 k q) = wS m c k q

theorem u_point (c : Dev nD) (t : Fin cfg0.N) (s : FVec Ideal S1024x2560 .bf16) (hs : Holds m c s) (y : Fin 1024) (j : Fin 256)
    (b : Fin 4) (r : Fin 4096) (tie : 1024 * t.val + y.val = 4096 * b.val + r.val) :
    k0_pay27 (F := Ideal) (k0_pay17 (iblk m c 0 t) (iblk m c 1 t)) s (ix2 y j)
      = InProjSpec.proj (aX m c) (aG m c) (aW m c) b r ⟨j.val, by omega⟩ :=
  (pay27_at (iblk m c 0 t) (iblk m c 1 t) s y j).trans (row_dot m c t y ⟨j.val, by omega⟩ b r tie _ fun k => hs k ⟨j.val, by omega⟩)

theorem v_point (c : Dev nD) (t : Fin cfg0.N) (s : FVec Ideal S1024x2560 .bf16) (hs : Holds m c s) (y : Fin 1024) (j : Fin 768)
    (b : Fin 4) (r : Fin 4096) (tie : 1024 * t.val + y.val = 4096 * b.val + r.val) :
    k0_pay30 (F := Ideal) (k0_pay17 (iblk m c 0 t) (iblk m c 1 t)) s (ix2 y j)
      = InProjSpec.proj (aX m c) (aG m c) (aW m c) b r ⟨1792 + j.val, by omega⟩ :=
  (pay30_at (iblk m c 0 t) (iblk m c 1 t) s y j).trans (row_dot m c t y ⟨1792 + j.val, by omega⟩ b r tie _ fun k => hs k ⟨1792 + j.val, by omega⟩)

end Cert.InProjIdeal.Val

end
-- ==== Proof.InProjOut.lean ====
/- The two arrays of the combined projection that the kernel leaves. -/
module

public import proofs.«01_k».proof.Proof.InProjFinal
public import Idealize.ShloMosaic.Lib.Pipeline.ReadBack

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- The first point's stores into the weights' scratch, the last one first. -/
def stores (c : Dev nD) (t : Fin cfg0.N) : List (View.Piece (Elt Ideal) S1024x2560 .bf16) :=
  [⟨Rect.unit (s := S1024x2560) ![0, 2304] ![1024, 256] inb_S1024x2560_S1024x256_0_2304, k0_pay13 (F := Ideal) (View.ld (Val := Elt Ideal) (e' := .f32) (show Vec Ideal S1x2572x1024 .f32 from iblk m c 2 t) (Rect.unit (s := S1x2572x1024) ![0, 2304, 0] ![1, 256, 1024] inb_S1x2572x1024_S1x256x1024_0_2304_0))⟩,
    ⟨Rect.unit (s := S1024x2560) ![0, 2048] ![1024, 256] inb_S1024x2560_S1024x256_0_2048, k0_pay12 (F := Ideal) (View.ld (Val := Elt Ideal) (e' := .f32) (show Vec Ideal S1x2572x1024 .f32 from iblk m c 2 t) (Rect.unit (s := S1x2572x1024) ![0, 2048, 0] ![1, 256, 1024] inb_S1x2572x1024_S1x256x1024_0_2048_0))⟩,
    ⟨Rect.unit (s := S1024x2560) ![0, 1792] ![1024, 256] inb_S1024x2560_S1024x256_0_1792, k0_pay11 (F := Ideal) (View.ld (Val := Elt Ideal) (e' := .f32) (show Vec Ideal S1x2572x1024 .f32 from iblk m c 2 t) (Rect.unit (s := S1x2572x1024) ![0, 1792, 0] ![1, 256, 1024] inb_S1x2572x1024_S1x256x1024_0_1792_0))⟩,
    ⟨Rect.unit (s := S1024x2560) ![0, 1536] ![1024, 256] inb_S1024x2560_S1024x256_0_1536, k0_pay10 (F := Ideal) (View.ld (Val := Elt Ideal) (e' := .f32) (show Vec Ideal S1x2572x1024 .f32 from iblk m c 2 t) (Rect.unit (s := S1x2572x1024) ![0, 1536, 0] ![1, 256, 1024] inb_S1x2572x1024_S1x256x1024_0_1536_0))⟩,
    ⟨Rect.unit (s := S1024x2560) ![0, 1280] ![1024, 256] inb_S1024x2560_S1024x256_0_1280, k0_pay9 (F := Ideal) (View.ld (Val := Elt Ideal) (e' := .f32) (show Vec Ideal S1x2572x1024 .f32 from iblk m c 2 t) (Rect.unit (s := S1x2572x1024) ![0, 1280, 0] ![1, 256, 1024] inb_S1x2572x1024_S1x256x1024_0_1280_0))⟩,
    ⟨Rect.unit (s := S1024x2560) ![0, 1024] ![1024, 256] inb_S1024x2560_S1024x256_0_1024, k0_pay8 (F := Ideal) (k0_pay7 (F := Ideal) (View.ld (Val := Elt Ideal) (e' := .f32) (show Vec Ideal S1x2572x1024 .f32 from iblk m c 2 t) (Rect.unit (s := S1x2572x1024) ![0, 1024, 0] ![1, 256, 1024] inb_S1x2572x1024_S1x256x1024_0_1024_0)))⟩,
    ⟨Rect.unit (s := S1024x2560) ![0, 768] ![1024, 256] inb_S1024x2560_S1024x256_0_768, k0_pay6 (F := Ideal) (View.ld (Val := Elt Ideal) (e' := .f32) (show Vec Ideal S1x2572x1024 .f32 from iblk m c 2 t) (Rect.unit (s := S1x2572x1024) ![0, 768, 0] ![1, 256, 1024] inb_S1x2572x1024_S1x256x1024_0_768_0))⟩,
    ⟨Rect.unit (s := S1024x2560) ![0, 512] ![1024, 256] inb_S1024x2560_S1024x256_0_512, k0_pay5 (F := Ideal) (View.ld (Val := Elt Ideal) (e' := .f32) (show Vec Ideal S1x2572x1024 .f32 from iblk m c 2 t) (Rect.unit (s := S1x2572x1024) ![0, 512, 0] ![1, 256, 1024] inb_S1x2572x1024_S1x256x1024_0_512_0))⟩,
    ⟨Rect.unit (s := S1024x2560) ![0, 256] ![1024, 256] inb_S1024x2560_S1024x256_0_256, k0_pay4 (F := Ideal) (View.ld (Val := Elt Ideal) (e' := .f32) (show Vec Ideal S1x2572x1024 .f32 from iblk m c 2 t) (Rect.unit (s := S1x2572x1024) ![0, 256, 0] ![1, 256, 1024] inb_S1x2572x1024_S1x256x1024_0_256_0))⟩,
    ⟨Rect.unit (s := S1024x2560) ![0, 0] ![1024, 256] inb_S1024x2560_S1024x256_0_0, k0_pay3 (F := Ideal) (View.ld (Val := Elt Ideal) (e' := .f32) (show Vec Ideal S1x2572x1024 .f32 from iblk m c 2 t) (Rect.unit (s := S1x2572x1024) ![0, 0, 0] ![1, 256, 1024] inb_S1x2572x1024_S1x256x1024_0_0_0))⟩]

theorem stores_fit (c : Dev nD) (t : Fin cfg0.N) : Fits (wS m c) (stores m c t) 2560 :=
  fits_cons _ _ 2304 _ _ (by omega) (fits_cons _ _ 2048 _ _ (by omega) (fits_cons _ _ 1792 _ _ (by omega) (fits_cons _ _ 1536 _ _ (by omega) (fits_cons _ _ 1280 _ _ (by omega) (fits_cons _ _ 1024 _ _ (by omega) (fits_cons _ _ 768 _ _ (by omega) (fits_cons _ _ 512 _ _ (by omega) (fits_cons _ _ 256 _ _ (by omega) (fits_cons _ _ 0 _ _ (by omega) (fits_nil _)
    (piece m c t 0 _ (by omega) (k0_pay3 (F := Ideal)) pay3_at))
    (piece m c t 256 _ (by omega) (k0_pay4 (F := Ideal)) pay4_at))
    (piece m c t 512 _ (by omega) (k0_pay5 (F := Ideal)) pay5_at))
    (piece m c t 768 _ (by omega) (k0_pay6 (F := Ideal)) pay6_at))
    (piece m c t 1024 _ (by omega) (fun w => k0_pay8 (F := Ideal) (k0_pay7 (F := Ideal) w)) fun w k q => (pay8_at _ k q).trans (pay7_at w k q)))
    (piece m c t 1280 _ (by omega) (k0_pay9 (F := Ideal)) pay9_at))
    (piece m c t 1536 _ (by omega) (k0_pay10 (F := Ideal)) pay10_at))
    (piece m c t 1792 _ (by omega) (k0_pay11 (F := Ideal)) pay11_at))
    (piece m c t 2048 _ (by omega) (k0_pay12 (F := Ideal)) pay12_at))
    (piece m c t 2304 _ (by omega) (k0_pay13 (F := Ideal)) pay13_at)

abbrev rAll : Rect S1024x2560 := Rect.unit (s := S1024x2560) ![0, 0] ![1024, 2560] inb_S1024x2560_S1024x2560_0_0

/-- What is read back from the stores are the weights. -/
theorem read_back (c : Dev nD) (t : Fin cfg0.N) (V : View sig .tc .vmem S1024x2560 .bf16) :
    Holds m c (V.readCov (Val := Elt Ideal) (stores m c t) rAll.toLoadRect : Vec Ideal S1024x2560 .bf16) := fun k q => by
  rw [View.readCov_eq_canon']
  refine Eq.trans (congrArg (View.canon (Val := Elt Ideal) (stores m c t)) ?_) (stores_fit m c t k q q.isLt)
  blk_ext <;> simp [rAll, Rect.idx_unit_val]

/-- After the first point the scratch holds the weights, -/
theorem scratch_A (c : Dev nD) (t : Fin cfg0.N) (h0 : t.val % 16 = 0) (h1 : t.val % 4 = 0) :
    Holds m c (outsAt0 m c t.val t.isLt).2.2.2.2.2.1 := fun k q => by
  rw [outsAt0_A m c t h0 h1]
  frame_out
  exact stores_fit m c t k q q.isLt

/-- and after every later one. -/
theorem scratch (c : Dev nD) : ∀ (n : ℕ) (hn : n < cfg0.N), Holds m c (outsAt0 m c n hn).2.2.2.2.2.1
  | 0, hn => scratch_A m c ⟨0, hn⟩ rfl rfl
  | n + 1, hn => by
    have ht : n + 1 < 16 := lt_of_lt_of_eq hn (by decide +kernel)
    have h0 : ¬ (n + 1) % 16 = 0 := by omega
    have ih := scratch c n (Nat.lt_of_succ_lt hn)
    intro k q
    refine Eq.trans ?_ (ih k q)
    by_cases h1 : (n + 1) % 4 = 0
    · rw [outsAt0_C m c ⟨n + 1, hn⟩ h0 h1]
      rfl
    · rw [outsAt0_B m c ⟨n + 1, hn⟩ h0 h1]
      rfl

/-- What a point leaves in its block of the pooling channels. -/
theorem u_out (c : Dev nD) (t : Fin cfg0.N) (y : Fin 1024) (j : Fin 256) (b : Fin 4) (r : Fin 4096) (tie : 1024 * t.val + y.val = 4096 * b.val + r.val) :
    (outsAt0 m c t.val t.isLt).1 (ix2 y j) = InProjSpec.proj (aX m c) (aG m c) (aW m c) b r ⟨j.val, by omega⟩ := by
  by_cases h0 : t.val % 16 = 0
  · rw [outsAt0_A m c t h0 (by omega)]; frame_out
    exact u_point m c t _ (read_back m c t _) y j b r tie
  · by_cases h1 : t.val % 4 = 0
    · rw [outsAt0_C m c t h0 h1]; frame_out
      rw [read_unread_whole]
      exact u_point m c t _ (scratch m c (t.val - 1) _) y j b r tie
    · rw [outsAt0_B m c t h0 h1]; frame_out
      rw [read_unread_whole]
      exact u_point m c t _ (scratch m c (t.val - 1) _) y j b r tie

/-- The array after the run. -/
theorem u_final (c : Dev nD) : (dats m 0 c).arrAt 6 (cfgs 0).N
    = fun i : S16384x256.Idx => (fun (R : Fin 16384) (j : Fin 256) => InProjSpec.proj (aX m c) (aG m c) (aW m c)
        ⟨R.val / 4096, by omega⟩ ⟨R.val % 4096, by omega⟩ ⟨j.val, by omega⟩) (i 0) (i 1) := by
  refine (dats m 0 c).arrAt_eq_of_covers 6 _ (by decide +kernel) fun t _ y => ?_
  blk_simp [idx t]
  rw [after0_6]
  idx_vars y
  have ht : t.val < 16 := lt_of_lt_of_eq t.isLt (by decide +kernel)
  refine (u_out m c t y0 y1 ⟨(t.val * 1024 + y0.val) / 4096, by omega⟩ ⟨(t.val * 1024 + y0.val) % 4096, by omega⟩
    (by show 1024 * t.val + y0.val = 4096 * ((t.val * 1024 + y0.val) / 4096) + (t.val * 1024 + y0.val) % 4096; omega)).trans (congrArg _ (Fin.ext ?_))
  blk_simp [idx t]

/-- What a point leaves in its block of the values. -/
theorem v_out (c : Dev nD) (t : Fin cfg0.N) (y : Fin 1024) (j : Fin 768) (b : Fin 4) (r : Fin 4096) (tie : 1024 * t.val + y.val = 4096 * b.val + r.val) :
    (outsAt0 m c t.val t.isLt).2.2.2.1 (ix2 y j) = InProjSpec.proj (aX m c) (aG m c) (aW m c) b r ⟨1792 + j.val, by omega⟩ := by
  by_cases h0 : t.val % 16 = 0
  · rw [outsAt0_A m c t h0 (by omega)]; frame_out
    exact v_point m c t _ (read_back m c t _) y j b r tie
  · by_cases h1 : t.val % 4 = 0
    · rw [outsAt0_C m c t h0 h1]; frame_out
      rw [read_unread_whole]
      exact v_point m c t _ (scratch m c (t.val - 1) _) y j b r tie
    · rw [outsAt0_B m c t h0 h1]; frame_out
      rw [read_unread_whole]
      exact v_point m c t _ (scratch m c (t.val - 1) _) y j b r tie

/-- The array after the run. -/
theorem v_final (c : Dev nD) : (dats m 0 c).arrAt 9 (cfgs 0).N
    = fun i : S16384x768.Idx => (fun (R : Fin 16384) (j : Fin 768) => InProjSpec.proj (aX m c) (aG m c) (aW m c)
        ⟨R.val / 4096, by omega⟩ ⟨R.val % 4096, by omega⟩ ⟨1792 + j.val, by omega⟩) (i 0) (i 1) := by
  refine (dats m 0 c).arrAt_eq_of_covers 9 _ (by decide +kernel) fun t _ y => ?_
  blk_simp [idx t]
  rw [after0_9]
  idx_vars y
  have ht : t.val < 16 := lt_of_lt_of_eq t.isLt (by decide +kernel)
  refine (v_out m c t y0 y1 ⟨(t.val * 1024 + y0.val) / 4096, by omega⟩ ⟨(t.val * 1024 + y0.val) % 4096, by omega⟩
    (by show 1024 * t.val + y0.val = 4096 * ((t.val * 1024 + y0.val) / 4096) + (t.val * 1024 + y0.val) % 4096; omega)).trans (congrArg _ (Fin.ext ?_))
  blk_simp [idx t]

end Cert.InProjIdeal.Val

end
-- ==== Proof.InProjRef.lean ====
/- The plain projection of the pooling channels and of the values, read at a row and a column. -/
module

public import proofs.«01_k».proof.Proof.Gen.InProjReferenceIdeal.Run
public import proofs.«01_k».proof.Proof.InProjSpec
public import Idealize.ShloMosaic.Lib.Pointwise

@[expose] public section

set_option maxRecDepth 16384

noncomputable section

namespace Cert.InProjReferenceIdeal.Val

open Idealize.ShloMosaic Idealize.ShloMosaic.TcCoe Idealize.SL.Sem
open Cert.InProjReferenceIdeal Cert.InProjReferenceIdeal.Gen

/-- The normalised rows. -/
def RMS (Y : FVec Ideal S4x4096x1024 .f32) (G : FVec Ideal S1x1024 .f32) : FVec Ideal S4x4096x1024 .f32 :=
  mulf (mulf Y (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf Y Y) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ G shapeCasts_S1x1024_S1024)))

/-- The combined projection. -/
def PROJ (X : FVec Ideal S4x4096x1024 .f32) (G : FVec Ideal S1x1024 .f32) (W : FVec Ideal S1x1024x2572 .f32) : FVec Ideal S4x4096x2572 .f32 :=
  Host.dotGeneral dot_S4x4096x1024_S1024x2572_S4x4096x2572_2_0_01_1_n_n none (RMS X G) (shapeCast _ W shapeCasts_S1x1024x2572_S1024x2572)

/-- The pooling channels. -/
def OUTU (X : FVec Ideal S4x4096x1024 .f32) (G : FVec Ideal S1x1024 .f32) (W : FVec Ideal S1x1024x2572 .f32) : FVec Ideal S16384x256 .f32 :=
  shapeCast _ (extractStridedSlice S4x4096x256 ![0, 0, 0] (PROJ X G W) slices_S4x4096x2572_S4x4096x256_0_0_0) shapeCasts_S4x4096x256_S16384x256

/-- The values. -/
def OUTV (X : FVec Ideal S4x4096x1024 .f32) (G : FVec Ideal S1x1024 .f32) (W : FVec Ideal S1x1024x2572 .f32) : FVec Ideal S16384x768 .bf16 :=
  truncf .bf16 (shapeCast _ (extractStridedSlice S4x4096x768 ![0, 0, 1792] (PROJ X G W) slices_S4x4096x2572_S4x4096x768_0_0_1792) shapeCasts_S4x4096x768_S16384x768) bitsLt_bf16_f32

theorem rms_at (Y : FVec Ideal S4x4096x1024 .f32) (G : FVec Ideal S1x1024 .f32) (b : Fin 4) (r : Fin 4096) (k : Fin 1024) :
    RMS Y G (ix3 b r k) = FfnSpec.rms (fun l => Y (ix3 b r l)) (fun l => G (ix2 0 l)) k := by
  pointwise [RMS, FfnSpec.rms]

theorem proj_at (X : FVec Ideal S4x4096x1024 .f32) (G : FVec Ideal S1x1024 .f32) (W : FVec Ideal S1x1024x2572 .f32) (b : Fin 4) (r : Fin 4096) (j : Fin 2572) :
    PROJ X G W (ix3 b r j) = InProjSpec.proj X G W b r j := by
  pointwise [PROJ, rms_at, InProjSpec.proj]

theorem outU_at (X : FVec Ideal S4x4096x1024 .f32) (G : FVec Ideal S1x1024 .f32) (W : FVec Ideal S1x1024x2572 .f32) (R : Fin 16384) (j : Fin 256) :
    OUTU X G W (ix2 R j) = InProjSpec.proj X G W ⟨R.val / 4096, by omega⟩ ⟨R.val % 4096, by omega⟩ ⟨j.val, by omega⟩ := by
  pointwise [OUTU, proj_at]

theorem outV_at (X : FVec Ideal S4x4096x1024 .f32) (G : FVec Ideal S1x1024 .f32) (W : FVec Ideal S1x1024x2572 .f32) (R : Fin 16384) (j : Fin 768) :
    OUTV X G W (ix2 R j) = InProjSpec.proj X G W ⟨R.val / 4096, by omega⟩ ⟨R.val % 4096, by omega⟩ ⟨1792 + j.val, by omega⟩ := by
  pointwise [OUTV, proj_at]

end Cert.InProjReferenceIdeal.Val

end
-- ==== Proof.lean ====
module

public import proofs.«01_k».proof.Defs
public import proofs.«01_k».proof.Proof.Gen.Ffn.Frame
public import proofs.«01_k».proof.Proof.AttnFrame
public import proofs.«01_k».proof.Proof.AttnIdealFrame
public import proofs.«01_k».proof.Proof.AttnRef
public import proofs.«01_k».proof.Proof.AttnPre
public import proofs.«01_k».proof.Proof.FfnOut
public import proofs.«01_k».proof.Proof.FfnRef
public import proofs.«01_k».proof.Proof.Gen.MemKv.Frame
public import proofs.«01_k».proof.Proof.MemKvOut
public import proofs.«01_k».proof.Proof.MemKvRef
public import proofs.«01_k».proof.Proof.Gen.InProj.Frame
public import proofs.«01_k».proof.Proof.InProjOut
public import proofs.«01_k».proof.Proof.InProjRef
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.SL.Sem

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The two literals the ideal program names. -/
theorem preserves_Ffn_FfnIdeal : preserves_Ffn_FfnIdeal :=
  ⟨IdealRules.named_const.statement Cert.FfnIdeal.κ "gelu_a_cube" .f32 0xBDD2D3E8#32 _ rfl,
    IdealRules.named_const.statement Cert.FfnIdeal.κ "gelu_a" .f32 0xC0135761#32 _ rfl⟩

/-- The kernel's array is the reference's. -/
theorem ffn_tie (m : (ℓ : Loc Cert.FfnIdeal.nD Cert.FfnIdeal.τ Cert.FfnIdeal.sig) → Buf (Elt Ideal) ℓ) (c : Dev Cert.FfnIdeal.nD) :
    (Cert.FfnReferenceIdeal.Val.OUT (Cert.FfnIdeal.Val.aX m c) (Cert.FfnIdeal.Val.aG m c) (Cert.FfnIdeal.Val.aG2 m c) (Cert.FfnIdeal.Val.aW m c)
      (Cert.FfnIdeal.Val.aCW m c) (Cert.FfnIdeal.Val.aCB m c) (Cert.FfnIdeal.Val.aWD m c) : FVec Ideal Cert.FfnIdeal.S16384x1024 .f32)
      = (Cert.FfnIdeal.Gen.dats m 0 c).arrAt 7 (Cert.FfnIdeal.cfgs 0).N := by
  rw [Cert.FfnIdeal.Val.final m c]
  funext i
  idx_vars i
  exact Cert.FfnReferenceIdeal.Val.out_at _ _ _ _ _ _ _ _ _

theorem algebraic_FfnIdeal_FfnReferenceIdeal : algebraic_FfnIdeal_FfnReferenceIdeal := by
  pair_intro
  · run_from Cert.FfnIdeal.Gen.run_main m g
  · run_from Cert.FfnReferenceIdeal.Value.run (F := Ideal) m' g'
    refine (Cert.FfnReferenceIdeal.Val.res_eq m' c).trans (Eq.trans ?_ (ffn_tie m c))
    obtain ⟨h0, h1, h2, h3, h4, h5, h6⟩ := hagree c
    rw [h0, h1, h2, h3, h4, h5, h6]

theorem quiescent_AttnReferenceIdeal : quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

/-- The attention's array is the reference's, where every query and key is finite. -/
theorem attn_tie [Cert.Pre_finite.Facts] (m : (ℓ : Loc Cert.AttnIdeal.nD Cert.AttnIdeal.τ Cert.AttnIdeal.sig) → Buf (Elt Ideal) ℓ) (c : Dev Cert.AttnIdeal.nD)
    (hm : Pre_AttnIdeal_finite m) :
    (Cert.AttnReferenceIdeal.Val.OUT (Cert.AttnIdeal.Run.arQ m c) (Cert.AttnIdeal.Run.arK m c) (Cert.AttnIdeal.Run.arV m c) : FVec Ideal Cert.AttnIdeal.S16384x768 .bf16)
      = (Cert.AttnIdeal.Run.vals m 0 c).arrAt 4 (Cert.AttnIdeal.cfgs 0).N := by
  have hf := fun r l => Cert.Pre_finite.finite_at _ _ _ (hm c) r l
  rw [Cert.AttnIdeal.Run.final m c]
  funext i
  idx_vars i
  exact Cert.AttnReferenceIdeal.Val.out_at _ _ _ (fun r l => (hf r l).1) (fun r l => (hf r l).2) _ _

theorem algebraic_AttnIdeal_AttnReferenceIdeal [Cert.Pre_finite.Facts] : algebraic_AttnIdeal_AttnReferenceIdeal_pre_finite := by
  pair_intro
  · run_from Cert.AttnIdeal.Run.run_value m g
  · run_from Cert.AttnReferenceIdeal.Value.run (F := Ideal) m' g'
    refine (Cert.AttnReferenceIdeal.Val.res_eq m' c).trans (Eq.trans ?_ (attn_tie m c ‹_›))
    obtain ⟨h0, h1, h2⟩ := hagree c
    rw [h0, h1, h2]

theorem quiescent_InProjReferenceIdeal : quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-- The pooling channels the kernel leaves are the reference's, -/
theorem in_tieU (m : (ℓ : Loc Cert.InProjIdeal.nD Cert.InProjIdeal.τ Cert.InProjIdeal.sig) → Buf (Elt Ideal) ℓ) (c : Dev Cert.InProjIdeal.nD) :
    (Cert.InProjReferenceIdeal.Val.OUTU (Cert.InProjIdeal.Val.aX m c) (Cert.InProjIdeal.Val.aG m c) (Cert.InProjIdeal.Val.aW m c) : FVec Ideal Cert.InProjIdeal.S16384x256 .f32)
      = (Cert.InProjIdeal.Gen.dats m 0 c).arrAt 6 (Cert.InProjIdeal.cfgs 0).N := by
  rw [Cert.InProjIdeal.Val.u_final m c]
  funext i
  idx_vars i
  exact Cert.InProjReferenceIdeal.Val.outU_at _ _ _ _ _

/-- and so are the values. -/
theorem in_tieV (m : (ℓ : Loc Cert.InProjIdeal.nD Cert.InProjIdeal.τ Cert.InProjIdeal.sig) → Buf (Elt Ideal) ℓ) (c : Dev Cert.InProjIdeal.nD) :
    (Cert.InProjReferenceIdeal.Val.OUTV (Cert.InProjIdeal.Val.aX m c) (Cert.InProjIdeal.Val.aG m c) (Cert.InProjIdeal.Val.aW m c) : FVec Ideal Cert.InProjIdeal.S16384x768 .bf16)
      = (Cert.InProjIdeal.Gen.dats m 0 c).arrAt 9 (Cert.InProjIdeal.cfgs 0).N := by
  rw [Cert.InProjIdeal.Val.v_final m c]
  funext i
  idx_vars i
  exact Cert.InProjReferenceIdeal.Val.outV_at _ _ _ _ _

theorem algebraic_InProjIdeal_InProjReferenceIdeal : algebraic_InProjIdeal_InProjReferenceIdeal := by
  pair_intro
  · run_from Cert.InProjIdeal.Gen.run_main m g
    all_goals
      show StableHlo.after (Cert.InProjIdeal.Gen.hostOps0 ++ (Cert.InProjIdeal.Gen.hostOps0_1 ++ (Cert.InProjIdeal.Gen.hostOps0_2 ++ []))) (fun b => m (c, b)) _ = _
      simp only [Cert.InProjIdeal.Gen.hostOps0, Cert.InProjIdeal.Gen.hostOps0_1, Cert.InProjIdeal.Gen.hostOps0_2, List.append_nil, List.cons_append, List.nil_append]
      entry_read
      rfl
  · run_from Cert.InProjReferenceIdeal.Value.run (F := Ideal) m' g'
    · refine Eq.trans ?_ (in_tieU m c)
      unfold Cert.InProjReferenceIdeal.Val.OUTU Cert.InProjReferenceIdeal.Val.PROJ Cert.InProjReferenceIdeal.Val.RMS
      with_reducible rfl
    · refine Eq.trans ?_ (in_tieV m c)
      unfold Cert.InProjReferenceIdeal.Val.OUTV Cert.InProjReferenceIdeal.Val.PROJ Cert.InProjReferenceIdeal.Val.RMS
      with_reducible rfl

theorem quiescent_MemKvReferenceIdeal : quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

/-- The memory's keys and values the kernel leaves are the reference's. -/
theorem mem_tie (m : (ℓ : Loc Cert.MemKvIdeal.nD Cert.MemKvIdeal.τ Cert.MemKvIdeal.sig) → Buf (Elt Ideal) ℓ) (c : Dev Cert.MemKvIdeal.nD) :
    (Cert.MemKvReferenceIdeal.Val.OUT (Cert.MemKvIdeal.Val.aX m c) (Cert.MemKvIdeal.Val.aG m c) (Cert.MemKvIdeal.Val.aW m c) : FVec Ideal Cert.MemKvIdeal.S1024x2048 .bf16)
      = (Cert.MemKvIdeal.Gen.dats m 0 c).arrAt 3 (Cert.MemKvIdeal.cfgs 0).N := by
  rw [Cert.MemKvIdeal.Val.final m c]
  funext i
  idx_vars i
  exact Cert.MemKvReferenceIdeal.Val.out_at _ _ _ _ _

theorem algebraic_MemKvIdeal_MemKvReferenceIdeal : algebraic_MemKvIdeal_MemKvReferenceIdeal := by
  pair_intro
  · run_from Cert.MemKvIdeal.Gen.run_main m g
  · run_from Cert.MemKvReferenceIdeal.Value.run (F := Ideal) m' g'
    refine Eq.trans ?_ (mem_tie m c)
    unfold Cert.MemKvReferenceIdeal.Val.OUT Cert.MemKvReferenceIdeal.Val.RMS
    with_reducible rfl

theorem claim : Cert.Claim :=
  haveI := Cert.Pre_finite.facts
  ⟨Cert.Ffn.Gen.facts, Cert.FfnIdeal.Gen.facts, Cert.FfnReferenceIdeal.Gen.facts,
  Cert.Attn.Gen.facts, Cert.AttnIdeal.Gen.facts, Cert.AttnReferenceIdeal.Gen.facts,
  Cert.InProj.Gen.facts, Cert.InProjIdeal.Gen.facts, Cert.InProjReferenceIdeal.Gen.facts,
  Cert.MemKv.Gen.facts, Cert.MemKvIdeal.Gen.facts, Cert.MemKvReferenceIdeal.Gen.facts, Cert.Pre_finite.facts,
  fun m ρ _ => Cert.Ffn.Gen.frame m ρ, fun m ρ _ => Cert.FfnIdeal.Gen.frame m ρ, quiescent_FfnReferenceIdeal,
  fun m ρ _ => Cert.Attn.Run.frame_run m ρ, fun m ρ _ => Cert.AttnIdeal.Run.frame_run m ρ, fun m ρ _ => Cert.AttnIdeal.Run.frame_run m ρ,
  quiescent_AttnReferenceIdeal, fun m ρ _ => quiescent_AttnReferenceIdeal m ρ trivial,
  fun m ρ _ => Cert.InProj.Gen.frame m ρ, fun m ρ _ => Cert.InProjIdeal.Gen.frame m ρ, quiescent_InProjReferenceIdeal,
  fun m ρ _ => Cert.MemKv.Gen.frame m ρ, fun m ρ _ => Cert.MemKvIdeal.Gen.frame m ρ, quiescent_MemKvReferenceIdeal, preserves_Ffn_FfnIdeal,
  algebraic_FfnIdeal_FfnReferenceIdeal, trivial, algebraic_AttnIdeal_AttnReferenceIdeal,
  trivial, algebraic_InProjIdeal_InProjReferenceIdeal, trivial, algebraic_MemKvIdeal_MemKvReferenceIdeal⟩

end Cert.Proof

end
